-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 4096]⟩ ⟨2, ![4096, 4096]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 2048]⟩ ⟨2, ![4096, 8192]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v10) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x4096 : Shape := ⟨2, ![1024, 4096]⟩
abbrev S4096x8192 : Shape := ⟨2, ![4096, 8192]⟩
abbrev S1 : Shape := ⟨1, ![1]⟩
abbrev S4096x2048 : Shape := ⟨2, ![4096, 2048]⟩
abbrev S2x512x4096 : Shape := ⟨3, ![2, 512, 4096]⟩
abbrev S2x512x2048 : Shape := ⟨3, ![2, 512, 2048]⟩
abbrev S3x256x2048 : Shape := ⟨3, ![3, 256, 2048]⟩
abbrev S4 : Shape := ⟨1, ![4]⟩
abbrev S2 : Shape := ⟨1, ![2]⟩
abbrev S3 : Shape := ⟨1, ![3]⟩
abbrev S6 : Shape := ⟨1, ![6]⟩
abbrev S6x256x4096 : Shape := ⟨3, ![6, 256, 4096]⟩
abbrev S_ : Shape := ⟨0, ![]⟩
abbrev S1x256x4096 : Shape := ⟨3, ![1, 256, 4096]⟩
abbrev S256x4096 : Shape := ⟨2, ![256, 4096]⟩
abbrev S1x512x2048 : Shape := ⟨3, ![1, 512, 2048]⟩
abbrev S512x2048 : Shape := ⟨2, ![512, 2048]⟩
abbrev S512x512 : Shape := ⟨2, ![512, 512]⟩
abbrev S256x2048 : Shape := ⟨2, ![256, 2048]⟩
abbrev S1x256x2048 : Shape := ⟨3, ![1, 256, 2048]⟩

abbrev nBuf : Space → Nat
  | .hbm => 5
  | .vmem => 7
  | .smem => 2
  | _ => 0

abbrev bufTy : (tb : Table) → Fin (tcTables nBuf tb) → BufTy
  | .hbm, ⟨0, _⟩ => ⟨S1024x4096, .f32⟩
  | .hbm, ⟨1, _⟩ => ⟨S4096x8192, .f32⟩
  | .hbm, ⟨2, _⟩ => ⟨S1, .f32⟩
  | .hbm, ⟨3, _⟩ => ⟨S1, .f32⟩
  | .hbm, ⟨4, _⟩ => ⟨S4096x2048, .f32⟩
  | .local _ .vmem, ⟨0, _⟩ => ⟨S2x512x4096, .f32⟩
  | .local _ .vmem, ⟨1, _⟩ => ⟨S1024x4096, .fp8e5m2⟩
  | .local _ .vmem, ⟨2, _⟩ => ⟨S4096x2048, .fp8e5m2⟩
  | .local _ .vmem, ⟨3, _⟩ => ⟨S2x512x2048, .f32⟩
  | .local _ .vmem, ⟨4, _⟩ => ⟨S3x256x2048, .f32⟩
  | .local _ .vmem, ⟨5, _⟩ => ⟨S6x256x4096, .fp8e5m2⟩
  | .local _ .vmem, ⟨6, _⟩ => ⟨S6x256x4096, .fp8e5m2⟩
  | .local _ .smem, ⟨0, _⟩ => ⟨S1, .f32⟩
  | .local _ .smem, ⟨1, _⟩ => ⟨S1, .f32⟩
  | _, _ => ⟨S1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | .smem, ⟨1, _⟩ => true
  | _, _ => false

abbrev semScoped : Fin 1 → Bool
  | ⟨0, _⟩ => false
  | _ => false

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  (ofTc nBuf bufTy 1 35 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch12 : Ref sig .tc := ⟨.vmem, 5, rfl⟩
abbrev cc0_scratch13 : Ref sig .tc := ⟨.vmem, 6, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_25 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_24 : BitVec 32 := 1#32
  let v29 : BitVec 32 := Scalar.muli v5 c1_i32_24
  let v30 : BitVec 32 := Scalar.addi c0_i32_25 v29
  v30.toNat
def k0_dev2 (d0 : Dev nD) : Nat :=
  let c0_i32_28 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_27 : BitVec 32 := 1#32
  let v31 : BitVec 32 := Scalar.muli v7 c1_i32_27
  let v32 : BitVec 32 := Scalar.addi c0_i32_28 v31
  v32.toNat
def k0_dev3 (d0 : Dev nD) : Nat :=
  let c0_i32_46 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_45 : BitVec 32 := 1#32
  let v47 : BitVec 32 := Scalar.muli v7 c1_i32_45
  let v48 : BitVec 32 := Scalar.addi c0_i32_46 v47
  v48.toNat
def k0_dev4 (d0 : Dev nD) : Nat :=
  let c0_i32_64 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_63 : BitVec 32 := 1#32
  let v67 : BitVec 32 := Scalar.muli v5 c1_i32_63
  let v68 : BitVec 32 := Scalar.addi c0_i32_64 v67
  v68.toNat
def k0_dev5 (d0 : Dev nD) : Nat :=
  let c0_i32_83 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_82 : BitVec 32 := 1#32
  let v87 : BitVec 32 := Scalar.muli v7 c1_i32_82
  let v88 : BitVec 32 := Scalar.addi c0_i32_83 v87
  v88.toNat
def k0_dev6 (d0 : Dev nD) : Nat :=
  let c0_i32_102 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_101 : BitVec 32 := 1#32
  let v107 : BitVec 32 := Scalar.muli v5 c1_i32_101
  let v108 : BitVec 32 := Scalar.addi c0_i32_102 v107
  v108.toNat
def k0_off1 (d0 : Dev nD) : Fin 2 → Nat :=
  let c0_i32_111 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2048_i32 : BitVec 32 := 2048#32
  let v116 : BitVec 32 := Scalar.muli v2 c2048_i32
  ![0, v116.toNat]
def k0_off2 (d0 : Dev nD) : Fin 2 → Nat :=
  let c512_i32_117 : BitVec 32 := 512#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2048_i32_112 : BitVec 32 := 2048#32
  let v122 : BitVec 32 := Scalar.muli v2 c2048_i32_112
  ![512, v122.toNat]
def k0_off3 (d0 : Dev nD) : Fin 2 → Nat :=
  let c1024_i32 : BitVec 32 := 1024#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2048_i32_128 : BitVec 32 := 2048#32
  let v139 : BitVec 32 := Scalar.muli v2 c2048_i32_128
  ![1024, v139.toNat]
def k0_off4 (d0 : Dev nD) : Fin 2 → Nat :=
  let c1536_i32 : BitVec 32 := 1536#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2048_i32_154 : BitVec 32 := 2048#32
  let v166 : BitVec 32 := Scalar.muli v2 c2048_i32_154
  ![1536, v166.toNat]
def k0_off5 (d0 : Dev nD) : Fin 2 → Nat :=
  let c2048_i32_191 : BitVec 32 := 2048#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2048_i32_186 : BitVec 32 := 2048#32
  let v199 : BitVec 32 := Scalar.muli v2 c2048_i32_186
  ![2048, v199.toNat]
def k0_off6 (d0 : Dev nD) : Fin 2 → Nat :=
  let c2560_i32 : BitVec 32 := 2560#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2048_i32_219 : BitVec 32 := 2048#32
  let v232 : BitVec 32 := Scalar.muli v2 c2048_i32_219
  ![2560, v232.toNat]
def k0_off7 (d0 : Dev nD) : Fin 2 → Nat :=
  let c3072_i32 : BitVec 32 := 3072#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2048_i32_251 : BitVec 32 := 2048#32
  let v265 : BitVec 32 := Scalar.muli v2 c2048_i32_251
  ![3072, v265.toNat]
def k0_off8 (d0 : Dev nD) : Fin 2 → Nat :=
  let c3584_i32 : BitVec 32 := 3584#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2048_i32_283 : BitVec 32 := 2048#32
  let v298 : BitVec 32 := Scalar.muli v2 c2048_i32_283
  ![3584, v298.toNat]
def k0_dev7 (d0 : Dev nD) : Nat :=
  let c0_i32_382 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_381 : BitVec 32 := 1#32
  let v386 : BitVec 32 := Scalar.muli v7 c1_i32_381
  let v387 : BitVec 32 := Scalar.addi c0_i32_382 v386
  v387.toNat
def k0_dev8 (d0 : Dev nD) : Nat :=
  let c0_i32_409 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_408 : BitVec 32 := 1#32
  let v408 : BitVec 32 := Scalar.muli v5 c1_i32_408
  let v409 : BitVec 32 := Scalar.addi c0_i32_409 v408
  v409.toNat
def k0_off9 (d0 : Dev nD) (c0_i32_425 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_424 : BitVec 32 := 1024#32
  let v435 : BitVec 32 := Scalar.muli v2 c1024_i32_424
  let v436 : BitVec 32 := Scalar.addi v435 c0_i32_425
  let c0_i32_428 : BitVec 32 := 0#32
  ![v436.toNat, 0]
def k0_off10 (d0 : Dev nD) (c1_i32_449 : BitVec 32) (c0_i32_466 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_448 : BitVec 32 := 4#32
  let v466 : BitVec 32 := Scalar.addi v2 c4_i32_448
  let v467 : BitVec 32 := Scalar.subi v466 c1_i32_449
  let c4_i32_450 : BitVec 32 := 4#32
  let v468 : BitVec 32 := Scalar.remsi v467 c4_i32_450
  let c1024_i32_464 : BitVec 32 := 1024#32
  let v488 : BitVec 32 := Scalar.muli v468 c1024_i32_464
  let c0_i32_465 : BitVec 32 := 0#32
  let v489 : BitVec 32 := Scalar.addi v488 c0_i32_465
  let v490 : BitVec 32 := Scalar.addi v489 c0_i32_466
  let c0_i32_469 : BitVec 32 := 0#32
  ![v490.toNat, 0]
def k0_off11 (d0 : Dev nD) (c1_i32_472 : BitVec 32) (c0_i32_489 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v496 : BitVec 32 := Scalar.addi v2 c1_i32_472
  let c4_i32_473 : BitVec 32 := 4#32
  let v497 : BitVec 32 := Scalar.remsi v496 c4_i32_473
  let c1024_i32_487 : BitVec 32 := 1024#32
  let v517 : BitVec 32 := Scalar.muli v497 c1024_i32_487
  let c512_i32_488 : BitVec 32 := 512#32
  let v518 : BitVec 32 := Scalar.addi v517 c512_i32_488
  let v519 : BitVec 32 := Scalar.addi v518 c0_i32_489
  let c0_i32_492 : BitVec 32 := 0#32
  ![v519.toNat, 0]
def k0_dev9 (d0 : Dev nD) : Nat :=
  let c0_i32_517 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_516 : BitVec 32 := 1#32
  let v537 : BitVec 32 := Scalar.muli v7 c1_i32_516
  let v538 : BitVec 32 := Scalar.addi c0_i32_517 v537
  v538.toNat
def k0_dev10 (d0 : Dev nD) : Nat :=
  let c0_i32_544 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_543 : BitVec 32 := 1#32
  let v559 : BitVec 32 := Scalar.muli v5 c1_i32_543
  let v560 : BitVec 32 := Scalar.addi c0_i32_544 v559
  v560.toNat
def k0_dev11 (d0 : Dev nD) : Nat :=
  let c0_i32_624 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_623 : BitVec 32 := 1#32
  let v647 : BitVec 32 := Scalar.muli v7 c1_i32_623
  let v648 : BitVec 32 := Scalar.addi c0_i32_624 v647
  v648.toNat
def k0_dev12 (d0 : Dev nD) : Nat :=
  let c0_i32_653 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_652 : BitVec 32 := 1#32
  let v671 : BitVec 32 := Scalar.muli v5 c1_i32_652
  let v672 : BitVec 32 := Scalar.addi c0_i32_653 v671
  v672.toNat
def k0_dev13 (d0 : Dev nD) : Nat :=
  let c0_i32_738 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_737 : BitVec 32 := 1#32
  let v764 : BitVec 32 := Scalar.muli v7 c1_i32_737
  let v765 : BitVec 32 := Scalar.addi c0_i32_738 v764
  v765.toNat
def k0_dev14 (d0 : Dev nD) : Nat :=
  let c0_i32_767 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_766 : BitVec 32 := 1#32
  let v788 : BitVec 32 := Scalar.muli v5 c1_i32_766
  let v789 : BitVec 32 := Scalar.addi c0_i32_767 v788
  v789.toNat
abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S1 : Shape := ⟨1, ![1]⟩
abbrev S1x1 : Shape := ⟨2, ![1, 1]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S1, .f32⟩
  | .hbm, ⟨3, _⟩ => ⟨S1, .f32⟩
  | .hbm, ⟨4, _⟩ => ⟨S4096x8192, .f32⟩
  | .hbm, ⟨5, _⟩ => ⟨S1, .f32⟩
  | .hbm, ⟨6, _⟩ => ⟨S1x1, .f32⟩
  | .hbm, ⟨7, _⟩ => ⟨S4096x8192, .f32⟩
  | .hbm, ⟨8, _⟩ => ⟨S4096x8192, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S4096x8192, .f32⟩
  | .hbm, ⟨13, _⟩ => ⟨S4096x8192, .f32⟩
  | .hbm, ⟨14, _⟩ => ⟨S_, .f32⟩
  | .hbm, ⟨15, _⟩ => ⟨S4096x8192, .f32⟩
  | .hbm, ⟨16, _⟩ => ⟨S4096x8192, .f32⟩
  | .hbm, ⟨17, _⟩ => ⟨S4096x8192, .f32⟩
  | .hbm, ⟨18, _⟩ => ⟨S4096x8192, .f32⟩
  | .hbm, ⟨19, _⟩ => ⟨S_, .f32⟩
  | .hbm, ⟨20, _⟩ => ⟨S4096x8192, .f32⟩
  | .hbm, ⟨21, _⟩ => ⟨S4096x8192, .f32⟩
  | .hbm, ⟨22, _⟩ => ⟨S4096x8192, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_cst_0 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩

abbrev nD : Nat := 1
abbrev τ : Topo := Topo.v7x

variable {F : FTy → Type} [FloatOps F]
-- ==== Proof.Step.lean ====
/-
The single steps of a core's run, over memory held window by window.

A window is a memref — a slice of a buffer, possibly with its unit axis dropped — and the core holds it as
`owns c window q X`: at the share `q`, reading `X`. Each theorem here takes the windows one operation touches
and gives them back with the contents the operation leaves: a load of a window or of a part of one, a store
over a window, the issue of a copy inside the device (what arrives is again stated window by window), and the
re-reading of a window when its unit axis is dropped.
-/
module

public import Idealize.ShloMosaic.Lib.Pipeline.Launch
public import Idealize.ShloMosaic.Lib.Pipeline.Kit
public import Idealize.ShloMosaic.Lib.Tactic
public import Idealize.ShloMosaic.Lib.MemrefSat
public import Idealize.ShloMosaic.Lib.Transfers

@[expose] public section

noncomputable section

namespace Cert.Step

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Transfers (Flight Flight_mono)

variable {nD : Nat} {τ : Topo} {sig : RefSig} {Ix : Type} [DecidableEq Ix] {Val : EltTy → Type}
variable {Name : Type} [DecidableEq Name] {U : Type} [URA U] {Lvl : Type} [Preorder Lvl] {Λ : Labels}

local notation "𝕄" => MT nD τ sig Ix Val Name U Lvl

/-! ## Windows with the unit axis dropped -/

section Shapes

variable {s s' : Shape} {α : Type}

/-- Contents of shape `s`, read along the same order of elements at shape `s'`. -/
def drop (h : s'.numel = s.numel) (X : s.Idx → α) : s'.Idx → α := fun i => X (Shape.reshapeEquiv h i)

theorem drop_drop (h : s'.numel = s.numel) (h' : s.numel = s'.numel) (X : s.Idx → α) : drop h' (drop h X) = X := by
  funext i
  unfold drop
  rw [Shape.reshapeEquiv_reshapeEquiv, Shape.reshapeEquiv_self]

end Shapes

variable {c : Thread nD τ} {sp sp' : Space} {s s' : Shape} {e : EltTy}

/-- A window held at `X` is the window without its unit axis held at `X` re-read. -/
theorem owns_squeeze (m : Memref sig c.2.kind sp s e) (h : s.Squeezes s') (q : PosShare TreeShare) (X : s.Idx → Val e) :
    (owns c m q X : sProp 𝕄) ⊢ owns c (m.squeeze s' h) q (drop h.numel_eq X) := by
  unfold owns
  iintro ⟨%f, %hf, H⟩
  iexists f
  isplitr
  · ipureintro; subst hf; rfl
  · simp only [Memref.view_squeeze, View.set_reshape]; iexact H

/-- And back. -/
theorem owns_unsqueeze (m : Memref sig c.2.kind sp s e) (h : s.Squeezes s') (q : PosShare TreeShare) (X : s'.Idx → Val e) :
    (owns c (m.squeeze s' h) q X : sProp 𝕄) ⊢ owns c m q (drop h.numel_eq.symm X) := by
  unfold owns
  iintro ⟨%f, %hf, H⟩
  iexists f
  isplitr
  · ipureintro; subst hf
    exact (drop_drop h.numel_eq h.numel_eq.symm (m.view.read Val f)).symm
  · simp only [Memref.view_squeeze, View.set_reshape]; iexact H

/-! ## Loads and stores -/

section Memory

variable {defs : Defs nD τ sig Val Λ} {𝒱 : Variants} {bd : Option 𝒱.V} {E : Set Name} {α : Type} {Q : α → sProp (MT nD τ sig Ix Val Name U Lvl)}
variable {cs : CoreSpace}

/-- A load of exactly the window held. -/
theorem load_window {m : Memref sig c.2.kind cs s e} {r : Rect s} {hr : ∀ a, r.stride a = 1} {hl : m.view.LoadsAt r.toLoadRect}
    {k : (r.shape.Idx → Val e) → Prog (TpuEff nD τ sig Val Λ c.2) α} {q : PosShare TreeShare} {X : r.shape.Idx → Val e} :
    (owns c (m.slice r hr) q X : sProp 𝕄)
      ⊢ iprop((owns c (m.slice r hr) q X -∗ wp frame (wpE defs 𝒱 c bd) E (k X) Q)
          -∗ wp frame (wpE defs 𝒱 c bd) E (.op (.load m r.toLoadRect hl) k) Q) := by
  unfold owns
  iintro ⟨%f, %hf, H⟩ Hk
  iapply (wp_load_rect 𝒱 c bd E (m := m) (r := r) (f := f) (S := (m.slice r hr).view.set) (by exact subset_rfl)) $$ [H]
  · iexact H
  iintro H
  have hf' : (m.access r).read Val f = X := hf
  rw [hf']
  iapply Hk
  iexists f
  isplitr
  · ipureintro; exact hf
  · iexact H

/-- A load of a part of the memref held. -/
theorem load_part {m : Memref sig c.2.kind cs s e} {r : Rect s} {hl : m.view.LoadsAt r.toLoadRect}
    {k : (r.shape.Idx → Val e) → Prog (TpuEff nD τ sig Val Λ c.2) α} {q : PosShare TreeShare} {X : s.Idx → Val e} :
    (owns c m q X : sProp 𝕄)
      ⊢ iprop((owns c m q X -∗ wp frame (wpE defs 𝒱 c bd) E (k fun i => X (r.emb i)) Q)
          -∗ wp frame (wpE defs 𝒱 c bd) E (.op (.load m r.toLoadRect hl) k) Q) := by
  unfold owns
  iintro ⟨%f, %hf, H⟩ Hk
  iapply (wp_load_rect 𝒱 c bd E (m := m) (r := r) (f := f) (S := m.view.set) (m.view.set_slice_subset r)) $$ [H]
  · iexact H
  iintro H
  have hf' : (m.access r).read Val f = fun i => X (r.emb i) := by subst hf; rfl
  rw [hf']
  iapply Hk
  iexists f
  isplitr
  · ipureintro; exact hf
  · iexact H

/-- A store over exactly the window held. -/
theorem store_window {m : Memref sig c.2.kind cs s e} {r : Rect s} {hr : ∀ a, r.stride a = 1} {w : r.shape.Idx → Val e}
    {hx : (m.access r).Stores Finset.univ} {hm : Finset.univ = Finset.univ ∨ ∀ a, r.stride a = 1}
    {k : PUnit → Prog (TpuEff nD τ sig Val Λ c.2) α} {Y : r.shape.Idx → Val e} :
    (owns c (m.slice r hr) fullShare Y : sProp 𝕄)
      ⊢ iprop((owns c (m.slice r hr) fullShare w -∗ wp frame (wpE defs 𝒱 c bd) E (k ⟨⟩) Q)
          -∗ wp frame (wpE defs 𝒱 c bd) E (.op (.store m r w Finset.univ hx hm) k) Q) := by
  unfold owns
  iintro ⟨%f, %hf, H⟩ Hk
  iapply (wp_store 𝒱 c bd E (m := m) (r := r) (f := f) (S := (m.slice r hr).view.set) (by exact subset_rfl)) $$ [H]
  · iexact H
  iintro H
  iapply Hk
  iexists _
  isplitr
  · ipureintro; exact View.read_write_univ (v := m.access r) f w
  · iexact H

/-- The one word of a scalar buffer, held at any share. -/
theorem load_word {m : Memref sig c.2.kind .smem s e} {r : Rect s} {hw : (m.access r).Loads} {x : r.shape.Idx}
    {k : Val e → Prog (TpuEff nD τ sig Val Λ c.2) α} {q : PosShare TreeShare} {X : s.Idx → Val e} :
    (owns c m q X : sProp 𝕄)
      ⊢ iprop((owns c m q X -∗ wp frame (wpE defs 𝒱 c bd) E (k (X (r.emb x))) Q)
          -∗ wp frame (wpE defs 𝒱 c bd) E (smemLoadElt m r hw x k) Q) := by
  unfold owns
  iintro ⟨%f, %hf, H⟩ Hk
  iapply (wp_smemLoadElt 𝒱 c bd E (m := m) (r := r) (f := f) (S := m.view.set) (m.view.set_slice_subset r)) $$ [H]
  · iexact H
  iintro H
  have hf' : (m.access r).read Val f x = X (r.emb x) := by subst hf; rfl
  rw [hf']
  iapply Hk
  iexists f
  isplitr
  · ipureintro; exact hf
  · iexact H

end Memory

/-! ## Copies inside the device -/

section Copies

variable (EC : UEmb Counters (MT nD τ sig Ix Val Name U Lvl))

/-- A copy in flight may carry any resource along until it is waited for. -/
theorem flight_frame {sm : SemLoc sig} {ι : Ix} {N : ℕ} {D R : sProp 𝕄} :
    iprop(Flight EC c sm ι N D ∗ R) ⊢ (Flight EC c sm ι N iprop(D ∗ R) : sProp 𝕄) := by
  unfold Flight
  iintro ⟨⟨⟨%R₀, HR₀, %hcap, %hpeek⟩, Hcred⟩, HR⟩
  isplitl [HR₀ HR]
  · iexists iprop(R₀ ∗ R)
    isplitl [HR₀ HR]
    · isplitl [HR₀] <;> iassumption
    isplit
    · ipureintro
      intro K
      refine BIBase.Entails.trans ?_ (hcap K)
      iintro ⟨⟨HR₀, HR⟩, HK⟩
      isplitl [HR₀]; · iexact HR₀
      iintro ⟨Hv, HD⟩
      iapply HK
      isplitl [Hv]; · iexact Hv
      isplitl [HD] <;> iassumption
    · ipureintro
      intro K
      refine BIBase.Entails.trans ?_ (hpeek K)
      iintro ⟨⟨HR₀, HR⟩, HK⟩
      isplitl [HR₀]; · iexact HR₀
      iintro HR₀
      iapply HK
      isplitl [HR₀] <;> iassumption
  · iexact Hcred

variable {defs : Defs nD τ sig Val Λ} {𝒱 : Variants} {bd : Option 𝒱.V} {α : Type} {Q : α → sProp (MT nD τ sig Ix Val Name U Lvl)}
variable [Infinite Name] [EC.LandsIn (upEmb : UEmb _ (MT nD τ sig Ix Val Name U Lvl))]

/-- The issue of a copy between two windows held. -/
theorem copy_window {src : Memref sig c.2.kind sp s e} {dst : Memref sig c.2.kind sp' s e} {sm : SemLoc sig}
    {hsrc : src.view.WordExact} {hdst : dst.view.WordExact} {hsem : DmaTarget.Typed (nD := nD) sp sm (.here dst)}
    {k : PUnit → Prog (TpuEff nD τ sig Val Λ c.2) α} {q : PosShare TreeShare} {X Y : s.Idx → Val e}
    (ι : Ix) (N : ℕ) (hN : dst.view.amount sm = N) (hN0 : 0 < N) :
    (iprop(owns c src q X ∗ owns c dst fullShare Y ∗ semVal (c, sm) 0) : sProp 𝕄)
      ⊢ iprop((Flight EC c sm ι N iprop(owns c dst fullShare X ∗ owns c src q X)
              -∗ wp frame (wpE defs 𝒱 c bd) Set.univ (k ⟨⟩) Q)
          -∗ wp frame (wpE defs 𝒱 c bd) Set.univ (.op (.enqueueDma src (.here dst) sm hsrc hdst hsem) k) Q) := by
  iintro ⟨Hs, Hd, Hv⟩ Hk
  ihave Hs' := (show owns c src q X ⊢ iprop(∃ f, ⌜src.view.read Val f = X⌝ ∗ (src.view.loc c ↦[src.view.set]{q} f)) from .rfl) $$ Hs
  ihave Hd' := (show owns c dst fullShare Y ⊢ iprop(∃ f, ⌜dst.view.read Val f = Y⌝ ∗ (dst.view.loc c ↦[dst.view.set]{fullShare} f)) from .rfl) $$ Hd
  icases Hs' with ⟨%fs, %hfs, Hs⟩
  icases Hd' with ⟨%fd, -, Hd⟩
  iapply (Transfers.wp_dmaLocal EC 𝒱 c bd (fs := fs) (fd := fd) (Sd := dst.view.set) ι N hN hN0 subset_rfl) $$ [Hs Hd Hv]
  · isplitl [Hs]; · iexact Hs
    isplitl [Hd]; · iexact Hd
    iexact Hv
  iintro Hf
  iapply Hk
  iapply (Flight_mono EC c ?_) $$ Hf
  unfold owns
  iintro ⟨Hd, Hs⟩
  isplitl [Hd]
  · iexists _
    isplitr
    · ipureintro
      exact (View.read_write_univ (v := dst.view) fd _).trans hfs
    · iexact Hd
  · iexists fs
    isplitr
    · ipureintro; exact hfs
    · iexact Hs

/-- The issue of a copy out of a part of a memref held: the whole memref comes back with the copy. -/
theorem copy_part {m : Memref sig c.2.kind sp s' e} {r : Rect s'} {hr : ∀ a, r.stride a = 1}
    {dst : Memref sig c.2.kind sp' r.shape e} {sm : SemLoc sig}
    {hsrc : (m.slice r hr).view.WordExact} {hdst : dst.view.WordExact} {hsem : DmaTarget.Typed (nD := nD) sp sm (.here dst)}
    {k : PUnit → Prog (TpuEff nD τ sig Val Λ c.2) α} {q : PosShare TreeShare} {X : s'.Idx → Val e} {Y : r.shape.Idx → Val e}
    (ι : Ix) (N : ℕ) (hN : dst.view.amount sm = N) (hN0 : 0 < N) :
    (iprop(owns c m q X ∗ owns c dst fullShare Y ∗ semVal (c, sm) 0) : sProp 𝕄)
      ⊢ iprop((Flight EC c sm ι N iprop(owns c dst fullShare (fun i => X (r.emb i)) ∗ owns c m q X)
              -∗ wp frame (wpE defs 𝒱 c bd) Set.univ (k ⟨⟩) Q)
          -∗ wp frame (wpE defs 𝒱 c bd) Set.univ (.op (.enqueueDma (m.slice r hr) (.here dst) sm hsrc hdst hsem) k) Q) := by
  iintro ⟨Hs, Hd, Hv⟩ Hk
  ihave Hs' := (owns_slice_split c m q r hr X) $$ Hs
  icases Hs' with ⟨Hs, ⟨%f, %hf, Hrest⟩⟩
  iapply (copy_window EC ι N hN hN0) $$ [Hs Hd Hv]
  · isplitl [Hs]; · iexact Hs
    isplitl [Hd]; · iexact Hd
    iexact Hv
  iintro Hf
  iapply Hk
  ihave Hf' := (flight_frame EC (c := c) (R := iprop(m.view.loc c ↦[m.view.set \ (m.slice r hr).view.set]{q} f))) $$ [Hf Hrest]
  · isplitl [Hf] <;> iassumption
  iapply (Flight_mono EC c ?_) $$ Hf'
  iintro ⟨⟨Hd, Hs⟩, Hrest⟩
  isplitl [Hd]; · iexact Hd
  have hX : r.overlay (m.view.read Val f) (fun i => X (r.emb i)) = X := by
    subst hf
    funext j
    by_cases hj : j ∈ r.set
    · obtain ⟨i, rfl⟩ := r.exists_idx_of_mem hj
      exact Rect.overlay_emb _ _ _ i
    · exact Rect.overlay_of_not_mem _ _ _ hj
  ihave H := (owns_slice_join c m q r hr (fun i => X (r.emb i)) f) $$ [Hs Hrest]
  · isplitl [Hs] <;> iassumption
  rw [hX]
  iexact H

end Copies

end Cert.Step

end
-- ==== Proof.Ring.lean ====
/-
The two rings of the kernel as a protocol of semaphore cells.

Every device casts its 1024 rows of `x` to 8 bits in four quarters of 256 rows. Quarters 0 and 1 travel around
the mesh to the right (direction `false`), quarters 2 and 3 to the left (direction `true`): six transfers a
direction, the first two of the device's own quarters, the other four forwarding what arrived two transfers
before. Transfer `j` of direction `b` lands in slot `j` of the neighbour's receive buffer of that direction.

Cells, per device: the barrier, whose two units hand over the neighbours' receive slots; for each direction and
transfer a send cell, which hands back the share of the source lent to the transfer, and a receive cell, which
hands over the slot with its new contents. All of them have one round.
-/
module

public import proofs.«01_k».proof.Proof.Step
public import Idealize.ShloMosaic.Lib.Rounds
public import proofs.«01_k».proof.Proof.Gen.KernelIdeal
public import proofs.«01_k».proof.Proof.Gen.KernelIdeal.Skeleton
public import proofs.«01_k».proof.Proof.Gen.KernelIdeal.Launch

@[expose] public section

noncomputable section

namespace Cert.Ring

open Cert.KernelIdeal Cert.KernelIdeal.Gen Cert.Step

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight)

variable {F : FTy → Type} [FloatOps F]

/-! ## Ghost state: the staging pipeline's rounds, the rings' rounds, and the counters of the local copies -/

abbrev UB : Type := URounds (GSem nD τ sig) Bool
abbrev UU : Type := UR sig nD τ × (UB × Counters)

local notation "𝕄" => MT nD τ sig Unit (Elt F) ℕ UU ℕ

abbrev EP : Emb (UR sig nD τ) (MT nD τ sig Unit (Elt F) ℕ UU ℕ) := embL

def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb

instance ER_landsIn : (ER (F := F)).LandsIn (upEmb : UEmb _ (MT nD τ sig Unit (Elt F) ℕ UU ℕ)) := by unfold ER; infer_instance

abbrev EC : UEmb Counters (MT nD τ sig Unit (Elt F) ℕ UU ℕ) := countersEmb

/-! ## Neighbours -/

/-- The device `k` places to the right. -/
def fw (c : Dev nD) (k : ℕ) : Dev nD := ⟨(c.val + k) % 4, Nat.mod_lt _ (by decide)⟩

/-- The neighbour a direction's transfers go to: the right one for `false`, the left one for `true`. -/
def nb (b : Bool) (c : Dev nD) : Dev nD := if b then fw c 3 else fw c 1

/-- The device whose rows arrive after `k` steps of direction `b`. -/
def orig (b : Bool) (c : Dev nD) (k : ℕ) : Dev nD := if b then fw c k else fw c (3 * k)

theorem nb_nb (b : Bool) (c : Dev nD) : nb b (nb (!b) c) = c := by revert b c; decide

theorem orig_zero (b : Bool) (c : Dev nD) : orig b c 0 = c := by revert b c; decide

theorem orig_nb (b : Bool) (c : Dev nD) (k : ℕ) : orig b (nb b c) (k + 1) = orig b c k := by
  have h := c.isLt
  cases b
  · refine Fin.ext ?_; simp only [orig, nb, fw, Bool.false_eq_true, if_false]; omega
  · refine Fin.ext ?_; simp only [orig, nb, fw, if_true]; omega

/-! ## The memrefs -/

abbrev xM : Memref sig .tc .hbm S1024x4096 .f32 := Memref.whole main_arg0
abbrev wM : Memref sig .tc .hbm S4096x8192 .f32 := Memref.whole main_arg1
abbrev outM : Memref sig .tc .hbm S4096x2048 .f32 := Memref.whole main_v1
abbrev sxM : Memref sig .tc .smem S1 .f32 := Memref.whole cc0_stg0_0
abbrev swM : Memref sig .tc .smem S1 .f32 := Memref.whole cc0_stg1_0
abbrev stM : Memref sig .tc .vmem S2x512x4096 .f32 := Memref.whole cc0_scratch0
abbrev x8M : Memref sig .tc .vmem S1024x4096 .fp8e5m2 := Memref.whole cc0_scratch1
abbrev w8M : Memref sig .tc .vmem S4096x2048 .fp8e5m2 := Memref.whole cc0_scratch2
abbrev acM : Memref sig .tc .vmem S2x512x2048 .f32 := Memref.whole cc0_scratch3
abbrev osM : Memref sig .tc .vmem S3x256x2048 .f32 := Memref.whole cc0_scratch4
/-- A direction's six receive slots. -/
abbrev rgM : Bool → Memref sig .tc .vmem S6x256x4096 .fp8e5m2
  | false => Memref.whole cc0_scratch12
  | true => Memref.whole cc0_scratch13

theorem x8_inb {r : ℕ} (h : r ≤ 768) : ∀ a : Fin 2, ![r, 0] a + S256x4096.size a ≤ S1024x4096.size a := by
  intro a; fin_cases a
  · show r + 256 ≤ 1024; omega
  · show 0 + 4096 ≤ 4096; omega

theorem rg_inb {j : ℕ} (h : j < 6) : ∀ a : Fin 3, ![j, 0, 0] a + S1x256x4096.size a ≤ S6x256x4096.size a := by
  intro a; fin_cases a
  · show j + 1 ≤ 6; omega
  · show 0 + 256 ≤ 256; omega
  · show 0 + 4096 ≤ 4096; omega

/-- 256 rows of a device's cast `x`, from row `r`. -/
abbrev x8R (r : ℕ) (h : r ≤ 768) : Rect S1024x4096 := Rect.unit (s := S1024x4096) ![r, 0] S256x4096.size (x8_inb h)
abbrev x8W (r : ℕ) (h : r ≤ 768) : Memref sig .tc .vmem S256x4096 .fp8e5m2 := x8M.slice (x8R r h) (fun _ => rfl)

abbrev rgR (j : ℕ) (h : j < 6) : Rect S6x256x4096 := Rect.unit (s := S6x256x4096) ![j, 0, 0] S1x256x4096.size (rg_inb h)
/-- Receive slot `j`, with its unit axis, -/
abbrev rgW (b : Bool) (j : ℕ) (h : j < 6) : Memref sig .tc .vmem S1x256x4096 .fp8e5m2 := (rgM b).slice (rgR j h) (fun _ => rfl)
/-- and as a transfer names it. -/
abbrev slot (b : Bool) (j : ℕ) (h : j < 6) : Memref sig .tc .vmem S256x4096 .fp8e5m2 :=
  (rgW b j h).squeeze S256x4096 squeezes_S1x256x4096_S256x4096

/-- The row quarter `j` (0 or 1) of direction `b` starts at. -/
abbrev row0 (b : Bool) (j : ℕ) : ℕ := (if b then 512 else 0) + 256 * (j % 2)

theorem row0_le (b : Bool) (j : ℕ) : row0 b j ≤ 768 := by
  unfold row0; cases b <;> simp only [if_true, Bool.false_eq_true, if_false] <;> omega

/-- What transfer `j` reads: the device's own quarter, then the slot filled two transfers before. -/
abbrev srcM (b : Bool) (j : ℕ) (h : j < 6) : Memref sig .tc .vmem S256x4096 .fp8e5m2 :=
  if h2 : j < 2 then x8W (row0 b j) (row0_le b j) else slot b (j - 2) (by omega)

/-! ## Contents -/

variable (m : (ℓ : Loc nD τ sig) → Buf (Elt F) ℓ) (ρ : Dev nD → PrngReg)

/-- The memory at launch: arbitrary contents, every semaphore counter zero. -/
def s₀ : MemSt nD τ sig (Elt F) := ⟨m, fun _ => 0, ρ⟩

/-- Device `c`'s rows of `x`, its `w`, and the two scales. -/
def X (c : Dev nD) : S1024x4096.Idx → Elt F .f32 := xM.view.read (Elt F) (m ((c : Thread nD τ).loc main_arg0))
def W (c : Dev nD) : S4096x8192.Idx → Elt F .f32 := wM.view.read (Elt F) (m ((c : Thread nD τ).loc main_arg1))

/-- `x` cast to 8 bits. -/
def X8 (c : Dev nD) : S1024x4096.Idx → Elt F .fp8e5m2 := fun i => k0_pay2 (fun _ => X m c i) (fun a => ⟨0, by fin_cases a <;> decide⟩)

/-- 256 rows of it. -/
abbrev X8rows (c : Dev nD) (r : ℕ) (h : r ≤ 768) : S256x4096.Idx → Elt F .fp8e5m2 := fun i => X8 m c ((x8R r h).emb i)

/-- What slot `j` of direction `b` receives on device `c`, -/
abbrev got (b : Bool) (c : Dev nD) (j : ℕ) : S256x4096.Idx → Elt F .fp8e5m2 :=
  X8rows m (orig b c (j / 2 + 1)) (row0 b j) (row0_le b j)

/-- and what device `c` sends with transfer `j`. -/
abbrev sent (b : Bool) (c : Dev nD) (j : ℕ) : S256x4096.Idx → Elt F .fp8e5m2 :=
  X8rows m (orig b c (j / 2)) (row0 b j) (row0_le b j)

theorem got_nb (b : Bool) (c : Dev nD) (j : ℕ) : got m b (nb b c) j = sent m b c j := by
  unfold got sent; rw [orig_nb]

/-! ## The cells -/

/-- The cells of a device, numbered: the barrier, then the transfers' semaphores in the program's order. -/
abbrev csem : Fin 25 → SemLoc sig := fun k => if k.val = 0 then .reg barrier0 else .dma ⟨k.val + 10, by have := k.isLt; show k.val + 10 < 35; omega⟩
abbrev kcell (ck : Dev nD × Fin 25) : GSem nD τ sig := ((ck.1 : Thread nD τ), csem ck.2)

/-- Send and receive semaphores of direction `b`, transfer `j`, by number. -/
abbrev sendN (b : Bool) (j : ℕ) : ℕ := 11 + j + (if b then 12 else 0)
abbrev recvN (b : Bool) (j : ℕ) : ℕ := 17 + j + (if b then 12 else 0)
theorem sendN_lt (b : Bool) {j : ℕ} (h : j < 6) : sendN b j < 35 := by unfold sendN; cases b <;> simp only [if_true, Bool.false_eq_true, if_false] <;> omega
theorem recvN_lt (b : Bool) {j : ℕ} (h : j < 6) : recvN b j < 35 := by unfold recvN; cases b <;> simp only [if_true, Bool.false_eq_true, if_false] <;> omega
abbrev sendS (b : Bool) (j : ℕ) (h : j < 6) : DmaSem sig := ⟨sendN b j, sendN_lt b h⟩
abbrev recvS (b : Bool) (j : ℕ) (h : j < 6) : DmaSem sig := ⟨recvN b j, recvN_lt b h⟩

abbrev barCell (c : Dev nD) : GSem nD τ sig := ((c : Thread nD τ), .reg barrier0)
abbrev sendCell (b : Bool) (j : ℕ) (h : j < 6) (c : Dev nD) : GSem nD τ sig := ((c : Thread nD τ), .dma (sendS b j h))
abbrev recvCell (b : Bool) (j : ℕ) (h : j < 6) (c : Dev nD) : GSem nD τ sig := ((c : Thread nD τ), .dma (recvS b j h))

/-- What one transfer of 256 rows credits. -/
abbrev N : ℕ := (slot false 0 (by decide)).view.dmaCredit
theorem N_pos : 0 < N := View.dmaCredit_pos _ (by decide)

/-! ## The schedule -/

/-- A direction's six receive slots of device `c`, whatever they hold. -/
def slots (b : Bool) (c : Dev nD) : sProp 𝕄 :=
  bigSep Finset.univ fun j : Fin 6 => iprop(∃ Y, owns (c : Thread nD τ) (slot b j.val j.isLt) fullShare Y)

/-- The share of the source lent to transfer `j`, handed back. -/
def sendPay (b : Bool) (c : Dev nD) (j : ℕ) (h : j < 6) : sProp 𝕄 :=
  owns (c : Thread nD τ) (srcM b j h) fullShare.right (sent m b c j)
/-- Slot `j`, filled. -/
def recvPay (b : Bool) (c : Dev nD) (j : ℕ) (h : j < 6) : sProp 𝕄 :=
  owns (c : Thread nD τ) (slot b j h) fullShare (got m b c j)

/-- What a DMA cell hands over, by its semaphore's number. -/
def xferPay (c : Dev nD) (n : ℕ) : sProp 𝕄 :=
  if h : n < 11 then iprop(emp)
  else if h1 : n < 17 then sendPay m false c (n - 11) (by omega)
  else if h2 : n < 23 then recvPay m false c (n - 17) (by omega)
  else if h3 : n < 29 then sendPay m true c (n - 23) (by omega)
  else if h4 : n < 35 then recvPay m true c (n - 29) (by omega)
  else iprop(emp)

instance slots_storable (b : Bool) (c : Dev nD) : BI.Storable (upEmb : UEmb _ 𝕄) (slots (F := F) b c) := by unfold slots owns; infer_instance
instance sendPay_storable (b : Bool) (c : Dev nD) (j : ℕ) (h : j < 6) : BI.Storable (upEmb : UEmb _ 𝕄) (sendPay m b c j h) := by unfold sendPay owns; infer_instance
instance recvPay_storable (b : Bool) (c : Dev nD) (j : ℕ) (h : j < 6) : BI.Storable (upEmb : UEmb _ 𝕄) (recvPay m b c j h) := by unfold recvPay owns; infer_instance
instance xferPay_storable (c : Dev nD) (n : ℕ) : BI.Storable (upEmb : UEmb _ 𝕄) (xferPay m c n) := by
  unfold xferPay; (repeat' split) <;> infer_instance

def sched : Rounds.Schedule (GSem nD τ sig) Bool 𝕄 where
  duties g r := if r = 0 ∧ g.1.2 = .tc then
      (match g.2 with
      | .reg _ => Finset.univ
      | .dma n => if 11 ≤ n.val then {false} else ∅)
    else ∅
  amount g _ _ := match g.2 with
    | .reg _ => 1
    | .dma _ => N
  payload g _ d := match g.2 with
    | .reg _ => slots d (nb d g.1.1)
    | .dma n => xferPay m g.1.1 n.val
  amount_pos g _ _ _ := by
    rcases g with ⟨t, _ | _⟩
    · exact Nat.one_pos
    · exact N_pos

instance sched_payload_storable (g : GSem nD τ sig) (r : ℕ) (d : Bool) :
    BI.Storable (upEmb : UEmb _ 𝕄) ((sched (F := F) m).payload g r d) := by
  rcases g with ⟨t, _ | n⟩
  · show BI.Storable upEmb (slots d (nb d t.1)); infer_instance
  · show BI.Storable upEmb (xferPay m t.1 n.val); infer_instance

section Sched
variable (c : Dev nD) (b : Bool) (j : ℕ) (h : j < 6)

theorem duties_bar : (sched m).duties (barCell c) 0 = Finset.univ := by dsimp only [sched]; exact if_pos ⟨rfl, rfl⟩
theorem duties_dma (n : DmaSem sig) (hn : 11 ≤ n.val) : (sched m).duties ((c : Thread nD τ), .dma n) 0 = {false} := by
  dsimp only [sched]; rw [if_pos ⟨rfl, rfl⟩, if_pos hn]
theorem duties_later (g : GSem nD τ sig) : ∀ r, 1 ≤ r → (sched m).duties g r = ∅ := fun r hr => by
  dsimp only [sched]; rw [if_neg fun h => by omega]
theorem amount_dma (n : DmaSem sig) (d : Bool) : (sched m).amount ((c : Thread nD τ), .dma n) 0 d = N := rfl

theorem expect_bar : (sched m).expect (barCell c) 0 = 2 := by
  unfold Schedule.expect Schedule.amountOf
  rw [duties_bar]; rfl
theorem expect_dma (n : DmaSem sig) (hn : 11 ≤ n.val) : (sched m).expect ((c : Thread nD τ), .dma n) 0 = N := by
  unfold Schedule.expect Schedule.amountOf; rw [duties_dma m c n hn, Finset.sum_singleton]; rfl

theorem sendN_ge : 11 ≤ sendN b j := by unfold sendN; omega
theorem recvN_ge : 11 ≤ recvN b j := by unfold recvN; omega

theorem xferPay_send : xferPay m c (sendN b j) = sendPay m b c j h := by
  unfold xferPay sendN
  cases b
  · simp only [Bool.false_eq_true, if_false, Nat.add_zero]
    rw [dif_neg (by omega), dif_pos (by omega)]; congr 1; omega
  · simp only [if_true]
    rw [dif_neg (by omega), dif_neg (by omega), dif_neg (by omega), dif_pos (by omega)]; congr 1; omega
theorem xferPay_recv : xferPay m c (recvN b j) = recvPay m b c j h := by
  unfold xferPay recvN
  cases b
  · simp only [Bool.false_eq_true, if_false, Nat.add_zero]
    rw [dif_neg (by omega), dif_neg (by omega), dif_pos (by omega)]; congr 1; omega
  · simp only [if_true]
    rw [dif_neg (by omega), dif_neg (by omega), dif_neg (by omega), dif_neg (by omega), dif_pos (by omega)]; congr 1; omega

theorem rest_bar : bigSep ((sched m).duties (barCell c) 0 \ ∅) (fun d => (sched m).payload (barCell c) 0 d)
    = iprop(slots false (nb false c) ∗ slots true (nb true c)) := by
  rw [Finset.sdiff_empty, duties_bar, bigSep_univ_eq_bigSepL [false, true] (by decide) (by decide), bigSepL_cons_cons, bigSepL_singleton]
  rfl
theorem rest_dma (n : DmaSem sig) (hn : 11 ≤ n.val) :
    bigSep ((sched m).duties ((c : Thread nD τ), .dma n) 0 \ ∅) (fun d => (sched m).payload ((c : Thread nD τ), .dma n) 0 d) = xferPay m c n.val := by
  rw [Finset.sdiff_empty, duties_dma m c n hn, bigSep_singleton]; rfl

end Sched

/-! ## What a device owes, in the order it pays; the levels -/

/-- Payment `i` of device `c`: one unit to each neighbour's barrier, then the transfers, direction by direction. -/
def due (c : Dev nD) (i : ℕ) : CellTallies nD τ sig Unit :=
  if i = 0 then tallyAt (barCell (nb true c)) () 1
  else if i = 1 then tallyAt (barCell (nb false c)) () 1
  else if h : (i - 2) / 2 < 6 then
    (if i % 2 = 0 then tallyAt (recvCell false ((i - 2) / 2) h (nb false c)) () N
    else tallyAt (recvCell true ((i - 2) / 2) h (nb true c)) () N)
  else 0

/-- What is left to pay from payment `n` on. -/
def owed (c : Dev nD) (n : ℕ) : CellTallies nD τ sig Unit := ∑ i ∈ Finset.Ico n 14, due c i

theorem owed_step (c : Dev nD) (n : ℕ) (h : n < 14) : owed c n = owed c (n + 1) + due c n := by
  unfold owed; rw [show Finset.Ico n 14 = insert n (Finset.Ico (n + 1) 14) from by ext i; simp only [Finset.mem_insert, Finset.mem_Ico]; omega,
    Finset.sum_insert (by simp), add_comm]
theorem owed_end (c : Dev nD) : owed c 14 = 0 := by unfold owed; rw [Finset.Ico_self, Finset.sum_empty]

theorem due_bar (c : Dev nD) (b : Bool) : due c (if b then 0 else 1) = tallyAt (barCell (nb b c)) () 1 := by
  cases b <;> rfl
theorem due_send (c : Dev nD) (b : Bool) (j : ℕ) (h : j < 6) :
    due c (2 + 2 * j + (if b then 1 else 0)) = tallyAt (recvCell b j h (nb b c)) () N := by
  unfold due
  cases b
  · simp only [Bool.false_eq_true, if_false, Nat.add_zero]
    have hj : (2 + 2 * j - 2) / 2 = j := by omega
    rw [if_neg (by omega), if_neg (by omega), dif_pos (by omega), if_pos (by omega)]
    simp only [hj]
  · simp only [if_true]
    have hj : (2 + 2 * j + 1 - 2) / 2 = j := by omega
    rw [if_neg (by omega), if_neg (by omega), dif_pos (by omega), if_neg (by omega)]
    simp only [hj]

def L (g : GSem nD τ sig) : Finset Unit := if g.1.2 = .tc then {()} else ∅
/-- The barrier at 1, the receive cells of transfer `j` at `2 + j`, everything else at 0. -/
def lv (g : GSem nD τ sig) (_ : Unit) : ℕ := match g.2 with
  | .reg _ => 1
  | .dma n => if 29 ≤ n.val then 2 + (n.val - 29) else if 17 ≤ n.val ∧ n.val < 23 then 2 + (n.val - 17) else 0

theorem L_of_ne (g : GSem nD τ sig) (h : g.1.2 ≠ .tc) : L g = ∅ := if_neg h
theorem L_tc (c : Dev nD) (sm : SemLoc sig) : L ((c : Thread nD τ), sm) = {()} := if_pos rfl

theorem lv_recv (b : Bool) (j : ℕ) (h : j < 6) (c : Dev nD) : lv (recvCell b j h c) () = 2 + j := by
  unfold lv recvCell recvS recvN
  cases b
  · simp only [Bool.false_eq_true, if_false, Nat.add_zero]; rw [if_neg (by omega), if_pos (by omega)]; omega
  · simp only [if_true]; rw [if_pos (by omega)]; omega

theorem due_pos {c : Dev nD} {i : ℕ} {g : GSem nD τ sig} {u : Unit} (h : 0 < due c i g u) :
    g.1.2 = .tc ∧ (i < 2 → lv g u = 1) ∧ (2 ≤ i → lv g u = 2 + (i - 2) / 2) := by
  unfold due at h
  split at h
  · rw [tallyAt_apply] at h
    split at h
    · rename_i hi hg; rw [hg.1]; exact ⟨rfl, fun _ => rfl, fun h => by omega⟩
    · exact absurd h (Nat.lt_irrefl 0)
  split at h
  · rw [tallyAt_apply] at h
    split at h
    · rename_i hi hg; rw [hg.1]; exact ⟨rfl, fun _ => rfl, fun h => by omega⟩
    · exact absurd h (Nat.lt_irrefl 0)
  split at h
  · split at h
    · rw [tallyAt_apply] at h
      split at h
      · rename_i hi hg; rw [hg.1]; exact ⟨rfl, fun h => by omega, fun _ => lv_recv _ _ _ _⟩
      · exact absurd h (Nat.lt_irrefl 0)
    · rw [tallyAt_apply] at h
      split at h
      · rename_i hi hg; rw [hg.1]; exact ⟨rfl, fun h => by omega, fun _ => lv_recv _ _ _ _⟩
      · exact absurd h (Nat.lt_irrefl 0)
  · exact absurd h (Nat.lt_irrefl 0)

theorem owed_pos {c : Dev nD} {n : ℕ} {g : GSem nD τ sig} {u : Unit} (h : 0 < owed c n g u) :
    ∃ i, n ≤ i ∧ i < 14 ∧ 0 < due c i g u := by
  unfold owed at h
  rw [Finset.sum_apply, Finsupp.finset_sum_apply] at h
  obtain ⟨i, hi, hp⟩ := Finset.exists_ne_zero_of_sum_ne_zero (Nat.pos_iff_ne_zero.mp h)
  exact ⟨i, (Finset.mem_Ico.mp hi).1, (Finset.mem_Ico.mp hi).2, Nat.pos_of_ne_zero hp⟩

/-- A device may wait on a cell below everything it still owes. -/
theorem mayWait (c : Dev nD) (sm : SemLoc sig) (n : ℕ) (l : ℕ) (hl : lv ((c : Thread nD τ), sm) () ≤ l)
    (hn : (n < 2 → l < 1) ∧ ∀ i, 2 ≤ i → n ≤ i → i < 14 → l < 2 + (i - 2) / 2) :
    (levAts L lv : sProp 𝕄) ⊢ MayWait (c : Thread nD τ) sm () (owed c n) :=
  MayOwe.of_cut (L := L) (lev := lv) l
    (fun p hp => by rw [Finset.mem_singleton.mp hp, L_tc]; exact Finset.mem_singleton_self _)
    (fun g u hg => by
      obtain ⟨i, -, -, hp⟩ := owed_pos hg
      unfold L; rw [if_pos (due_pos hp).1]; exact Finset.mem_singleton_self _)
    (fun p hp => by rw [Finset.mem_singleton.mp hp]; exact hl)
    (fun g u hg => by
      obtain ⟨i, h1, h2, hp⟩ := owed_pos hg
      obtain ⟨-, ha, hb⟩ := due_pos hp
      by_cases hi : i < 2
      · rw [ha hi]; exact hn.1 (by omega)
      · rw [hb (by omega)]; exact hn.2 i (by omega) h1 h2)

end Cert.Ring

end
-- ==== Proof.Hops.lean ====
/-
The steps of a device's run that touch another device: the two barrier signals and the wait for both, a transfer
to a neighbour, the wait for one's own transfer to have left and for a neighbour's to have arrived — and the wait
for a copy inside the device, which is allowed at any moment because nothing the device owes is that low.

`ctx` is what all of them open: every cell's invariant, that its round 0 is reached, and the levels. A cell is
closed as soon as its one wait is over, so that its counter at zero comes back with what it handed over.
-/
module

public import proofs.«01_k».proof.Proof.Ring

@[expose] public section

noncomputable section

namespace Cert.Ring

open Cert.KernelIdeal Cert.KernelIdeal.Gen Cert.Step

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight)

variable {F : FTy → Type} [FloatOps F]

local notation "𝕄" => MT nD τ sig Unit (Elt F) ℕ UU ℕ

abbrev 𝒱₀ : Variants := Variants.none

variable (m : (ℓ : Loc nD τ sig) → Buf (Elt F) ℓ)

/-! ## The shared context -/

/-- One cell's invariant, and that its round 0 is reached. -/
def record (g : GSem nD τ sig) : sProp 𝕄 := iprop((∃ κ : ℕ, cellInv ER (sched m) κ g) ∗ reached ER g 0)

instance record_persistent (g : GSem nD τ sig) : BI.Persistent (record m g) := by unfold record; infer_instance

def ctx : sProp 𝕄 := iprop(levAts L lv ∗ bigSep Finset.univ fun ck : Dev nD × Fin 25 => record m (kcell ck))

instance ctx_persistent : BI.Persistent (ctx m) := by unfold ctx; infer_instance

theorem ctx_lev : ctx m ⊢ levAts L lv := by
  unfold ctx; iintro ⟨H, -⟩; iexact H

theorem ctx_cell (ck : Dev nD × Fin 25) : ctx m ⊢ record m (kcell ck) := by
  unfold ctx
  iintro ⟨-, H⟩
  ihave H' := (Entails.of_eq (bigSep_univ_at (fun ck : Dev nD × Fin 25 => record m (kcell ck)) ck)) $$ H
  icases H' with ⟨H, -⟩
  iexact H

theorem ctx_bar (c : Dev nD) : ctx m ⊢ record m (barCell c) := ctx_cell m (c, 0)

theorem ctx_dma (c : Dev nD) (n : DmaSem sig) (hn : 11 ≤ n.val) : ctx m ⊢ record m ((c : Thread nD τ), .dma n) := by
  have hlt : n.val < 35 := n.isLt
  have h := ctx_cell m (c, ⟨n.val - 10, by omega⟩)
  have he : kcell (c, (⟨n.val - 10, by omega⟩ : Fin 25)) = ((c : Thread nD τ), SemLoc.dma n) := by
    unfold kcell csem
    rw [if_neg (by show ¬(n.val - 10 = 0); omega)]
    congr 2
    exact Fin.ext (by show n.val - 10 + 10 = n.val; omega)
  rwa [he] at h

/-! ## What a device holds for its transfers -/

/-- What the device still owes. -/
def debt (c : Dev nD) (n : ℕ) : sProp 𝕄 := iprop(∃ Wt, owes (c : Thread nD τ) (owed c n) Wt)

/-- For transfer `j` of direction `b`: the tokens of the two duties it pays and its own send cell's position. -/
def sendKit (b : Bool) (j : ℕ) (h : j < 6) (c : Dev nD) : sProp 𝕄 :=
  iprop(dutyTok ER (sendCell b j h c) 0 false ∗ dutyTok ER (recvCell b j h (nb b c)) 0 false ∗ atPos ER (sendCell b j h c) 0 ∅ 0)
/-- The transfer on its way. -/
def lent (b : Bool) (j : ℕ) (h : j < 6) (c : Dev nD) : sProp 𝕄 :=
  iprop(cred (tallyAt (sendCell b j h c) () N) ∗ atPos ER (sendCell b j h c) 0 ∅ 0)
/-- For the arrival in slot `j` of direction `b`. -/
def recvKit (b : Bool) (j : ℕ) (h : j < 6) (c : Dev nD) : sProp 𝕄 :=
  iprop(cred (tallyAt (recvCell b j h c) () N) ∗ atPos ER (recvCell b j h c) 0 ∅ 0)

variable {α : Type} {Q : α → sProp (MT nD τ sig Unit (Elt F) ℕ UU ℕ)}

/-! ## Waiting for a copy inside the device -/

theorem wait_copy {sp sp' : Space} {s s' : Shape} {e e' : EltTy} (c : Dev nD) (n : ℕ) {sem : DmaSem sig} (hsem : sem.val < 17)
    {srcw : Memref sig .tc sp' s' e'} {dstw : Memref sig .tc sp s e} {hsrc : srcw.view.WordExact} {hdst : dstw.view.WordExact}
    {k : PUnit → Prog (TpuEff nD τ sig (Elt F) Λ₀ .tc) α} {Nc : ℕ} (hN : dstw.view.dmaCredit = Nc) {D : sProp 𝕄} :
    ctx m ⊢ iprop(Flight EC (c : Thread nD τ) (.dma sem) () Nc D -∗ debt c n
      -∗ (D -∗ semVal ((c : Thread nD τ), .dma sem) 0 -∗ debt c n -∗ wp frame (wpE (defs₀ (F := F)) 𝒱₀ (c : Thread nD τ) none) Set.univ (k ⟨⟩) Q)
      -∗ wp frame (wpE (defs₀ (F := F)) 𝒱₀ (c : Thread nD τ) none) Set.univ (.op (.waitDma2 sem srcw dstw hsrc hdst) k) Q) := by
  unfold debt
  iintro #Hctx HF ⟨%Wt, HO⟩ Hk
  iapply (Transfers.wp_waitLocalO EC 𝒱₀ (c : Thread nD τ) none () hN) $$ [HF HO]
  · isplitl [HF]; · iexact HF
    isplitl [HO]; · iexact HO
    iapply (mayWait c (.dma sem) n 0 (by unfold lv; dsimp only; rw [if_neg (by omega), if_neg (by omega)])
      ⟨fun _ => Nat.one_pos, fun i _ _ _ => by omega⟩)
    iapply (ctx_lev m); iexact Hctx
  iintro ⟨HD, Hv, HO⟩
  iapply Hk $$ HD Hv
  iexists _; iexact HO

/-! ## The barrier -/

/-- The signal to the neighbour direction `b` does not go to, handing it the slots direction `b` fills here. -/
theorem signal_step (b : Bool) (c d' : Dev nD) (hd : d' = nb (!b) c) (n : ℕ) (hn : n = if b then 1 else 0)
    {sem : Sem sig} (hs : sem = barrier0) {k : PUnit → Prog (TpuEff nD τ sig (Elt F) Λ₀ .tc) α} :
    ctx m ⊢ iprop(slots b c -∗ dutyTok ER (barCell (nb (!b) c)) 0 b -∗ debt c n
      -∗ (debt c (n + 1) -∗ wp frame (wpE (defs₀ (F := F)) 𝒱₀ (c : Thread nD τ) none) Set.univ (k ⟨⟩) Q)
      -∗ wp frame (wpE (defs₀ (F := F)) 𝒱₀ (c : Thread nD τ) none) Set.univ (.op (.semSignal (d', Proc.tc) sem (1#32).toInt) k) Q) := by
  subst hd hs hn
  have hO : owed c (if b then 1 else 0) = owed c ((if b then 1 else 0) + 1) + tallyAt (barCell (nb (!b) c)) () 1 := by
    cases b
    · exact (owed_step c 0 (by decide)).trans (congrArg (owed c 1 + ·) (due_bar c true))
    · exact (owed_step c 1 (by decide)).trans (congrArg (owed c 2 + ·) (due_bar c false))
  have hp : (sched m).payload (barCell (nb (!b) c)) 0 b = slots b c := by
    show slots b (nb b (nb (!b) c)) = _; rw [nb_nb]
  unfold debt
  iintro #Hctx Hsl Htok ⟨%Wt, HO⟩ Hk
  ihave #Hr := (ctx_bar m (nb (!b) c)) $$ Hctx
  unfold record
  icases Hr with ⟨⟨%κ, #Hinv⟩, #Hreach⟩
  iapply (Rounds.wp_signal 𝒱₀ ER (sched m) (c : Thread nD τ) none (dst := (nb (!b) c : Thread nD τ)) (κ := κ) (k' := 1)
      (d := b) (by rw [duties_bar]; exact Finset.mem_univ _) rfl () (owed c ((if b then 1 else 0) + 1))
      hO) $$ [HO Htok Hsl]
  · isplitr; · iexact Hinv
    isplitl [HO]; · iexact HO
    isplitl [Htok]; · iexact Htok
    isplitl [Hsl]
    · rw [hp]; iexact Hsl
    iexact Hreach
  iintro HO
  iapply Hk
  iexists _; iexact HO

/-- The wait for both neighbours: their slots come with it. -/
theorem barrier_step (c : Dev nD) {sem : Sem sig} (hs : sem = barrier0) {k : PUnit → Prog (TpuEff nD τ sig (Elt F) Λ₀ .tc) α} :
    ctx m ⊢ iprop(cred (tallyAt (barCell c) () 2) -∗ atPos ER (barCell c) 0 ∅ 0 -∗ debt c 2
      -∗ (slots false (nb false c) -∗ slots true (nb true c) -∗ semVal (barCell c) 0 -∗ debt c 2
          -∗ wp frame (wpE (defs₀ (F := F)) 𝒱₀ (c : Thread nD τ) none) Set.univ (k ⟨⟩) Q)
      -∗ wp frame (wpE (defs₀ (F := F)) 𝒱₀ (c : Thread nD τ) none) Set.univ (.op (.semWait sem (2#32).toInt) k) Q) := by
  subst hs
  unfold debt
  iintro #Hctx Hcr Hat ⟨%Wt, HO⟩ Hk
  ihave #Hr := (ctx_bar m c) $$ Hctx
  unfold record
  icases Hr with ⟨⟨%κ, #Hinv⟩, #Hreach⟩
  iapply (Rounds.wp_wait_rest_token 𝒱₀ ER (sched m) (c : Thread nD τ) none (κ := κ) (k' := 2)
      (wpE_semWait_eq 𝒱₀ (c : Thread nD τ) none Set.univ) (Set.mem_univ _) () (O := owed c 2) (W := Wt) (R := 0) (m := 0) (T := ∅)
      (by rw [expect_bar])) $$ [Hcr HO Hat]
  · isplitr; · iexact Hinv
    isplitl [Hcr]; · iexact Hcr
    isplitl [HO]; · iexact HO
    isplitr
    · iapply (mayWait c (.reg barrier0) 2 1 le_rfl ⟨fun h => by omega, fun i _ _ _ => by omega⟩)
      iapply (ctx_lev m); iexact Hctx
    iexact Hat
  iintro ⟨HO, Hat, -, Hpay⟩
  imod (Rounds.cell_close ER (sched m) (Set.mem_univ κ) (fun h => h) (R := 0 + 1) (duties_later m (barCell c))) $$ [Hat] with Hz
  · isplitr; · iexact Hinv
    iexact Hat
  ihave Hp := (Entails.of_eq (rest_bar m c)) $$ Hpay
  icases Hp with ⟨H1, H2⟩
  iapply Hk $$ H1 H2 Hz
  iexists _; iexact HO

/-! ## Transfers -/

/-- Transfer `j` of direction `b`. -/
theorem send_step (b : Bool) (j : ℕ) (h : j < 6) (c d' : Dev nD) (hd : d' = nb b c) (n : ℕ) (hn : n = 2 + 2 * j + (if b then 1 else 0))
    {src : Memref sig .tc .vmem S256x4096 .fp8e5m2} (hs : srcM b j h = src) {dst : Memref sig .tc .vmem S256x4096 .fp8e5m2} (hdt : slot b j h = dst)
    {sS sR : DmaSem sig} (hS : sendS b j h = sS) (hR : recvS b j h = sR)
    {hsc : dst.view.ref.isScScratch = false} {hsrc : src.view.WordExact} {hdst : dst.view.WordExact}
    {hsem : DmaTarget.Typed .vmem (.dma sR) (.remote (Dev.tc d' : Thread nD τ) dst (.dma sS) hsc)}
    {k : PUnit → Prog (TpuEff nD τ sig (Elt F) Λ₀ .tc) α} :
    ctx m ⊢ iprop(owns (c : Thread nD τ) src fullShare.right (sent m b c j) -∗ (∃ Y, owns (nb b c : Thread nD τ) (slot b j h) fullShare Y)
      -∗ sendKit b j h c -∗ debt c n
      -∗ (lent b j h c -∗ debt c (n + 1) -∗ wp frame (wpE (defs₀ (F := F)) 𝒱₀ (c : Thread nD τ) none) Set.univ (k ⟨⟩) Q)
      -∗ wp frame (wpE (defs₀ (F := F)) 𝒱₀ (c : Thread nD τ) none) Set.univ
          (.op (.enqueueDma src (.remote (Dev.tc d' : Thread nD τ) dst (.dma sS) hsc) (.dma sR) hsrc hdst hsem) k) Q) := by
  subst hd hs hdt hS hR hn
  have hO : owed c (2 + 2 * j + (if b then 1 else 0)) = owed c (2 + 2 * j + (if b then 1 else 0) + 1) + tallyAt (recvCell b j h (nb b c)) () N := by
    rw [owed_step c _ (by split <;> omega), due_send c b j h]
  unfold debt sendKit lent
  iintro #Hctx Hs ⟨%Y, Hd⟩ ⟨Ht1, Ht2, Hat⟩ ⟨%Wt, HO⟩ Hk
  ihave #Hr1 := (ctx_dma m c (sendS b j h) (sendN_ge b j)) $$ Hctx
  ihave #Hr2 := (ctx_dma m (nb b c) (recvS b j h) (recvN_ge b j)) $$ Hctx
  unfold record
  icases Hr1 with ⟨⟨%κ₁, #Hinv1⟩, #Hreach1⟩
  icases Hr2 with ⟨⟨%κ₂, #Hinv2⟩, #Hreach2⟩
  ihave Hs' := (show owns (c : Thread nD τ) (srcM b j h) fullShare.right (sent m b c j)
    ⊢ iprop(∃ f, ⌜(srcM b j h).view.read (Elt F) f = sent m b c j⌝ ∗ ((srcM b j h).view.loc (c : Thread nD τ) ↦[(srcM b j h).view.set]{fullShare.right} f)) from .rfl) $$ Hs
  ihave Hd' := (show owns (nb b c : Thread nD τ) (slot b j h) fullShare Y
    ⊢ iprop(∃ f, ⌜(slot b j h).view.read (Elt F) f = Y⌝ ∗ ((slot b j h).view.loc (nb b c : Thread nD τ) ↦[(slot b j h).view.set]{fullShare} f)) from .rfl) $$ Hd
  icases Hs' with ⟨%fs, %hfs, Hs⟩
  icases Hd' with ⟨%fd, -, Hd⟩
  iapply (Rounds.wp_send_pointsTo 𝒱₀ ER (sched m) (c : Thread nD τ) none (c' := (nb b c : Thread nD τ)) (κ₁ := κ₁) (κ₂ := κ₂)
      (r₁ := 0) (r₂ := 0) (d₁ := false) (d₂ := false) (fs := fs) (fd := fd)
      (by rw [duties_dma m c _ (sendN_ge b j)]; exact Finset.mem_singleton_self _)
      (by rw [duties_dma m (nb b c) _ (recvN_ge b j)]; exact Finset.mem_singleton_self _)
      () () N (by cases b <;> rfl) rfl rfl (owed c (2 + 2 * j + (if b then 1 else 0) + 1))
      hO
      (W := Wt) ?_ ?_) $$ [Hs Hd HO Ht1 Ht2]
  · show _ ⊢ xferPay m c (sendN b j)
    rw [xferPay_send m c b j h]
    unfold sendPay owns
    iintro H
    iexists fs
    isplitr; · ipureintro; exact hfs
    iexact H
  · show _ ⊢ xferPay m (nb b c) (recvN b j)
    rw [xferPay_recv m (nb b c) b j h]
    unfold recvPay owns
    iintro H
    iexists _
    isplitr
    · ipureintro
      exact (View.read_write_univ (v := (slot b j h).view) fd _).trans (hfs.trans (got_nb m b c j).symm)
    iexact H
  · isplitr; · iexact Hinv1
    isplitr; · iexact Hinv2
    isplitl [Hs]; · iexact Hs
    isplitl [Hd]; · iexact Hd
    isplitl [HO]; · iexact HO
    isplitl [Ht1]; · iexact Ht1
    isplitr; · iexact Hreach1
    isplitl [Ht2]; · iexact Ht2
    iexact Hreach2
  iintro ⟨Hcr, HO⟩
  iapply Hk $$ [Hcr Hat]
  · isplitl [Hcr] <;> iassumption
  iexists _; iexact HO

/-- A wait for all a DMA cell of the rings hands over; the cell is closed with it. -/
theorem wait_dma (c : Dev nD) (sm : DmaSem sig) (hsm : 11 ≤ sm.val) (n l : ℕ) (hl : lv ((c : Thread nD τ), .dma sm) () ≤ l)
    (hn : (n < 2 → l < 1) ∧ ∀ i, 2 ≤ i → n ≤ i → i < 14 → l < 2 + (i - 2) / 2)
    {srcw : Memref sig .tc .vmem S256x4096 .fp8e5m2} {dstw : Memref sig .tc .vmem S256x4096 .fp8e5m2} (hN : dstw.view.dmaCredit = N)
    {hsrc : srcw.view.WordExact} {hdst : dstw.view.WordExact} {k : PUnit → Prog (TpuEff nD τ sig (Elt F) Λ₀ .tc) α} :
    ctx m ⊢ iprop(cred (tallyAt ((c : Thread nD τ), .dma sm) () N) -∗ atPos ER ((c : Thread nD τ), .dma sm) 0 ∅ 0 -∗ debt c n
      -∗ (xferPay m c sm.val -∗ semVal ((c : Thread nD τ), .dma sm) 0 -∗ debt c n
          -∗ wp frame (wpE (defs₀ (F := F)) 𝒱₀ (c : Thread nD τ) none) Set.univ (k ⟨⟩) Q)
      -∗ wp frame (wpE (defs₀ (F := F)) 𝒱₀ (c : Thread nD τ) none) Set.univ (.op (.waitDma2 sm srcw dstw hsrc hdst) k) Q) := by
  unfold debt
  iintro #Hctx Hcr Hat ⟨%Wt, HO⟩ Hk
  ihave #Hr := (ctx_dma m c sm hsm) $$ Hctx
  unfold record
  icases Hr with ⟨⟨%κ, #Hinv⟩, #Hreach⟩
  iapply (Rounds.wp_wait_rest_token 𝒱₀ ER (sched m) (c : Thread nD τ) none (κ := κ)
      (wpE_waitDma2_eq 𝒱₀ (c : Thread nD τ) none Set.univ) (Set.mem_univ _) () (O := owed c n) (W := Wt) (R := 0) (m := 0) (T := ∅)
      (by rw [expect_dma m c sm hsm, hN, Nat.zero_add])) $$ [Hcr HO Hat]
  · isplitr; · iexact Hinv
    isplitl [Hcr]; · rw [hN]; iexact Hcr
    isplitl [HO]; · iexact HO
    isplitr
    · iapply (mayWait c (.dma sm) n l hl hn)
      iapply (ctx_lev m); iexact Hctx
    iexact Hat
  iintro ⟨HO, Hat, -, Hpay⟩
  imod (Rounds.cell_close ER (sched m) (Set.mem_univ κ) (fun h => h) (R := 0 + 1) (duties_later m ((c : Thread nD τ), .dma sm))) $$ [Hat] with Hz
  · isplitr; · iexact Hinv
    iexact Hat
  ihave Hp := (Entails.of_eq (rest_dma m c sm hsm)) $$ Hpay
  iapply Hk $$ Hp Hz
  iexists _; iexact HO

/-- The wait for transfer `j` to have left: the source's share is back. -/
theorem left_step (b : Bool) (j : ℕ) (h : j < 6) (c : Dev nD) (n : ℕ) {src : Memref sig .tc .vmem S256x4096 .fp8e5m2} (hs : srcM b j h = src)
    {sS : DmaSem sig} (hS : sendS b j h = sS)
    {srcw : Memref sig .tc .vmem S256x4096 .fp8e5m2} {dstw : Memref sig .tc .vmem S256x4096 .fp8e5m2} (hN : dstw.view.dmaCredit = N)
    {hsrc : srcw.view.WordExact} {hdst : dstw.view.WordExact} {k : PUnit → Prog (TpuEff nD τ sig (Elt F) Λ₀ .tc) α} :
    ctx m ⊢ iprop(lent b j h c -∗ debt c n
      -∗ (owns (c : Thread nD τ) src fullShare.right (sent m b c j) -∗ semVal ((c : Thread nD τ), .dma sS) 0 -∗ debt c n
          -∗ wp frame (wpE (defs₀ (F := F)) 𝒱₀ (c : Thread nD τ) none) Set.univ (k ⟨⟩) Q)
      -∗ wp frame (wpE (defs₀ (F := F)) 𝒱₀ (c : Thread nD τ) none) Set.univ (.op (.waitDma2 sS srcw dstw hsrc hdst) k) Q) := by
  subst hs hS
  unfold lent
  iintro #Hctx ⟨Hcr, Hat⟩ HO Hk
  have hl : lv ((c : Thread nD τ), .dma (sendS b j h)) () ≤ 0 := by
    unfold lv sendS sendN
    cases b
    · simp only [Bool.false_eq_true, if_false]; rw [if_neg (by omega), if_neg (by omega)]
    · simp only [if_true]; rw [if_neg (by omega), if_neg (by omega)]
  iapply (wait_dma m c (sendS b j h) (sendN_ge b j) n 0 hl ⟨fun _ => Nat.one_pos, fun i _ _ _ => by omega⟩ hN) $$ Hctx Hcr Hat HO
  rw [xferPay_send m c b j h]
  iexact Hk

/-- The wait for slot `j` of direction `b`. -/
theorem arrive_step (b : Bool) (j : ℕ) (h : j < 6) (c : Dev nD) (n : ℕ) (hn : 2 * j + 4 ≤ n) {sR : DmaSem sig} (hR : recvS b j h = sR)
    {srcw : Memref sig .tc .vmem S256x4096 .fp8e5m2} {dstw : Memref sig .tc .vmem S256x4096 .fp8e5m2} (hN : dstw.view.dmaCredit = N)
    {hsrc : srcw.view.WordExact} {hdst : dstw.view.WordExact} {k : PUnit → Prog (TpuEff nD τ sig (Elt F) Λ₀ .tc) α} :
    ctx m ⊢ iprop(recvKit b j h c -∗ debt c n
      -∗ (owns (c : Thread nD τ) (slot b j h) fullShare (got m b c j) -∗ semVal ((c : Thread nD τ), .dma sR) 0 -∗ debt c n
          -∗ wp frame (wpE (defs₀ (F := F)) 𝒱₀ (c : Thread nD τ) none) Set.univ (k ⟨⟩) Q)
      -∗ wp frame (wpE (defs₀ (F := F)) 𝒱₀ (c : Thread nD τ) none) Set.univ (.op (.waitDma2 sR srcw dstw hsrc hdst) k) Q) := by
  subst hR
  unfold recvKit
  iintro #Hctx ⟨Hcr, Hat⟩ HO Hk
  iapply (wait_dma m c (recvS b j h) (recvN_ge b j) n (2 + j) (lv_recv b j h c).le ⟨fun h => by omega, fun i _ _ _ => by omega⟩ hN) $$ Hctx Hcr Hat HO
  rw [xferPay_recv m c b j h]
  iexact Hk

end Cert.Ring

end
-- ==== Proof.Values.lean ====
/-
The windows of the device's buffers and what they hold.

The stage holds first quarters of `x` and then tiles of `w`, 512 rows each; `x8` and `w8` are the casts of the
device's rows of `x` and of its columns of `w`; the two accumulators hold, after tile `t`, the product of the two
halves of `x8`'s rows with the first `t + 1` tiles; and the out buffers hold blocks of the result.
-/
module

public import proofs.«01_k».proof.Proof.Hops

@[expose] public section

noncomputable section

namespace Cert.Ring

open Cert.KernelIdeal Cert.KernelIdeal.Gen Cert.Step

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight)

variable {F : FTy → Type} [FloatOps F]

local notation "𝕄" => MT nD τ sig Unit (Elt F) ℕ UU ℕ

/-! ## Semaphores of the copies inside the device, as the program names them -/

theorem sem4_inb {k : ℕ} (h : k < 4) : ∀ a : Fin 1, ![k] a + S1.size a ≤ S4.size a := by
  intro a; fin_cases a; show k + 1 ≤ 4; omega
theorem sem2_inb {k : ℕ} (h : k < 2) : ∀ a : Fin 1, ![k] a + S1.size a ≤ S2.size a := by
  intro a; fin_cases a; show k + 1 ≤ 2; omega
theorem sem3_inb {k : ℕ} (h : k < 3) : ∀ a : Fin 1, ![k] a + S1.size a ≤ S3.size a := by
  intro a; fin_cases a; show k + 1 ≤ 3; omega

/-- Of the copies into the stage, -/
abbrev stS (k : ℕ) (h : k < 4 := by decide) : DmaSem sig :=
  ((cc0_scratch5.slice (Rect.unit (s := S4) ![k] S1.size (sem4_inb h))).squeeze S_ squeezes_S1_S_).sem
/-- of the copies out of the accumulators, -/
abbrev ownS (k : ℕ) (h : k < 2 := by decide) : DmaSem sig :=
  ((cc0_scratch6.slice (Rect.unit (s := S2) ![k] S1.size (sem2_inb h))).squeeze S_ squeezes_S1_S_).sem
/-- and of the copies out of the out buffers. -/
abbrev outS (k : ℕ) (h : k < 3 := by decide) : DmaSem sig :=
  ((cc0_scratch7.slice (Rect.unit (s := S3) ![k] S1.size (sem3_inb h))).squeeze S_ squeezes_S1_S_).sem

/-! ## Windows -/

theorem stX_inb {s r : ℕ} (hs : s < 2) (hr : r ≤ 256) : ∀ a : Fin 3, ![s, r, 0] a + S1x256x4096.size a ≤ S2x512x4096.size a := by
  intro a; fin_cases a
  · show s + 1 ≤ 2; omega
  · show r + 256 ≤ 512; omega
  · show 0 + 4096 ≤ 4096; omega
theorem stW_inb {s k : ℕ} (hs : s < 2) (hk : k ≤ 2048) : ∀ a : Fin 3, ![s, 0, k] a + S1x512x2048.size a ≤ S2x512x4096.size a := by
  intro a; fin_cases a
  · show s + 1 ≤ 2; omega
  · show 0 + 512 ≤ 512; omega
  · show k + 2048 ≤ 4096; omega
theorem ac_inb {s : ℕ} (hs : s < 2) : ∀ a : Fin 3, ![s, 0, 0] a + S1x512x2048.size a ≤ S2x512x2048.size a := by
  intro a; fin_cases a
  · show s + 1 ≤ 2; omega
  · show 0 + 512 ≤ 512; omega
  · show 0 + 2048 ≤ 2048; omega
theorem os_inb {s : ℕ} (hs : s < 3) : ∀ a : Fin 3, ![s, 0, 0] a + S1x256x2048.size a ≤ S3x256x2048.size a := by
  intro a; fin_cases a
  · show s + 1 ≤ 3; omega
  · show 0 + 256 ≤ 256; omega
  · show 0 + 2048 ≤ 2048; omega
theorem w8_inb {r : ℕ} (h : r ≤ 3584) : ∀ a : Fin 2, ![r, 0] a + S512x2048.size a ≤ S4096x2048.size a := by
  intro a; fin_cases a
  · show r + 512 ≤ 4096; omega
  · show 0 + 2048 ≤ 2048; omega
theorem xk_inb {h k : ℕ} (hh : h ≤ 512) (hk : k ≤ 3584) : ∀ a : Fin 2, ![h, k] a + S512x512.size a ≤ S1024x4096.size a := by
  intro a; fin_cases a
  · show h + 512 ≤ 1024; omega
  · show k + 512 ≤ 4096; omega
theorem wt_inb (c : Dev nD) {r : ℕ} (h : r ≤ 3584) : ∀ a : Fin 2, ![r, 2048 * c.val] a + S512x2048.size a ≤ S4096x8192.size a := by
  have : c.val < 4 := c.isLt
  intro a; fin_cases a
  · show r + 512 ≤ 4096; omega
  · show 2048 * c.val + 2048 ≤ 8192; omega
theorem wc_inb (c : Dev nD) : ∀ a : Fin 2, ![0, 2048 * c.val] a + S4096x2048.size a ≤ S4096x8192.size a := by
  have : c.val < 4 := c.isLt
  intro a; fin_cases a
  · show 0 + 4096 ≤ 4096; omega
  · show 2048 * c.val + 2048 ≤ 8192; omega

/-- 256 rows of the device's `x`, -/
abbrev xW (r : ℕ) (h : r ≤ 768 := by decide) : Memref sig .tc .hbm S256x4096 .f32 := xM.slice (x8R r h) (fun _ => rfl)
/-- and their place in stage slot `s`. -/
abbrev stX (s r : ℕ) (hs : s < 2 := by decide) (hr : r ≤ 256 := by decide) : Memref sig .tc .vmem S1x256x4096 .f32 :=
  stM.slice (Rect.unit (s := S2x512x4096) ![s, r, 0] S1x256x4096.size (stX_inb hs hr)) (fun _ => rfl)
/-- Stage slot `s`, the 2048 columns from `k`. -/
abbrev stW (s k : ℕ) (hs : s < 2 := by decide) (hk : k ≤ 2048 := by decide) : Memref sig .tc .vmem S1x512x2048 .f32 :=
  stM.slice (Rect.unit (s := S2x512x4096) ![s, 0, k] S1x512x2048.size (stW_inb hs hk)) (fun _ => rfl)
abbrev acW (s : ℕ) (hs : s < 2 := by decide) : Memref sig .tc .vmem S1x512x2048 .f32 :=
  acM.slice (Rect.unit (s := S2x512x2048) ![s, 0, 0] S1x512x2048.size (ac_inb hs)) (fun _ => rfl)
abbrev osW (s : ℕ) (hs : s < 3 := by decide) : Memref sig .tc .vmem S1x256x2048 .f32 :=
  osM.slice (Rect.unit (s := S3x256x2048) ![s, 0, 0] S1x256x2048.size (os_inb hs)) (fun _ => rfl)
abbrev w8R (r : ℕ) (h : r ≤ 3584) : Rect S4096x2048 := Rect.unit (s := S4096x2048) ![r, 0] S512x2048.size (w8_inb h)
abbrev w8W (r : ℕ) (h : r ≤ 3584 := by decide) : Memref sig .tc .vmem S512x2048 .fp8e5m2 := w8M.slice (w8R r h) (fun _ => rfl)

/-- The result's windows: the device's own rows, -/
abbrev oO (c : Dev nD) (a : Fin 2) : Memref sig .tc .hbm S512x2048 .f32 :=
  outM.slice (Rect.unit (s := S4096x2048) (k0_off9 c (BitVec.ofNat 32 (512 * a.val))) S512x2048.size (k0_off9_inb c a)) (fun _ => rfl)
/-- the rows that come around to the right, -/
abbrev oF (c : Dev nD) (k : Fin 3) (a : Fin 2) : Memref sig .tc .hbm S256x2048 .f32 :=
  outM.slice (Rect.unit (s := S4096x2048) (k0_off10 c (BitVec.ofNat 32 (1 + k.val)) (BitVec.ofNat 32 (256 * a.val))) S256x2048.size (k0_off10_inb c k a)) (fun _ => rfl)
/-- and those that come around to the left. -/
abbrev oT (c : Dev nD) (k : Fin 3) (a : Fin 2) : Memref sig .tc .hbm S256x2048 .f32 :=
  outM.slice (Rect.unit (s := S4096x2048) (k0_off11 c (BitVec.ofNat 32 (1 + k.val)) (BitVec.ofNat 32 (256 * a.val))) S256x2048.size (k0_off11_inb c k a)) (fun _ => rfl)

/-! ## Contents -/

variable (m : (ℓ : Loc nD τ sig) → Buf (Elt F) ℓ) (c : Dev nD)

/-- Contents with a unit axis put in front. -/
abbrev up3 {α : Type} (X : S256x4096.Idx → α) : S1x256x4096.Idx → α := drop (squeezes_S1x256x4096_S256x4096).numel_eq.symm X
abbrev upW {α : Type} (X : S512x2048.Idx → α) : S1x512x2048.Idx → α := drop (squeezes_S1x512x2048_S512x2048).numel_eq.symm X
abbrev dnA {α : Type} (X : S1x512x2048.Idx → α) : S512x2048.Idx → α := drop (squeezes_S1x512x2048_S512x2048).numel_eq X
abbrev dnO {α : Type} (X : S1x256x2048.Idx → α) : S256x2048.Idx → α := drop (squeezes_S1x256x2048_S256x2048).numel_eq X

/-- 256 rows of the device's `x`, and as the stage holds them. -/
abbrev Xrows (r : ℕ) (h : r ≤ 768 := by decide) : S256x4096.Idx → Elt F .f32 := fun i => X m c ((x8R r h).emb i)
abbrev xq (r : ℕ) (h : r ≤ 768 := by decide) : S1x256x4096.Idx → Elt F .f32 := up3 (Xrows m c r h)

/-- Casting them gives those rows of the cast `x`. -/
theorem pay_x (r : ℕ) (h : r ≤ 768) : k0_pay2 (xq m c r h) = X8rows m c r h := by
  funext i
  show _ = X8 m c _
  unfold X8 k0_pay2
  simp only [shapeCast, truncf, xq, up3, drop, Shape.reshapeEquiv_reshapeEquiv, Shape.reshapeEquiv_self]

/-- A tile of 512 rows of the device's columns of `w`, as the stage holds it. -/
abbrev wq (r : ℕ) (h : r ≤ 3584 := by decide) : S1x512x2048.Idx → Elt F .f32 :=
  upW fun i => W m c ((Rect.unit (s := S4096x8192) ![r, 2048 * c.val] S512x2048.size (wt_inb c h)).emb i)

/-- The device's columns of `w`, cast. -/
def W8 : S4096x2048.Idx → Elt F .fp8e5m2 := fun i =>
  k0_pay6 (fun _ => W m c ((Rect.unit (s := S4096x8192) ![0, 2048 * c.val] S4096x2048.size (wc_inb c)).emb i)) (fun a => ⟨0, by fin_cases a <;> decide⟩)
/-- A tile of it. -/
abbrev wk (r : ℕ) (h : r ≤ 3584 := by decide) : S512x2048.Idx → Elt F .fp8e5m2 := fun i => W8 m c ((w8R r h).emb i)

theorem pay_w (r : ℕ) (h : r ≤ 3584) : k0_pay6 (wq m c r h) = wk m c r h := by
  funext i
  show _ = W8 m c _
  unfold W8 k0_pay6
  simp only [shapeCast, truncf, wq, upW, drop, Shape.reshapeEquiv_reshapeEquiv, Shape.reshapeEquiv_self]
  congr 2
  funext a
  fin_cases a
  · refine Fin.ext ?_
    simp [Rect.emb, Rect.unit]
  · refine Fin.ext ?_
    simp [Rect.emb, Rect.unit]

theorem pay_w8 (r : ℕ) (h : r ≤ 3584) : k0_pay7 (wk m c r h) = wk m c r h := by
  funext i
  unfold k0_pay7
  simp only [shapeCast, Shape.reshapeEquiv_self]

/-- A tile fetched from where the program says. -/
theorem wq_of {o : Fin 2 → ℕ} {ho : ∀ a, o a + S512x2048.size a ≤ S4096x8192.size a} (r : ℕ) (h : r ≤ 3584) (he : o = ![r, 2048 * c.val]) :
    upW (fun i => W m c ((Rect.unit (s := S4096x8192) o S512x2048.size ho).emb i)) = wq m c r h := by subst he; rfl

/-- 512 rows of the cast `x` against one tile. -/
abbrev xk (h k : ℕ) (hh : h ≤ 512 := by decide) (hk : k ≤ 3584 := by decide) : S512x512.Idx → Elt F .fp8e5m2 :=
  fun i => X8 m c ((Rect.unit (s := S1024x4096) ![h, k] S512x512.size (xk_inb hh hk)).emb i)

/-- An accumulator after tile `t`: the 512 rows from `h`. -/
def acv (h : ℕ) (hh : h ≤ 512) : (t : ℕ) → t < 8 → S1x512x2048.Idx → Elt F .f32
  | 0, _ => k0_pay8 (wk m c 0 (by omega)) (xk m c h 0 hh (by omega))
  | t + 1, ht => k0_pay12 (wk m c (512 * (t + 1)) (by omega)) (xk m c h (512 * (t + 1)) hh (by omega)) (acv h hh t (by omega))

/-- What slot `j` of direction `b` holds once filled, with its unit axis. -/
abbrev rv (b : Bool) (j : ℕ) : S1x256x4096.Idx → Elt F .fp8e5m2 := up3 (got m b c j)

/-- The result's blocks before they leave: the device's own rows, and those of the slot `j` of direction `b`. -/
abbrev avO (v : F .f32) (h : ℕ) (hh : h ≤ 512 := by decide) : S1x512x2048.Idx → Elt F .f32 := k0_pay42 v (acv m c h hh 7 (by decide))
abbrev av (v : F .f32) (b : Bool) (j : ℕ) : S1x256x2048.Idx → Elt F .f32 := k0_pay44 v (rv m c b j) (W8 m c)

end Cert.Ring

end
-- ==== Proof.Moves.lean ====
/-
The steps of the device's run as the parts of the program use them: copies whose end on the chip is a window with
its unit axis dropped, stated on the window itself; a transfer of the device's own quarter, of which it keeps half a
share; an arrival that is forwarded later, of which it keeps half a share too; and the window made whole again.
-/
module

public import proofs.«01_k».proof.Proof.Values

@[expose] public section

noncomputable section

namespace Cert.Ring

open Cert.KernelIdeal Cert.KernelIdeal.Gen Cert.Step

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight Flight_mono)

variable {F : FTy → Type} [FloatOps F]

local notation "𝕄" => MT nD τ sig Unit (Elt F) ℕ UU ℕ

/-- A device's run of a part of its program. -/
abbrev run {α : Type} (c : Dev nD) (p : Prog (TpuEff nD τ sig (Elt F) Λ₀ .tc) α) (Q : α → sProp (MT nD τ sig Unit (Elt F) ℕ UU ℕ)) :
    sProp (MT nD τ sig Unit (Elt F) ℕ UU ℕ) := wp frame (wpE (defs₀ (F := F)) 𝒱₀ (c : Thread nD τ) none) Set.univ p Q

/-- A window of a device held. -/
abbrev has (c : Dev nD) {sp : Space} {s : Shape} {e : EltTy} (w : Memref sig .tc sp s e) (q : PosShare TreeShare) (X : s.Idx → Elt F e) :
    sProp (MT nD τ sig Unit (Elt F) ℕ UU ℕ) := owns (c : Thread nD τ) w q X

/-- A copy on its way, on a semaphore of the device. -/
abbrev going (c : Dev nD) (sm : DmaSem sig) (N : ℕ) (D : sProp (MT nD τ sig Unit (Elt F) ℕ UU ℕ)) : sProp (MT nD τ sig Unit (Elt F) ℕ UU ℕ) :=
  Flight EC (c : Thread nD τ) (.dma sm) () N D

/-- A semaphore's counter at zero. -/
abbrev idle (c : Dev nD) (sm : DmaSem sig) : sProp (MT nD τ sig Unit (Elt F) ℕ UU ℕ) := semVal ((c : Thread nD τ), .dma sm) 0

variable {α : Type} {Q : α → sProp (MT nD τ sig Unit (Elt F) ℕ UU ℕ)} {sp sp' : Space} {s s' t : Shape} {e : EltTy}

/-! ## Copies inside the device -/

/-- Into a window whose unit axis the copy drops. -/
theorem copy_in (c : Dev nD) {src : Memref sig .tc sp s' e} {win : Memref sig .tc sp' s e} {hq : s.Squeezes s'} {sm : DmaSem sig}
    {hsrc : src.view.WordExact} {hdst : (win.squeeze s' hq).view.WordExact} {hsem : DmaTarget.Typed (nD := nD) sp (.dma sm) (DmaTarget.here (nD := nD) (p := (Proc.tc : Proc τ)) (win.squeeze s' hq))}
    {k : PUnit → Prog (TpuEff nD τ sig (Elt F) Λ₀ .tc) α} {q : PosShare TreeShare} {X : s'.Idx → Elt F e} {Y : s.Idx → Elt F e}
    (N : ℕ) (hN : (win.squeeze s' hq).view.dmaCredit = N) (hN0 : 0 < N) :
    (has c src q X : sProp 𝕄) ⊢ iprop(has c win fullShare Y -∗ idle c sm
      -∗ (going c sm N iprop(has c win fullShare (drop hq.numel_eq.symm X) ∗ has c src q X) -∗ run c (k ⟨⟩) Q)
      -∗ run c (.op (.enqueueDma src (.here (win.squeeze s' hq)) (.dma sm) hsrc hdst hsem) k) Q) := by
  unfold run has going idle
  iintro Hs Hw Hv Hk
  ihave Hd := (owns_squeeze win hq fullShare Y) $$ Hw
  iapply (copy_window EC (c := (c : Thread nD τ)) (dst := win.squeeze s' hq) (sm := .dma sm) () N hN hN0) $$ [Hs Hd Hv]
  · isplitl [Hs]; · iexact Hs
    isplitl [Hd]; · iexact Hd
    iexact Hv
  iintro Hf
  iapply Hk
  iapply (Flight_mono EC (c : Thread nD τ) ?_) $$ Hf
  iintro ⟨Hd, Hs⟩
  isplitl [Hd]
  · iapply (owns_unsqueeze win hq fullShare X); iexact Hd
  · iexact Hs

/-- Out of a part of a memref, into such a window. -/
theorem copy_part_in (c : Dev nD) {src : Memref sig .tc sp t e} {r : Rect t} {hr : ∀ a, r.stride a = 1} {win : Memref sig .tc sp' s e}
    {hq : s.Squeezes r.shape} {sm : DmaSem sig}
    {hsrc : (src.slice r hr).view.WordExact} {hdst : (win.squeeze r.shape hq).view.WordExact}
    {hsem : DmaTarget.Typed (nD := nD) sp (.dma sm) (DmaTarget.here (nD := nD) (p := (Proc.tc : Proc τ)) (win.squeeze r.shape hq))}
    {k : PUnit → Prog (TpuEff nD τ sig (Elt F) Λ₀ .tc) α} {q : PosShare TreeShare} {X : t.Idx → Elt F e} {Y : s.Idx → Elt F e}
    (N : ℕ) (hN : (win.squeeze r.shape hq).view.dmaCredit = N) (hN0 : 0 < N) (Z : s.Idx → Elt F e)
    (hZ : drop hq.numel_eq.symm (fun i => X (r.emb i)) = Z) :
    (has c src q X : sProp 𝕄) ⊢ iprop(has c win fullShare Y -∗ idle c sm
      -∗ (going c sm N iprop(has c win fullShare Z ∗ has c src q X) -∗ run c (k ⟨⟩) Q)
      -∗ run c (.op (.enqueueDma (src.slice r hr) (.here (win.squeeze r.shape hq)) (.dma sm) hsrc hdst hsem) k) Q) := by
  subst hZ
  unfold run has going idle
  iintro Hs Hw Hv Hk
  ihave Hd := (owns_squeeze win hq fullShare Y) $$ Hw
  iapply (copy_part EC (c := (c : Thread nD τ)) (dst := win.squeeze r.shape hq) (sm := .dma sm) () N hN hN0) $$ [Hs Hd Hv]
  · isplitl [Hs]; · iexact Hs
    isplitl [Hd]; · iexact Hd
    iexact Hv
  iintro Hf
  iapply Hk
  iapply (Flight_mono EC (c : Thread nD τ) ?_) $$ Hf
  iintro ⟨Hd, Hs⟩
  isplitl [Hd]
  · iapply (owns_unsqueeze win hq fullShare _); iexact Hd
  · iexact Hs

/-- Out of a window whose unit axis the copy drops. -/
theorem copy_out (c : Dev nD) {win : Memref sig .tc sp s e} {dst : Memref sig .tc sp' s' e} {hq : s.Squeezes s'} {sm : DmaSem sig}
    {hsrc : (win.squeeze s' hq).view.WordExact} {hdst : dst.view.WordExact} {hsem : DmaTarget.Typed (nD := nD) sp (.dma sm) (DmaTarget.here (nD := nD) (p := (Proc.tc : Proc τ)) dst)}
    {k : PUnit → Prog (TpuEff nD τ sig (Elt F) Λ₀ .tc) α} {q : PosShare TreeShare} {X : s.Idx → Elt F e} {Y : s'.Idx → Elt F e}
    (N : ℕ) (hN : dst.view.dmaCredit = N) (hN0 : 0 < N) :
    (has c win q X : sProp 𝕄) ⊢ iprop(has c dst fullShare Y -∗ idle c sm
      -∗ (going c sm N iprop(has c dst fullShare (drop hq.numel_eq X) ∗ has c win q X) -∗ run c (k ⟨⟩) Q)
      -∗ run c (.op (.enqueueDma (win.squeeze s' hq) (.here dst) (.dma sm) hsrc hdst hsem) k) Q) := by
  unfold run has going idle
  iintro Hw Hd Hv Hk
  ihave Hs := (owns_squeeze win hq q X) $$ Hw
  iapply (copy_window EC (c := (c : Thread nD τ)) (dst := dst) (sm := .dma sm) () N hN hN0) $$ [Hs Hd Hv]
  · isplitl [Hs]; · iexact Hs
    isplitl [Hd]; · iexact Hd
    iexact Hv
  iintro Hf
  iapply Hk
  iapply (Flight_mono EC (c : Thread nD τ) ?_) $$ Hf
  iintro ⟨Hd, Hs⟩
  isplitl [Hd]
  · iexact Hd
  · ihave H := (owns_unsqueeze win hq q _) $$ Hs
    rw [drop_drop]
    iexact H

/-- What a copy of 256 rows of `x`, of a tile of `w`, of an accumulator and of an out buffer credits. -/
abbrev NX : ℕ := ((stX 0 0).squeeze S256x4096 squeezes_S1x256x4096_S256x4096).view.dmaCredit
abbrev NW : ℕ := ((stW 0 0).squeeze S512x2048 squeezes_S1x512x2048_S512x2048).view.dmaCredit
abbrev NA : ℕ := (oO 0 0).view.dmaCredit
abbrev NO : ℕ := (oF 0 0 0).view.dmaCredit
theorem NX_pos : 0 < NX := View.dmaCredit_pos _ (by decide)
theorem NW_pos : 0 < NW := View.dmaCredit_pos _ (by decide)
theorem NA_pos : 0 < NA := View.dmaCredit_pos _ (by decide)
theorem NO_pos : 0 < NO := View.dmaCredit_pos _ (by decide)

/-! ## Transfers -/

variable (m : (ℓ : Loc nD τ sig) → Buf (Elt F) ℓ)

theorem sent_own (b : Bool) (c : Dev nD) (j : ℕ) (hj : j < 2) : sent m b c j = X8rows m c (row0 b j) (row0_le b j) := by
  unfold sent; rw [show j / 2 = 0 by omega, orig_zero]

/-- A transfer of the device's own quarter, from row `r`: half a share of it stays. -/
theorem send_own (b : Bool) (j : ℕ) (hj : j < 2) (c d' : Dev nD) (hd : d' = nb b c) (n : ℕ) (hn : n = 2 + 2 * j + (if b then 1 else 0))
    {r : ℕ} {h : r ≤ 768} (hrow : row0 b j = r) {dst : Memref sig .tc .vmem S256x4096 .fp8e5m2} (hdt : slot b j (by omega) = dst)
    {sS sR : DmaSem sig} (hS : sendS b j (by omega) = sS) (hR : recvS b j (by omega) = sR)
    {hsc : dst.view.ref.isScScratch = false} {hsrc : (x8W r h).view.WordExact} {hdst : dst.view.WordExact}
    {hsem : DmaTarget.Typed .vmem (.dma sR) (.remote (Dev.tc d' : Thread nD τ) dst (.dma sS) hsc)}
    {k : PUnit → Prog (TpuEff nD τ sig (Elt F) Λ₀ .tc) α} :
    ctx m ⊢ iprop(has c (x8W r h) fullShare (X8rows m c r h) -∗ (∃ Y, has (nb b c) (slot b j (by omega)) fullShare Y)
      -∗ sendKit b j (by omega) c -∗ debt c n
      -∗ (has c (x8W r h) fullShare.left (X8rows m c r h) -∗ lent b j (by omega) c -∗ debt c (n + 1) -∗ run c (k ⟨⟩) Q)
      -∗ run c (.op (.enqueueDma (x8W r h) (.remote (Dev.tc d' : Thread nD τ) dst (.dma sS) hsc) (.dma sR) hsrc hdst hsem) k) Q) := by
  subst hrow
  have h6 : j < 6 := by omega
  have hs : srcM b j h6 = x8W (row0 b j) h := dif_pos hj
  unfold run has
  iintro #Hctx Hs Hd Hkit Hdebt Hk
  ihave Hs' := (owns_halves (c : Thread nD τ) (x8W (row0 b j) h) fullShare _).1 $$ Hs
  icases Hs' with ⟨Hl, Hr⟩
  iapply (send_step m b j h6 c d' hd n hn hs hdt hS hR) $$ Hctx [Hr] Hd Hkit Hdebt
  · rw [sent_own m b c j hj]; iexact Hr
  iintro Hlent Hdebt
  iapply Hk $$ Hl Hlent Hdebt

/-- The device's own quarter is whole again once the transfer has left. -/
theorem left_own (b : Bool) (j : ℕ) (hj : j < 2) (c : Dev nD) (n : ℕ) {r : ℕ} {h : r ≤ 768} (hrow : row0 b j = r)
    {sS : DmaSem sig} (hS : sendS b j (by omega) = sS)
    {srcw : Memref sig .tc .vmem S256x4096 .fp8e5m2} {dstw : Memref sig .tc .vmem S256x4096 .fp8e5m2} (hN : dstw.view.dmaCredit = N)
    {hsrc : srcw.view.WordExact} {hdst : dstw.view.WordExact} {k : PUnit → Prog (TpuEff nD τ sig (Elt F) Λ₀ .tc) α} :
    ctx m ⊢ iprop(lent b j (by omega) c -∗ debt c n
      -∗ (has c (x8W r h) fullShare.right (X8rows m c r h) -∗ idle c sS -∗ debt c n -∗ run c (k ⟨⟩) Q)
      -∗ run c (.op (.waitDma2 sS srcw dstw hsrc hdst) k) Q) := by
  subst hrow
  have h6 : j < 6 := by omega
  have hs : srcM b j h6 = x8W (row0 b j) h := dif_pos hj
  unfold run has idle
  iintro #Hctx Hl Hdebt Hk
  iapply (left_step m b j h6 c n hs hS hN) $$ Hctx Hl Hdebt
  rw [sent_own m b c j hj]
  iexact Hk

/-- An arrival that transfer `j + 2` forwards: half a share of the slot stays for the product. -/
theorem arrive_fwd (b : Bool) (j : ℕ) (h : j < 4) (c : Dev nD) (n : ℕ) (hn : 2 * j + 4 ≤ n) {sR : DmaSem sig} (hR : recvS b j (by omega) = sR)
    {srcw : Memref sig .tc .vmem S256x4096 .fp8e5m2} {dstw : Memref sig .tc .vmem S256x4096 .fp8e5m2} (hN : dstw.view.dmaCredit = N)
    {hsrc : srcw.view.WordExact} {hdst : dstw.view.WordExact} {k : PUnit → Prog (TpuEff nD τ sig (Elt F) Λ₀ .tc) α} :
    ctx m ⊢ iprop(recvKit b j (by omega) c -∗ debt c n
      -∗ (has c (rgW b j (by omega)) fullShare.left (rv m c b j) -∗ has c (slot b j (by omega)) fullShare.right (sent m b c (j + 2))
          -∗ idle c sR -∗ debt c n -∗ run c (k ⟨⟩) Q)
      -∗ run c (.op (.waitDma2 sR srcw dstw hsrc hdst) k) Q) := by
  have h6 : j < 6 := by omega
  have hg : got m b c j = sent m b c (j + 2) := by
    have hr : row0 b (j + 2) = row0 b j := by unfold row0; rw [Nat.add_mod_right]
    have ho : orig b c ((j + 2) / 2) = orig b c (j / 2 + 1) := by rw [show (j + 2) / 2 = j / 2 + 1 by omega]
    have hX : ∀ (r r' : ℕ) (h : r ≤ 768) (h' : r' ≤ 768), r = r' → ∀ d, X8rows m d r h = X8rows m d r' h' := by
      intro r r' h h' he d; subst he; rfl
    unfold got sent; rw [ho]
    exact hX _ _ _ _ hr.symm _
  unfold run has idle
  iintro #Hctx Hkit Hdebt Hk
  iapply (arrive_step m b j h6 c n hn hR hN) $$ Hctx Hkit Hdebt
  iintro Hs Hv Hdebt
  ihave Hs' := (owns_halves (c : Thread nD τ) (slot b j h6) fullShare _).1 $$ Hs
  icases Hs' with ⟨Hl, Hr⟩
  ihave Hl' := (owns_unsqueeze (rgW b j h6) squeezes_S1x256x4096_S256x4096 fullShare.left _) $$ Hl
  iapply Hk $$ Hl' [Hr] Hv Hdebt
  rw [← hg]; iexact Hr

/-- An arrival that is not forwarded. -/
theorem arrive_last (b : Bool) (j : ℕ) (h : j < 6) (c : Dev nD) (n : ℕ) (hn : 2 * j + 4 ≤ n) {sR : DmaSem sig} (hR : recvS b j h = sR)
    {srcw : Memref sig .tc .vmem S256x4096 .fp8e5m2} {dstw : Memref sig .tc .vmem S256x4096 .fp8e5m2} (hN : dstw.view.dmaCredit = N)
    {hsrc : srcw.view.WordExact} {hdst : dstw.view.WordExact} {k : PUnit → Prog (TpuEff nD τ sig (Elt F) Λ₀ .tc) α} :
    ctx m ⊢ iprop(recvKit b j h c -∗ debt c n
      -∗ (has c (rgW b j h) fullShare (rv m c b j) -∗ idle c sR -∗ debt c n -∗ run c (k ⟨⟩) Q)
      -∗ run c (.op (.waitDma2 sR srcw dstw hsrc hdst) k) Q) := by
  unfold run has idle
  iintro #Hctx Hkit Hdebt Hk
  iapply (arrive_step m b j h c n hn hR hN) $$ Hctx Hkit Hdebt
  iintro Hs Hv Hdebt
  ihave Hs' := (owns_unsqueeze (rgW b j h) squeezes_S1x256x4096_S256x4096 fullShare _) $$ Hs
  iapply Hk $$ Hs' Hv Hdebt

/-- A forwarded slot, whole again. -/
theorem slot_back (b : Bool) (j : ℕ) (h : j < 6) (c : Dev nD) {Y : S1x256x4096.Idx → Elt F .fp8e5m2} {Z : S256x4096.Idx → Elt F .fp8e5m2} :
    iprop(has c (rgW b j h) fullShare.left Y ∗ has c (slot b j h) fullShare.right Z) ⊢ (has c (rgW b j h) fullShare Y : sProp 𝕄) := by
  unfold has
  iintro ⟨Hl, Hr⟩
  ihave Hr' := (owns_unsqueeze (rgW b j h) squeezes_S1x256x4096_S256x4096 fullShare.right Z) $$ Hr
  iapply (owns_rejoin (c : Thread nD τ) (rgW b j h) fullShare (Φ := fun _ => True) Y)
  isplitl [Hl]; · iexact Hl
  unfold ownsSat owns
  icases Hr' with ⟨%f, -, Hr'⟩
  iexists f
  isplitr
  · ipureintro; trivial
  iexact Hr'

end Cert.Ring

end
-- ==== Proof.Parts.lean ====
/-
What the parts of the program hand to one another.
-/
module

public import proofs.«01_k».proof.Proof.Moves

@[expose] public section

noncomputable section

namespace Cert.Ring

open Cert.KernelIdeal Cert.KernelIdeal.Gen Cert.Step

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight Flight_mono)

variable {F : FTy → Type} [FloatOps F]

local notation "𝕄" => MT nD τ sig Unit (Elt F) ℕ UU ℕ

variable (m : (ℓ : Loc nD τ sig) → Buf (Elt F) ℓ) (c : Dev nD)

/-- A part of the program on the device's own buffers and semaphores. -/
abbrev on {β : Type 1} (f : (arg0 : Memref sig .tc .hbm S1024x4096 .f32) → arg0.IsWhole
    → (arg1 : Memref sig .tc .hbm S4096x8192 .f32) → arg1.IsWhole
    → (arg2 : Memref sig .tc .smem S1 .f32) → arg2.IsWhole
    → (arg3 : Memref sig .tc .smem S1 .f32) → arg3.IsWhole
    → (arg4 : Memref sig .tc .hbm S4096x2048 .f32) → arg4.IsWhole
    → (arg5 : Memref sig .tc .vmem S2x512x4096 .f32) → arg5.IsWhole
    → (arg6 : Memref sig .tc .vmem S1024x4096 .fp8e5m2) → arg6.IsWhole
    → (arg7 : Memref sig .tc .vmem S4096x2048 .fp8e5m2) → arg7.IsWhole
    → (arg8 : Memref sig .tc .vmem S2x512x2048 .f32) → arg8.IsWhole
    → (arg9 : Memref sig .tc .vmem S3x256x2048 .f32) → arg9.IsWhole
    → DmaSems sig S4 → DmaSems sig S2 → DmaSems sig S3 → DmaSems sig S6 → DmaSems sig S6 → DmaSems sig S6 → DmaSems sig S6
    → (arg17 : Memref sig .tc .vmem S6x256x4096 .fp8e5m2) → arg17.IsWhole
    → (arg18 : Memref sig .tc .vmem S6x256x4096 .fp8e5m2) → arg18.IsWhole → β) : β :=
  f xM (Memref.isWhole_whole _) wM (Memref.isWhole_whole _) sxM (Memref.isWhole_whole _) swM (Memref.isWhole_whole _) outM (Memref.isWhole_whole _) stM (Memref.isWhole_whole _) x8M (Memref.isWhole_whole _) w8M (Memref.isWhole_whole _) acM (Memref.isWhole_whole _) osM (Memref.isWhole_whole _)
    cc0_scratch5 cc0_scratch6 cc0_scratch7 cc0_scratch8 cc0_scratch9 cc0_scratch10 cc0_scratch11
    (rgM false) (Memref.isWhole_whole _) (rgM true) (Memref.isWhole_whole _)

/-- A window held, whatever it contains. -/
abbrev some' {sp : Space} {s : Shape} {e : EltTy} (w : Memref sig .tc sp s e) : sProp (MT nD τ sig Unit (Elt F) ℕ UU ℕ) :=
  iprop(∃ Y, has c w fullShare Y)

/-- The copy of 256 rows of `x`, from row `q`, to row `r` of stage slot `s`. -/
abbrev xCopy (k s r q : ℕ) (hk : k < 4 := by all_goals decide) (hs : s < 2 := by all_goals decide) (hr : r ≤ 256 := by all_goals decide) (hq : q ≤ 768 := by all_goals decide) :
    sProp (MT nD τ sig Unit (Elt F) ℕ UU ℕ) :=
  going c (stS k hk) NX iprop(has c (stX s r hs hr) fullShare (xq m c q hq) ∗ has c (xW q hq) fullShare (Xrows m c q hq))

/-- The copy of the tile of `w` from row `r` to stage slot `s`; it reads a share of `w`. -/
abbrev wCopy (s r : ℕ) (q : PosShare TreeShare) (hk : s < 4 := by all_goals decide) (hs : s < 2 := by all_goals decide) (hr : r ≤ 3584 := by all_goals decide) :
    sProp (MT nD τ sig Unit (Elt F) ℕ UU ℕ) :=
  going c (stS s hk) NW iprop(has c (stW s 0 hs (by decide)) fullShare (wq m c r hr) ∗ has c wM q (W m c))

/-- The copy of an accumulator's block of the result to its rows. -/
abbrev aCopy (v : F .f32) (s : ℕ) (a : Fin 2) (h : ℕ) (hs : s < 2 := by all_goals decide) (hh : h ≤ 512 := by all_goals decide) : sProp (MT nD τ sig Unit (Elt F) ℕ UU ℕ) :=
  going c (ownS s hs) NA iprop(has c (oO c a) fullShare (dnA (avO m c v h hh)) ∗ has c (acW s hs) fullShare (avO m c v h hh))

/-- The copy of the block of slot `j` of direction `b` out of out buffer `s`. -/
abbrev oCopy (v : F .f32) (s : ℕ) (w : Memref sig .tc .hbm S256x2048 .f32) (b : Bool) (j : ℕ) (hs : s < 3 := by all_goals decide) :
    sProp (MT nD τ sig Unit (Elt F) ℕ UU ℕ) :=
  going c (outS s hs) NO iprop(has c w fullShare (dnO (av m c v b j)) ∗ has c (osW s hs) fullShare (av m c v b j))

/-- What a transfer of a shape credits does not depend on the buffer. -/
theorem credit_vmem {s : Shape} {e : EltTy} (v w : View sig .tc .vmem s e) : v.dmaCredit = w.dmaCredit := rfl
theorem credit_hbm {s : Shape} {e : EltTy} (v w : View sig .tc .hbm s e) : v.dmaCredit = w.dmaCredit := rfl

/-! ## The copies, by place -/

section Copies

variable {m c}
variable {α : Type} {Q : α → sProp (MT nD τ sig Unit (Elt F) ℕ UU ℕ)}
variable {k : PUnit → Prog (TpuEff nD τ sig (Elt F) Λ₀ .tc) α}

theorem fetch_x (i s r q : ℕ) (hi : i < 4 := by all_goals decide) (hs : s < 2 := by all_goals decide) (hr : r ≤ 256 := by all_goals decide) (hq : q ≤ 768 := by all_goals decide)
    {hsrc hdst hsem} :
    has c (xW q hq) fullShare (Xrows m c q hq) ⊢ iprop(some' c (stX s r hs hr) -∗ idle c (stS i hi)
      -∗ (xCopy m c i s r q hi hs hr hq -∗ run c (k ⟨⟩) Q)
      -∗ run c (.op (.enqueueDma (xW q hq) (.here ((stX s r hs hr).squeeze S256x4096 squeezes_S1x256x4096_S256x4096)) (.dma (stS i hi)) hsrc hdst hsem) k) Q) := by
  iintro Hx ⟨%Y, Hs⟩ Hv Hk
  iapply (copy_in c NX (win := stX s r hs hr) rfl NX_pos) $$ Hx Hs Hv Hk

theorem wait_x (i s r q n : ℕ) (hi : i < 4 := by all_goals decide) (hs : s < 2 := by all_goals decide) (hr : r ≤ 256 := by all_goals decide) (hq : q ≤ 768 := by all_goals decide)
    {src : Memref sig .tc .hbm S256x4096 .f32} {hsrc hdst} :
    ctx m ⊢ iprop(xCopy m c i s r q hi hs hr hq -∗ debt c n
      -∗ (has c (stX s r hs hr) fullShare (xq m c q hq) -∗ has c (xW q hq) fullShare (Xrows m c q hq) -∗ idle c (stS i hi) -∗ debt c n -∗ run c (k ⟨⟩) Q)
      -∗ run c (.op (.waitDma2 (stS i hi) src ((stX s r hs hr).squeeze S256x4096 squeezes_S1x256x4096_S256x4096) hsrc hdst) k) Q) := by
  have hsm : (stS i hi).val < 17 := (by decide +kernel : ∀ i : Fin 4, (stS i.val i.isLt).val < 17) ⟨i, hi⟩
  iintro #Hctx Hf Hd Hk
  iapply (wait_copy m c n hsm (dstw := (stX s r hs hr).squeeze S256x4096 squeezes_S1x256x4096_S256x4096) (Nc := NX) rfl) $$ Hctx Hf Hd
  iintro ⟨Hs, Hx⟩ Hv Hd
  iapply Hk $$ Hs Hx Hv Hd

theorem fetch_w (s r : ℕ) (q : PosShare TreeShare) {o : Fin 2 → ℕ} {ho} (he : o = ![r, 2048 * c.val]) (hk : s < 4 := by all_goals decide) (hs : s < 2 := by all_goals decide)
    (hr : r ≤ 3584 := by all_goals decide) {hsrc hdst hsem} :
    has c wM q (W m c) ⊢ iprop(some' c (stW s 0 hs (by decide)) -∗ idle c (stS s hk)
      -∗ (wCopy m c s r q hk hs hr -∗ run c (k ⟨⟩) Q)
      -∗ run c (.op (.enqueueDma (wM.slice (Rect.unit (s := S4096x8192) o S512x2048.size ho) (fun _ => rfl))
          (.here ((stW s 0 hs (by decide)).squeeze S512x2048 squeezes_S1x512x2048_S512x2048)) (.dma (stS s hk)) hsrc hdst hsem) k) Q) := by
  have hN : ((stW s 0 hs (by decide)).squeeze S512x2048 squeezes_S1x512x2048_S512x2048).view.dmaCredit = NW := rfl
  iintro Hw ⟨%Y, Hs⟩ Hv Hk
  iapply (copy_part_in c (r := Rect.unit (s := S4096x8192) o S512x2048.size ho) NW (win := stW s 0 hs (Nat.zero_le _)) (hq := squeezes_S1x512x2048_S512x2048) hN NW_pos (wq m c r hr) (wq_of m c r hr he)) $$ Hw Hs Hv Hk

theorem wait_w (s r n : ℕ) (q : PosShare TreeShare) (hk : s < 4 := by all_goals decide) (hs : s < 2 := by all_goals decide) (hr : r ≤ 3584 := by all_goals decide)
    {src : Memref sig .tc .hbm S512x2048 .f32} {hsrc hdst} :
    ctx m ⊢ iprop(wCopy m c s r q hk hs hr -∗ debt c n
      -∗ (has c (stW s 0 hs (by decide)) fullShare (wq m c r hr) -∗ has c wM q (W m c) -∗ idle c (stS s hk) -∗ debt c n -∗ run c (k ⟨⟩) Q)
      -∗ run c (.op (.waitDma2 (stS s hk) src ((stW s 0 hs (by decide)).squeeze S512x2048 squeezes_S1x512x2048_S512x2048) hsrc hdst) k) Q) := by
  have hsm : (stS s hk).val < 17 := (by decide +kernel : ∀ i : Fin 4, (stS i.val i.isLt).val < 17) ⟨s, hk⟩
  iintro #Hctx Hf Hd Hk
  iapply (wait_copy m c n hsm (dstw := (stW s 0 hs (Nat.zero_le _)).squeeze S512x2048 squeezes_S1x512x2048_S512x2048) (Nc := NW) rfl) $$ Hctx Hf Hd
  iintro ⟨Hs, Hx⟩ Hv Hd
  iapply Hk $$ Hs Hx Hv Hd

theorem put_a (v : F .f32) (s : ℕ) (a : Fin 2) (h : ℕ) (hs : s < 2 := by all_goals decide) (hh : h ≤ 512 := by all_goals decide) {hsrc hdst hsem} :
    has c (acW s hs) fullShare (avO m c v h hh) ⊢ iprop(some' c (oO c a) -∗ idle c (ownS s hs)
      -∗ (aCopy m c v s a h hs hh -∗ run c (k ⟨⟩) Q)
      -∗ run c (.op (.enqueueDma ((acW s hs).squeeze S512x2048 squeezes_S1x512x2048_S512x2048) (.here (oO c a)) (.dma (ownS s hs))
          hsrc hdst hsem) k) Q) := by
  iintro Hx ⟨%Y, Hs⟩ Hv Hk
  iapply (copy_out c NA (dst := oO c a) rfl NA_pos) $$ Hx Hs Hv Hk

theorem wait_a (v : F .f32) (s : ℕ) (a : Fin 2) (h n : ℕ) (hs : s < 2 := by all_goals decide) (hh : h ≤ 512 := by all_goals decide) {src : Memref sig .tc .vmem S512x2048 .f32} {hsrc hdst} :
    ctx m ⊢ iprop(aCopy m c v s a h hs hh -∗ debt c n
      -∗ (has c (oO c a) fullShare (dnA (avO m c v h hh)) -∗ has c (acW s hs) fullShare (avO m c v h hh) -∗ idle c (ownS s hs) -∗ debt c n
        -∗ run c (k ⟨⟩) Q)
      -∗ run c (.op (.waitDma2 (ownS s hs) src (oO c a) hsrc hdst) k) Q) := by
  have hsm : (ownS s hs).val < 17 := (by decide +kernel : ∀ i : Fin 2, (ownS i.val i.isLt).val < 17) ⟨s, hs⟩
  iintro #Hctx Hf Hd Hk
  iapply (wait_copy m c n hsm (dstw := oO c a) (Nc := NA) rfl) $$ Hctx Hf Hd
  iintro ⟨Hs, Hx⟩ Hv Hd
  iapply Hk $$ Hs Hx Hv Hd

/-- The result's windows of 256 rows, by direction. -/
abbrev oB (c : Dev nD) : Bool → Fin 3 → Fin 2 → Memref sig .tc .hbm S256x2048 .f32
  | false => oF c
  | true => oT c

theorem put_o (v : F .f32) (s : ℕ) (b : Bool) (t : Fin 3) (a : Fin 2) (j : ℕ) (hs : s < 3 := by all_goals decide) {hsrc hdst hsem} :
    has c (osW s hs) fullShare (av m c v b j) ⊢ iprop(some' c (oB c b t a) -∗ idle c (outS s hs)
      -∗ (oCopy m c v s (oB c b t a) b j hs -∗ run c (k ⟨⟩) Q)
      -∗ run c (.op (.enqueueDma ((osW s hs).squeeze S256x2048 squeezes_S1x256x2048_S256x2048) (.here (oB c b t a)) (.dma (outS s hs)) hsrc hdst hsem) k) Q) := by
  iintro Hx ⟨%Y, Hs⟩ Hv Hk
  iapply (copy_out c NO (dst := oB c b t a) (credit_hbm _ _) NO_pos) $$ Hx Hs Hv Hk

theorem wait_o (v : F .f32) (s : ℕ) (b : Bool) (t : Fin 3) (a : Fin 2) (j n : ℕ) (hs : s < 3 := by all_goals decide) {src : Memref sig .tc .vmem S256x2048 .f32} {hsrc hdst} :
    ctx m ⊢ iprop(oCopy m c v s (oB c b t a) b j hs -∗ debt c n
      -∗ (has c (oB c b t a) fullShare (dnO (av m c v b j)) -∗ has c (osW s hs) fullShare (av m c v b j) -∗ idle c (outS s hs) -∗ debt c n -∗ run c (k ⟨⟩) Q)
      -∗ run c (.op (.waitDma2 (outS s hs) src (oB c b t a) hsrc hdst) k) Q) := by
  have hsm : (outS s hs).val < 17 := (by decide +kernel : ∀ i : Fin 3, (outS i.val i.isLt).val < 17) ⟨s, hs⟩
  iintro #Hctx Hf Hd Hk
  iapply (wait_copy m c n hsm (dstw := oB c b t a) (Nc := NO) (credit_hbm _ _)) $$ Hctx Hf Hd
  iintro ⟨Hs, Hx⟩ Hv Hd
  iapply Hk $$ Hs Hx Hv Hd

end Copies

/-! ## The transfers, by place -/

theorem sem6_inb {k : ℕ} (h : k < 6) : ∀ a : Fin 1, ![k] a + S1.size a ≤ S6.size a := by
  intro a; fin_cases a; show k + 1 ≤ 6; omega

abbrev sndA : Bool → DmaSems sig S6
  | false => cc0_scratch8
  | true => cc0_scratch10
abbrev rcvA : Bool → DmaSems sig S6
  | false => cc0_scratch9
  | true => cc0_scratch11
/-- The two semaphores of transfer `j` of direction `b`, as the program names them. -/
abbrev sndS (b : Bool) (j : ℕ) (h : j < 6 := by all_goals decide) : DmaSem sig :=
  (((sndA b).slice (Rect.unit (s := S6) ![j] S1.size (sem6_inb h))).squeeze S_ squeezes_S1_S_).sem
abbrev rcvS (b : Bool) (j : ℕ) (h : j < 6 := by all_goals decide) : DmaSem sig :=
  (((rcvA b).slice (Rect.unit (s := S6) ![j] S1.size (sem6_inb h))).squeeze S_ squeezes_S1_S_).sem

theorem sndS_eq (b : Bool) (j : ℕ) (h : j < 6) : sendS b j h = sndS b j h :=
  (by decide +kernel : ∀ (b : Bool) (j : Fin 6), sendS b j.val j.isLt = sndS b j.val j.isLt) b ⟨j, h⟩
theorem rcvS_eq (b : Bool) (j : ℕ) (h : j < 6) : recvS b j h = rcvS b j h :=
  (by decide +kernel : ∀ (b : Bool) (j : Fin 6), recvS b j.val j.isLt = rcvS b j.val j.isLt) b ⟨j, h⟩

section Devices
variable (c : Dev nD)
theorem dev1_eq : (⟨k0_dev1 c, k0_dev1_lt c⟩ : Dev nD) = nb true c := Fin.ext (k0_dev1_eq c)
theorem dev2_eq : (⟨k0_dev2 c, k0_dev2_lt c⟩ : Dev nD) = nb false c := Fin.ext (k0_dev2_eq c)
theorem dev3_eq : (⟨k0_dev3 c, k0_dev3_lt c⟩ : Dev nD) = nb false c := Fin.ext (k0_dev3_eq c)
theorem dev4_eq : (⟨k0_dev4 c, k0_dev4_lt c⟩ : Dev nD) = nb true c := Fin.ext (k0_dev4_eq c)
theorem dev5_eq : (⟨k0_dev5 c, k0_dev5_lt c⟩ : Dev nD) = nb false c := Fin.ext (k0_dev5_eq c)
theorem dev6_eq : (⟨k0_dev6 c, k0_dev6_lt c⟩ : Dev nD) = nb true c := Fin.ext (k0_dev6_eq c)
theorem dev7_eq : (⟨k0_dev7 c, k0_dev7_lt c⟩ : Dev nD) = nb false c := Fin.ext (k0_dev7_eq c)
theorem dev8_eq : (⟨k0_dev8 c, k0_dev8_lt c⟩ : Dev nD) = nb true c := Fin.ext (k0_dev8_eq c)
theorem dev9_eq : (⟨k0_dev9 c, k0_dev9_lt c⟩ : Dev nD) = nb false c := Fin.ext (k0_dev9_eq c)
theorem dev10_eq : (⟨k0_dev10 c, k0_dev10_lt c⟩ : Dev nD) = nb true c := Fin.ext (k0_dev10_eq c)
theorem dev11_eq : (⟨k0_dev11 c, k0_dev11_lt c⟩ : Dev nD) = nb false c := Fin.ext (k0_dev11_eq c)
theorem dev12_eq : (⟨k0_dev12 c, k0_dev12_lt c⟩ : Dev nD) = nb true c := Fin.ext (k0_dev12_eq c)
theorem dev13_eq : (⟨k0_dev13 c, k0_dev13_lt c⟩ : Dev nD) = nb false c := Fin.ext (k0_dev13_eq c)
theorem dev14_eq : (⟨k0_dev14 c, k0_dev14_lt c⟩ : Dev nD) = nb true c := Fin.ext (k0_dev14_eq c)
end Devices

section Transfers

variable {m c}
variable {α : Type} {Q : α → sProp (MT nD τ sig Unit (Elt F) ℕ UU ℕ)}
variable {k : PUnit → Prog (TpuEff nD τ sig (Elt F) Λ₀ .tc) α}

/-- The payment transfer `j` of direction `b` is. -/
abbrev turn (b : Bool) (j : ℕ) : ℕ := 2 + 2 * j + (if b then 1 else 0)

theorem ship_own (b : Bool) (j r n : ℕ) {d' : Dev nD} (hd : d' = nb b c) (hj : j < 2 := by all_goals decide) (h6 : j < 6 := by all_goals decide) (h : r ≤ 768 := by all_goals decide)
    (hrow : row0 b j = r := by all_goals decide) (hn : n = turn b j := by all_goals decide) {hsc hsrc hdst hsem} :
    ctx m ⊢ iprop(has c (x8W r h) fullShare (X8rows m c r h) -∗ some' (nb b c) (slot b j h6)
      -∗ sendKit b j h6 c -∗ debt c n
      -∗ (has c (x8W r h) fullShare.left (X8rows m c r h) -∗ lent b j h6 c -∗ debt c (n + 1) -∗ run c (k ⟨⟩) Q)
      -∗ run c (.op (.enqueueDma (x8W r h) (.remote (Dev.tc d' : Thread nD τ) (slot b j h6) (.dma (sndS b j h6)) hsc) (.dma (rcvS b j h6)) hsrc hdst hsem) k) Q) :=
  send_own m b j hj c d' hd n hn hrow rfl (sndS_eq b j h6) (rcvS_eq b j h6)

theorem gone_own (b : Bool) (j r n : ℕ) (hj : j < 2 := by all_goals decide) (h6 : j < 6 := by all_goals decide) (h : r ≤ 768 := by all_goals decide)
    (hrow : row0 b j = r := by all_goals decide) {src : Memref sig .tc .vmem S256x4096 .fp8e5m2} {hsrc hdst} :
    ctx m ⊢ iprop(lent b j h6 c -∗ debt c n
      -∗ (has c (x8W r h) fullShare.right (X8rows m c r h) -∗ idle c (sndS b j h6) -∗ debt c n -∗ run c (k ⟨⟩) Q)
      -∗ run c (.op (.waitDma2 (sndS b j h6) src (x8W r h) hsrc hdst) k) Q) :=
  left_own m b j hj c n hrow (sndS_eq b j h6) (credit_vmem _ _)

theorem ship_fwd (b : Bool) (j n : ℕ) {d' : Dev nD} (hd : d' = nb b c) (hj : j < 4 := by all_goals decide) (h : j < 6 := by all_goals decide) (h6 : j + 2 < 6 := by all_goals decide)
    (hn : n = turn b (j + 2) := by all_goals decide) {hsc hsrc hdst hsem} :
    ctx m ⊢ iprop(has c (slot b j h) fullShare.right (sent m b c (j + 2)) -∗ some' (nb b c) (slot b (j + 2) h6)
      -∗ sendKit b (j + 2) h6 c -∗ debt c n
      -∗ (lent b (j + 2) h6 c -∗ debt c (n + 1) -∗ run c (k ⟨⟩) Q)
      -∗ run c (.op (.enqueueDma (slot b j h) (.remote (Dev.tc d' : Thread nD τ) (slot b (j + 2) h6) (.dma (sndS b (j + 2) h6)) hsc) (.dma (rcvS b (j + 2) h6))
          hsrc hdst hsem) k) Q) :=
  send_step m b (j + 2) h6 c d' hd n hn (dif_neg (by omega)) rfl (sndS_eq b _ h6) (rcvS_eq b _ h6)

theorem gone_fwd (b : Bool) (j n : ℕ) (hj : j < 4 := by all_goals decide) (h : j < 6 := by all_goals decide) (h6 : j + 2 < 6 := by all_goals decide)
    {src : Memref sig .tc .vmem S256x4096 .fp8e5m2} {hsrc hdst} :
    ctx m ⊢ iprop(lent b (j + 2) h6 c -∗ debt c n
      -∗ (has c (slot b j h) fullShare.right (sent m b c (j + 2)) -∗ idle c (sndS b (j + 2) h6) -∗ debt c n -∗ run c (k ⟨⟩) Q)
      -∗ run c (.op (.waitDma2 (sndS b (j + 2) h6) src (slot b j h) hsrc hdst) k) Q) :=
  left_step m b (j + 2) h6 c n (dif_neg (by omega)) (sndS_eq b _ h6) (credit_vmem _ _)

theorem here_fwd (b : Bool) (j n : ℕ) (hj : j < 4 := by all_goals decide) (h6 : j < 6 := by all_goals decide) (hn : 2 * j + 4 ≤ n := by all_goals decide)
    {src : Memref sig .tc .vmem S256x4096 .fp8e5m2} {hsrc hdst} :
    ctx m ⊢ iprop(recvKit b j h6 c -∗ debt c n
      -∗ (has c (rgW b j h6) fullShare.left (rv m c b j) -∗ has c (slot b j h6) fullShare.right (sent m b c (j + 2))
          -∗ idle c (rcvS b j h6) -∗ debt c n -∗ run c (k ⟨⟩) Q)
      -∗ run c (.op (.waitDma2 (rcvS b j h6) src (slot b j h6) hsrc hdst) k) Q) :=
  arrive_fwd m b j hj c n hn (rcvS_eq b j h6) (credit_vmem _ _)

theorem here_last (b : Bool) (j n : ℕ) (h6 : j < 6 := by all_goals decide) (hn : 2 * j + 4 ≤ n := by all_goals decide)
    {src : Memref sig .tc .vmem S256x4096 .fp8e5m2} {hsrc hdst} :
    ctx m ⊢ iprop(recvKit b j h6 c -∗ debt c n
      -∗ (has c (rgW b j h6) fullShare (rv m c b j) -∗ idle c (rcvS b j h6) -∗ debt c n -∗ run c (k ⟨⟩) Q)
      -∗ run c (.op (.waitDma2 (rcvS b j h6) src (slot b j h6) hsrc hdst) k) Q) :=
  arrive_last m b j h6 c n hn (rcvS_eq b j h6) (credit_vmem _ _)

end Transfers

end Cert.Ring

end
-- ==== Proof.Access.lean ====
/-
Loads and stores of the device's windows.
-/
module

public import proofs.«01_k».proof.Proof.Parts

@[expose] public section

noncomputable section

namespace Cert.Ring

open Cert.KernelIdeal Cert.KernelIdeal.Gen Cert.Step

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight Flight_mono)

variable {F : FTy → Type} [FloatOps F]

local notation "𝕄" => MT nD τ sig Unit (Elt F) ℕ UU ℕ

variable (m : (ℓ : Loc nD τ sig) → Buf (Elt F) ℓ) (c : Dev nD)

section Access

variable {m c}
variable {α : Type} {Q : α → sProp (MT nD τ sig Unit (Elt F) ℕ UU ℕ)} {sp : Space} {cs : CoreSpace} {s : Shape} {e : EltTy}

theorem run_ret {a : α} : (Q a : sProp 𝕄) ⊢ run c (.ret a) Q := by
  unfold run
  rw [wp_ret]
  iintro H
  imodintro
  iexact H

/-- A window's contents forgotten. -/
theorem any {w : Memref sig .tc sp s e} {X : s.Idx → Elt F e} : (has c w fullShare X : sProp 𝕄) ⊢ some' c w := by
  iintro H; iexists _; iexact H

/-- A window loaded. -/
theorem look {w : Memref sig .tc cs s e} {r : Rect s} {hr : ∀ a, r.stride a = 1} {hl : w.view.LoadsAt r.toLoadRect}
    {k : (r.shape.Idx → Elt F e) → Prog (TpuEff nD τ sig (Elt F) Λ₀ .tc) α} {q : PosShare TreeShare} {X : r.shape.Idx → Elt F e} :
    (has c (w.slice r hr) q X : sProp 𝕄) ⊢ iprop((has c (w.slice r hr) q X -∗ run c (k X) Q) -∗ run c (.op (.load w r.toLoadRect hl) k) Q) :=
  load_window (c := (c : Thread nD τ))

/-- A window loaded whose contents do not matter. -/
theorem look_any {w : Memref sig .tc cs s e} {r : Rect s} {hr : ∀ a, r.stride a = 1} {hl : w.view.LoadsAt r.toLoadRect}
    {k : (r.shape.Idx → Elt F e) → Prog (TpuEff nD τ sig (Elt F) Λ₀ .tc) α} :
    (some' c (w.slice r hr) : sProp 𝕄) ⊢ iprop((∀ X, some' c (w.slice r hr) -∗ run c (k X) Q) -∗ run c (.op (.load w r.toLoadRect hl) k) Q) := by
  iintro ⟨%X, H⟩ Hk
  iapply (look (k := k)) $$ H
  iintro H
  iapply Hk
  iexists _; iexact H

/-- A window stored over. -/
theorem put {w : Memref sig .tc cs s e} {r : Rect s} {hr : ∀ a, r.stride a = 1} {P : r.shape.Idx → Elt F e}
    {hx : (w.access r).Stores Finset.univ} {hm : Finset.univ = Finset.univ ∨ ∀ a, r.stride a = 1}
    {k : PUnit → Prog (TpuEff nD τ sig (Elt F) Λ₀ .tc) α} (Z : r.shape.Idx → Elt F e) (hZ : P = Z) :
    (some' c (w.slice r hr) : sProp 𝕄) ⊢ iprop((has c (w.slice r hr) fullShare Z -∗ run c (k ⟨⟩) Q) -∗ run c (.op (.store w r P Finset.univ hx hm) k) Q) := by
  subst hZ
  iintro ⟨%Y, H⟩ Hk
  iapply (store_window (c := (c : Thread nD τ)) (hr := hr)) $$ H Hk

/-- 512 rows of the cast `x` against one tile, loaded. -/
theorem look_x8 (h t : ℕ) (hh : h ≤ 512 := by all_goals decide) (ht : t ≤ 3584 := by all_goals decide) {hi} {hl}
    {k : (S512x512.Idx → Elt F .fp8e5m2) → Prog (TpuEff nD τ sig (Elt F) Λ₀ .tc) α} {q : PosShare TreeShare} :
    (has c x8M q (X8 m c) : sProp 𝕄) ⊢ iprop((has c x8M q (X8 m c) -∗ run c (k (xk m c h t hh ht)) Q)
      -∗ run c (.op (.load x8M (Rect.unit (s := S1024x4096) ![h, t] S512x512.size hi).toLoadRect hl) k) Q) :=
  load_part (c := (c : Thread nD τ)) (m := x8M) (r := Rect.unit (s := S1024x4096) ![h, t] S512x512.size hi)

theorem whole_w8 {hi} : (fun i => W8 m c ((Rect.unit (s := S4096x2048) ![0, 0] S4096x2048.size hi).emb i)) = W8 m c := by
  funext i
  congr 1
  funext a
  refine Fin.ext ?_
  fin_cases a <;> simp [Rect.emb, Rect.unit]

/-- The cast `w` loaded, all of it. -/
theorem look_w8 {hi} {hl} {k : (S4096x2048.Idx → Elt F .fp8e5m2) → Prog (TpuEff nD τ sig (Elt F) Λ₀ .tc) α} {q : PosShare TreeShare} :
    (has c w8M q (W8 m c) : sProp 𝕄) ⊢ iprop((has c w8M q (W8 m c) -∗ run c (k (W8 m c)) Q)
      -∗ run c (.op (.load w8M (Rect.unit (s := S4096x2048) ![0, 0] S4096x2048.size hi).toLoadRect hl) k) Q) := by
  have h := load_part (defs := defs₀ (F := F)) (𝒱 := 𝒱₀) (bd := none) (E := Set.univ) (c := (c : Thread nD τ)) (m := w8M) (q := q) (X := W8 m c)
    (r := Rect.unit (s := S4096x2048) ![0, 0] S4096x2048.size hi) (hl := hl) (k := k) (Q := Q)
  rw [whole_w8 (m := m) (c := c)] at h
  exact h

/-- The word of a scalar operand. -/
abbrev word (X : S1.Idx → Elt F .f32) : Elt F .f32 :=
  X ((Rect.unit (s := S1) ![0] S1.size inb_S1_S1_0).emb (Shape.Idx.first (numel1_S1.symm ▸ Nat.one_pos)))

end Access

/-! ## What the stores hold -/

section Stored

theorem acc_first (h : ℕ) (hh : h ≤ 512 := by all_goals decide) :
    k0_pay8 (k0_pay6 (wq m c 0)) (xk m c h 0 hh) = acv m c h hh 0 (by decide) := by
  rw [pay_w]; rfl
theorem acc_next (h t r : ℕ) (hh : h ≤ 512 := by all_goals decide) (ht : t + 1 < 8 := by all_goals decide) (hr : r ≤ 3584 := by all_goals decide) (he : r = 512 * (t + 1) := by all_goals decide) :
    k0_pay12 (k0_pay6 (wq m c r hr)) (xk m c h r hh hr) (acv m c h hh t (by omega)) = acv m c h hh (t + 1) ht := by
  subst he; rw [pay_w]; rfl
theorem tile_kept (r : ℕ) (hr : r ≤ 3584 := by all_goals decide) : k0_pay7 (k0_pay6 (wq m c r hr)) = wk m c r hr := by
  rw [pay_w, pay_w8]

/-- The scale both blocks of the result are multiplied by. -/
abbrev scale (A B : S1.Idx → Elt F .f32) : F .f32 := k0_pay1 (word A) (word B)

end Stored

end Cert.Ring

end
-- ==== Proof.P1.lean ====
/-
The parts of the program up to the last transfer of the device's own rows.
-/
module

public import proofs.«01_k».proof.Proof.Access

@[expose] public section

noncomputable section

namespace Cert.Ring

open Cert.KernelIdeal Cert.KernelIdeal.Gen Cert.Step

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight Flight_mono)

variable {F : FTy → Type} [FloatOps F]

local notation "𝕄" => MT nD τ sig Unit (Elt F) ℕ UU ℕ

variable (m : (ℓ : Loc nD τ sig) → Buf (Elt F) ℓ) (c : Dev nD)

/-- Three quarters of `x` start for the stage. -/
theorem part1 {Q : (Σ' (d0 : Dev nD) (v2 : BitVec 32) (v5 : BitVec 32), BitVec 32) → sProp (MT nD τ sig Unit (Elt F) ℕ UU ℕ)} :
    ctx m ⊢ iprop(has c (xW 0) fullShare (Xrows m c 0) -∗ some' c (stX 0 0) -∗ idle c (stS 0) -∗ has c (xW 256) fullShare (Xrows m c 256) -∗ some' c (stX 0 256) -∗ idle c (stS 1) -∗ has c (xW 512) fullShare (Xrows m c 512) -∗ some' c (stX 1 0) -∗ idle c (stS 2)
      -∗ (∀ v2 v5 v7, xCopy m c 0 0 0 0 -∗ xCopy m c 1 0 256 256 -∗ xCopy m c 2 1 0 512 -∗ Q ⟨c, v2, v5, v7⟩)
      -∗ run c (on (k0_part1 (F := F))) Q) := by
  unfold run on
  rw [k0_part1_eq_skeleton]; unfold k0_part1_skel
  simp only [Prog.lift, Prog.bind_op, Prog.bind_ret, Prog.pure_eq_ret, Prog.bind_assoc, wp_deviceId, semSignalWord, semWaitWord, smemLoad, smemLoadElt]
  iintro #Hctx HX0 HSX0_0 HIst0 HX256 HSX0_256 HIst1 HX512 HSX1_0 HIst2 Hk
  iapply (fetch_x 0 0 0 0) $$ HX0 HSX0_0 HIst0
  iintro HGx0
  iapply (fetch_x 1 0 256 256) $$ HX256 HSX0_256 HIst1
  iintro HGx1
  iapply (fetch_x 2 1 0 512) $$ HX512 HSX1_0 HIst2
  iintro HGx2
  iapply run_ret
  iapply Hk $$ HGx0 HGx1 HGx2

/-- The last quarter starts; both neighbours are told; the scale is read; the first quarter is cast. -/
theorem part2 (A B : S1.Idx → Elt F .f32) (v5 : BitVec 32) (v7 : BitVec 32) {Q : (F .f32) → sProp (MT nD τ sig Unit (Elt F) ℕ UU ℕ)} :
    ctx m ⊢ iprop(has c (xW 768) fullShare (Xrows m c 768) -∗ some' c (stX 1 256) -∗ idle c (stS 3) -∗ slots false c -∗ dutyTok ER (barCell (nb (!false) c)) 0 false -∗ debt c 0 -∗ slots true c -∗ dutyTok ER (barCell (nb (!true) c)) 0 true -∗ cred (tallyAt (barCell c) () 2) -∗ atPos ER (barCell c) 0 ∅ 0 -∗ has c sxM fullShare A -∗ has c swM fullShare B -∗ xCopy m c 0 0 0 0 -∗ some' c (x8W 0 (by decide))
      -∗ (xCopy m c 3 1 256 768 -∗ slots false (nb false c) -∗ slots true (nb true c) -∗ semVal (barCell c) 0 -∗ has c sxM fullShare A -∗ has c swM fullShare B -∗ has c (xW 0) fullShare (Xrows m c 0) -∗ idle c (stS 0) -∗ debt c 2 -∗ has c (stX 0 0) fullShare (xq m c 0) -∗ has c (x8W 0 (by decide)) fullShare (X8rows m c 0 (by decide)) -∗ Q (scale A B))
      -∗ run c (on (k0_part2 (F := F)) c v5 v7) Q) := by
  unfold run on
  rw [k0_part2_eq_skeleton]; unfold k0_part2_skel
  simp only [Prog.lift, Prog.bind_op, Prog.bind_ret, Prog.pure_eq_ret, Prog.bind_assoc, wp_deviceId, semSignalWord, semWaitWord, smemLoad, smemLoadElt]
  iintro #Hctx HX768 HSX1_256 HIst3 HV0 HB0 HD HV1 HB1 HC HCP HM0 HM1 HGx0 HE0 Hk
  iapply (fetch_x 3 1 256 768) $$ HX768 HSX1_256 HIst3
  iintro HGx3
  iapply (signal_step m false c _ (dev1_eq c) 0 rfl (sem := (SemArray.scalar (sig.barrier 0 rfl)).sem) rfl) $$ Hctx HV0 HB0 HD
  iintro HD
  iapply (signal_step m true c _ (dev2_eq c) 1 rfl (sem := (SemArray.scalar (sig.barrier 0 rfl)).sem) rfl) $$ Hctx HV1 HB1 HD
  iintro HD
  iapply (barrier_step m c (sem := (SemArray.scalar (sig.barrier 0 rfl)).sem) rfl) $$ Hctx HC HCP HD
  iintro HU0 HU1 HCZ HD
  iapply (load_part (c := (c : Thread nD τ)) (m := sxM)) $$ HM0
  iintro HM0
  iapply (load_part (c := (c : Thread nD τ)) (m := swM)) $$ HM1
  iintro HM1
  iapply (wait_x 0 0 0 0 2) $$ Hctx HGx0 HD
  iintro HSX0_0 HX0 HIst0 HD
  iapply look $$ HSX0_0
  iintro HSX0_0
  iapply look_any $$ HE0
  iintro %_ HE0
  iapply (put (X8rows m c 0 (by decide)) ?_) $$ HE0
  · exact pay_x m c 0 _
  iintro HE0
  iapply run_ret
  iapply Hk $$ HGx3 HU0 HU1 HCZ HM0 HM1 HX0 HIst0 HD HSX0_0 HE0

/-- The first quarter leaves to the right, the third to the left. -/
theorem part3 (v5 : BitVec 32) {Q : (PUnit) → sProp (MT nD τ sig Unit (Elt F) ℕ UU ℕ)} :
    ctx m ⊢ iprop(debt c 2 -∗ has c (x8W 0 (by decide)) fullShare (X8rows m c 0 (by decide)) -∗ some' (nb false c) (slot false 0 (by decide)) -∗ sendKit false 0 (by decide) c -∗ xCopy m c 2 1 0 512 -∗ some' c (x8W 512 (by decide)) -∗ some' (nb true c) (slot true 0 (by decide)) -∗ sendKit true 0 (by decide) c
      -∗ (has c (x8W 0 (by decide)) fullShare.left (X8rows m c 0 (by decide)) -∗ lent false 0 (by decide) c -∗ has c (xW 512) fullShare (Xrows m c 512) -∗ idle c (stS 2) -∗ has c (stX 1 0) fullShare (xq m c 512) -∗ has c (x8W 512 (by decide)) fullShare.left (X8rows m c 512 (by decide)) -∗ lent true 0 (by decide) c -∗ debt c 4 -∗ Q ⟨⟩)
      -∗ run c (on (k0_part3 (F := F)) c v5) Q) := by
  unfold run on
  rw [k0_part3_eq_skeleton]; unfold k0_part3_skel
  simp only [Prog.lift, Prog.bind_op, Prog.bind_ret, Prog.pure_eq_ret, Prog.bind_assoc, wp_deviceId, semSignalWord, semWaitWord, smemLoad, smemLoadElt]
  iintro #Hctx HD HE0 HY0_0 HK0_0 HGx2 HE512 HY1_0 HK1_0 Hk
  iapply (ship_own false 0 0 2 (dev3_eq c)) $$ Hctx HE0 HY0_0 HK0_0 HD
  iintro HE0 HL0_0 HD
  iapply (wait_x 2 1 0 512 3) $$ Hctx HGx2 HD
  iintro HSX1_0 HX512 HIst2 HD
  iapply look $$ HSX1_0
  iintro HSX1_0
  iapply look_any $$ HE512
  iintro %_ HE512
  iapply (put (X8rows m c 512 (by decide)) ?_) $$ HE512
  · exact pay_x m c 512 _
  iintro HE512
  iapply (ship_own true 0 512 3 (dev4_eq c)) $$ Hctx HE512 HY1_0 HK1_0 HD
  iintro HE512 HL1_0 HD
  iapply run_ret
  iapply Hk $$ HE0 HL0_0 HX512 HIst2 HSX1_0 HE512 HL1_0 HD

/-- The second quarter leaves to the right; the last one is cast. -/
theorem part4 (v7 : BitVec 32) {Q : (PUnit) → sProp (MT nD τ sig Unit (Elt F) ℕ UU ℕ)} :
    ctx m ⊢ iprop(debt c 4 -∗ xCopy m c 1 0 256 256 -∗ some' c (x8W 256 (by decide)) -∗ some' (nb false c) (slot false 1 (by decide)) -∗ sendKit false 1 (by decide) c -∗ xCopy m c 3 1 256 768 -∗ some' c (x8W 768 (by decide))
      -∗ (has c (xW 256) fullShare (Xrows m c 256) -∗ idle c (stS 1) -∗ has c (stX 0 256) fullShare (xq m c 256) -∗ has c (x8W 256 (by decide)) fullShare.left (X8rows m c 256 (by decide)) -∗ lent false 1 (by decide) c -∗ has c (xW 768) fullShare (Xrows m c 768) -∗ idle c (stS 3) -∗ debt c 5 -∗ has c (stX 1 256) fullShare (xq m c 768) -∗ has c (x8W 768 (by decide)) fullShare (X8rows m c 768 (by decide)) -∗ Q ⟨⟩)
      -∗ run c (on (k0_part4 (F := F)) c v7) Q) := by
  unfold run on
  rw [k0_part4_eq_skeleton]; unfold k0_part4_skel
  simp only [Prog.lift, Prog.bind_op, Prog.bind_ret, Prog.pure_eq_ret, Prog.bind_assoc, wp_deviceId, semSignalWord, semWaitWord, smemLoad, smemLoadElt]
  iintro #Hctx HD HGx1 HE256 HY0_1 HK0_1 HGx3 HE768 Hk
  iapply (wait_x 1 0 256 256 4) $$ Hctx HGx1 HD
  iintro HSX0_256 HX256 HIst1 HD
  iapply look $$ HSX0_256
  iintro HSX0_256
  iapply look_any $$ HE256
  iintro %_ HE256
  iapply (put (X8rows m c 256 (by decide)) ?_) $$ HE256
  · exact pay_x m c 256 _
  iintro HE256
  iapply (ship_own false 1 256 4 (dev5_eq c)) $$ Hctx HE256 HY0_1 HK0_1 HD
  iintro HE256 HL0_1 HD
  iapply (wait_x 3 1 256 768 5) $$ Hctx HGx3 HD
  iintro HSX1_256 HX768 HIst3 HD
  iapply look $$ HSX1_256
  iintro HSX1_256
  iapply look_any $$ HE768
  iintro %_ HE768
  iapply (put (X8rows m c 768 (by decide)) ?_) $$ HE768
  · exact pay_x m c 768 _
  iintro HE768
  iapply run_ret
  iapply Hk $$ HX256 HIst1 HSX0_256 HE256 HL0_1 HX768 HIst3 HD HSX1_256 HE768

/-- The last quarter leaves to the left; the first two tiles of `w` are fetched, one after the other. -/
theorem part5 (v2 : BitVec 32) (v5 : BitVec 32) {Q : (FVec F S512x2048 .fp8e5m2) → sProp (MT nD τ sig Unit (Elt F) ℕ UU ℕ)} :
    ctx m ⊢ iprop(debt c 5 -∗ has c (x8W 768 (by decide)) fullShare (X8rows m c 768 (by decide)) -∗ some' (nb true c) (slot true 1 (by decide)) -∗ sendKit true 1 (by decide) c -∗ has c wM fullShare.left (W m c) -∗ some' c (stW 0 0) -∗ idle c (stS 0) -∗ has c wM fullShare.right (W m c) -∗ some' c (stW 1 0) -∗ idle c (stS 1)
      -∗ (has c (x8W 768 (by decide)) fullShare.left (X8rows m c 768 (by decide)) -∗ lent true 1 (by decide) c -∗ wCopy m c 1 512 fullShare.right -∗ has c wM fullShare.left (W m c) -∗ idle c (stS 0) -∗ debt c 6 -∗ has c (stW 0 0) fullShare (wq m c 0) -∗ Q (k0_pay6 (wq m c 0)))
      -∗ run c (on (k0_part5 (F := F)) c v2 v5) Q) := by
  unfold run on
  rw [k0_part5_eq_skeleton]; unfold k0_part5_skel
  simp only [Prog.lift, Prog.bind_op, Prog.bind_ret, Prog.pure_eq_ret, Prog.bind_assoc, wp_deviceId, semSignalWord, semWaitWord, smemLoad, smemLoadElt]
  iintro #Hctx HD HE768 HY1_1 HK1_1 HW0 HSW0 HIst0 HW1 HSW1 HIst1 Hk
  iapply (ship_own true 1 768 5 (dev6_eq c)) $$ Hctx HE768 HY1_1 HK1_1 HD
  iintro HE768 HL1_1 HD
  iapply (fetch_w 0 0 fullShare.left (k0_off1_eq c)) $$ HW0 HSW0 HIst0
  iintro HGw0
  iapply (fetch_w 1 512 fullShare.right (k0_off2_eq c)) $$ HW1 HSW1 HIst1
  iintro HGw1
  iapply (wait_w 0 0 6 fullShare.left) $$ Hctx HGw0 HD
  iintro HSW0 HW0 HIst0 HD
  iapply look $$ HSW0
  iintro HSW0
  iapply run_ret
  iapply Hk $$ HE768 HL1_1 HGw1 HW0 HIst0 HD HSW0

end Cert.Ring

end
-- ==== Proof.P2.lean ====
/-
The parts of the program that accumulate the device's own rows, tiles 0 to 4.
-/
module

public import proofs.«01_k».proof.Proof.Access

@[expose] public section

noncomputable section

namespace Cert.Ring

open Cert.KernelIdeal Cert.KernelIdeal.Gen Cert.Step

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight Flight_mono)

variable {F : FTy → Type} [FloatOps F]

local notation "𝕄" => MT nD τ sig Unit (Elt F) ℕ UU ℕ

variable (m : (ℓ : Loc nD τ sig) → Buf (Elt F) ℓ) (c : Dev nD)

/-- Tile 0: both accumulators start. -/
theorem part6 (v2 : BitVec 32) {Q : (FVec F S512x2048 .fp8e5m2) → sProp (MT nD τ sig Unit (Elt F) ℕ UU ℕ)} :
    ctx m ⊢ iprop(some' c (w8W 0) -∗ has c wM fullShare.left (W m c) -∗ has c (stW 0 0) fullShare (wq m c 0) -∗ idle c (stS 0) -∗ has c x8M fullShare.left (X8 m c) -∗ some' c (acW 0) -∗ some' c (acW 1) -∗ debt c 6 -∗ wCopy m c 1 512 fullShare.right
      -∗ (has c (w8W 0) fullShare (wk m c 0) -∗ wCopy m c 0 1024 fullShare.left -∗ has c x8M fullShare.left (X8 m c) -∗ has c (acW 0) fullShare (acv m c 0 (by decide) 0 (by decide)) -∗ has c (acW 1) fullShare (acv m c 512 (by decide) 0 (by decide)) -∗ has c wM fullShare.right (W m c) -∗ idle c (stS 1) -∗ debt c 6 -∗ has c (stW 1 0) fullShare (wq m c 512) -∗ Q (k0_pay10 (wq m c 512)))
      -∗ run c (on (k0_part6 (F := F)) c v2 (k0_pay6 (wq m c 0))) Q) := by
  unfold run on
  rw [k0_part6_eq_skeleton]; unfold k0_part6_skel
  simp only [Prog.lift, Prog.bind_op, Prog.bind_ret, Prog.pure_eq_ret, Prog.bind_assoc, wp_deviceId, semSignalWord, semWaitWord, smemLoad, smemLoadElt]
  iintro #Hctx HT0 HW0 HSW0 HIst0 HX8 HA0 HA1 HD HGw1 Hk
  iapply look_any $$ HT0
  iintro %_ HT0
  iapply (put (wk m c 0) ?_) $$ HT0
  · exact tile_kept m c 0
  iintro HT0
  ihave HSW0 := any $$ HSW0
  iapply (fetch_w 0 1024 fullShare.left (k0_off3_eq c)) $$ HW0 HSW0 HIst0
  iintro HGw0
  iapply (look_x8 0 0) $$ HX8
  iintro HX8
  iapply (look_x8 512 0) $$ HX8
  iintro HX8
  iapply look_any $$ HA0
  iintro %_ HA0
  iapply (put (acv m c 0 (by decide) 0 (by decide)) ?_) $$ HA0
  · exact acc_first m c 0
  iintro HA0
  iapply look_any $$ HA1
  iintro %_ HA1
  iapply (put (acv m c 512 (by decide) 0 (by decide)) ?_) $$ HA1
  · exact acc_first m c 512
  iintro HA1
  iapply (wait_w 1 512 6 fullShare.right) $$ Hctx HGw1 HD
  iintro HSW1 HW1 HIst1 HD
  iapply look $$ HSW1
  iintro HSW1
  iapply run_ret
  iapply Hk $$ HT0 HGw0 HX8 HA0 HA1 HW1 HIst1 HD HSW1

/-- Tile 1. -/
theorem part7 (v2 : BitVec 32) {Q : (PUnit) → sProp (MT nD τ sig Unit (Elt F) ℕ UU ℕ)} :
    ctx m ⊢ iprop(some' c (w8W 512) -∗ has c wM fullShare.right (W m c) -∗ has c (stW 1 0) fullShare (wq m c 512) -∗ idle c (stS 1) -∗ has c x8M fullShare.left (X8 m c) -∗ has c (acW 0) fullShare (acv m c 0 (by decide) 0 (by decide)) -∗ has c (acW 1) fullShare (acv m c 512 (by decide) 0 (by decide))
      -∗ (has c (w8W 512) fullShare (wk m c 512) -∗ wCopy m c 1 1536 fullShare.right -∗ has c x8M fullShare.left (X8 m c) -∗ has c (acW 0) fullShare (acv m c 0 (by decide) 1 (by decide)) -∗ has c (acW 1) fullShare (acv m c 512 (by decide) 1 (by decide)) -∗ Q ⟨⟩)
      -∗ run c (on (k0_part7 (F := F)) c v2 (k0_pay10 (wq m c 512))) Q) := by
  unfold run on
  rw [k0_part7_eq_skeleton]; unfold k0_part7_skel
  simp only [Prog.lift, Prog.bind_op, Prog.bind_ret, Prog.pure_eq_ret, Prog.bind_assoc, wp_deviceId, semSignalWord, semWaitWord, smemLoad, smemLoadElt]
  iintro #Hctx HT512 HW1 HSW1 HIst1 HX8 HA0 HA1 Hk
  iapply look_any $$ HT512
  iintro %_ HT512
  iapply (put (wk m c 512) ?_) $$ HT512
  · exact tile_kept m c 512
  iintro HT512
  ihave HSW1 := any $$ HSW1
  iapply (fetch_w 1 1536 fullShare.right (k0_off4_eq c)) $$ HW1 HSW1 HIst1
  iintro HGw1
  iapply (look_x8 0 512) $$ HX8
  iintro HX8
  iapply (look_x8 512 512) $$ HX8
  iintro HX8
  iapply look $$ HA0
  iintro HA0
  iapply look $$ HA0
  iintro HA0
  ihave HA0 := any $$ HA0
  iapply (put (acv m c 0 (by decide) 1 (by decide)) ?_) $$ HA0
  · exact acc_next m c 0 0 512
  iintro HA0
  iapply look $$ HA1
  iintro HA1
  iapply look $$ HA1
  iintro HA1
  ihave HA1 := any $$ HA1
  iapply (put (acv m c 512 (by decide) 1 (by decide)) ?_) $$ HA1
  · exact acc_next m c 512 0 512
  iintro HA1
  iapply run_ret
  iapply Hk $$ HT512 HGw1 HX8 HA0 HA1

/-- Tile 2. -/
theorem part8 (v2 : BitVec 32) {Q : (FVec F S512x2048 .f32) → sProp (MT nD τ sig Unit (Elt F) ℕ UU ℕ)} :
    ctx m ⊢ iprop(debt c 6 -∗ wCopy m c 0 1024 fullShare.left -∗ some' c (w8W 1024) -∗ has c x8M fullShare.left (X8 m c) -∗ has c (acW 0) fullShare (acv m c 0 (by decide) 1 (by decide)) -∗ has c (acW 1) fullShare (acv m c 512 (by decide) 1 (by decide))
      -∗ (debt c 6 -∗ has c (w8W 1024) fullShare (wk m c 1024) -∗ wCopy m c 0 2048 fullShare.left -∗ has c x8M fullShare.left (X8 m c) -∗ has c (acW 0) fullShare (acv m c 0 (by decide) 2 (by decide)) -∗ has c (acW 1) fullShare (acv m c 512 (by decide) 1 (by decide)) -∗ Q (k0_pay17 (wq m c 1024) (xk m c 512 1024) (acv m c 512 (by decide) 1 (by decide))))
      -∗ run c (on (k0_part8 (F := F)) c v2) Q) := by
  unfold run on
  rw [k0_part8_eq_skeleton]; unfold k0_part8_skel
  simp only [Prog.lift, Prog.bind_op, Prog.bind_ret, Prog.pure_eq_ret, Prog.bind_assoc, wp_deviceId, semSignalWord, semWaitWord, smemLoad, smemLoadElt]
  iintro #Hctx HD HGw0 HT1024 HX8 HA0 HA1 Hk
  iapply (wait_w 0 1024 6 fullShare.left) $$ Hctx HGw0 HD
  iintro HSW0 HW0 HIst0 HD
  iapply look $$ HSW0
  iintro HSW0
  iapply look_any $$ HT1024
  iintro %_ HT1024
  iapply (put (wk m c 1024) ?_) $$ HT1024
  · exact tile_kept m c 1024
  iintro HT1024
  ihave HSW0 := any $$ HSW0
  iapply (fetch_w 0 2048 fullShare.left (k0_off5_eq c)) $$ HW0 HSW0 HIst0
  iintro HGw0
  iapply (look_x8 0 1024) $$ HX8
  iintro HX8
  iapply (look_x8 512 1024) $$ HX8
  iintro HX8
  iapply look $$ HA0
  iintro HA0
  iapply look $$ HA0
  iintro HA0
  ihave HA0 := any $$ HA0
  iapply (put (acv m c 0 (by decide) 2 (by decide)) ?_) $$ HA0
  · exact acc_next m c 0 1 1024
  iintro HA0
  iapply look $$ HA1
  iintro HA1
  iapply run_ret
  iapply Hk $$ HD HT1024 HGw0 HX8 HA0 HA1

/-- Tile 2 finished, tile 3 begun. -/
theorem part9 (v2 : BitVec 32) {Q : (Σ' (_ : FVec F S512x2048 .f32), FVec F S512x2048 .f32) → sProp (MT nD τ sig Unit (Elt F) ℕ UU ℕ)} :
    ctx m ⊢ iprop(has c (acW 1) fullShare (acv m c 512 (by decide) 1 (by decide)) -∗ debt c 6 -∗ wCopy m c 1 1536 fullShare.right -∗ some' c (w8W 1536) -∗ has c x8M fullShare.left (X8 m c) -∗ has c (acW 0) fullShare (acv m c 0 (by decide) 2 (by decide))
      -∗ (has c (acW 1) fullShare (acv m c 512 (by decide) 2 (by decide)) -∗ debt c 6 -∗ has c (w8W 1536) fullShare (wk m c 1536) -∗ wCopy m c 1 2560 fullShare.right -∗ has c x8M fullShare.left (X8 m c) -∗ has c (acW 0) fullShare (acv m c 0 (by decide) 2 (by decide)) -∗ Q ⟨(k0_pay21 (wq m c 1536) (xk m c 512 1536)), (k0_pay22 (wq m c 1536) (xk m c 0 1536) (acv m c 0 (by decide) 2 (by decide)))⟩)
      -∗ run c (on (k0_part9 (F := F)) c v2 (k0_pay17 (wq m c 1024) (xk m c 512 1024) (acv m c 512 (by decide) 1 (by decide)))) Q) := by
  unfold run on
  rw [k0_part9_eq_skeleton]; unfold k0_part9_skel
  simp only [Prog.lift, Prog.bind_op, Prog.bind_ret, Prog.pure_eq_ret, Prog.bind_assoc, wp_deviceId, semSignalWord, semWaitWord, smemLoad, smemLoadElt]
  iintro #Hctx HA1 HD HGw1 HT1536 HX8 HA0 Hk
  iapply look $$ HA1
  iintro HA1
  ihave HA1 := any $$ HA1
  iapply (put (acv m c 512 (by decide) 2 (by decide)) ?_) $$ HA1
  · exact acc_next m c 512 1 1024
  iintro HA1
  iapply (wait_w 1 1536 6 fullShare.right) $$ Hctx HGw1 HD
  iintro HSW1 HW1 HIst1 HD
  iapply look $$ HSW1
  iintro HSW1
  iapply look_any $$ HT1536
  iintro %_ HT1536
  iapply (put (wk m c 1536) ?_) $$ HT1536
  · exact tile_kept m c 1536
  iintro HT1536
  ihave HSW1 := any $$ HSW1
  iapply (fetch_w 1 2560 fullShare.right (k0_off6_eq c)) $$ HW1 HSW1 HIst1
  iintro HGw1
  iapply (look_x8 0 1536) $$ HX8
  iintro HX8
  iapply (look_x8 512 1536) $$ HX8
  iintro HX8
  iapply look $$ HA0
  iintro HA0
  iapply run_ret
  iapply Hk $$ HA1 HD HT1536 HGw1 HX8 HA0

/-- Tile 3 finished, tile 4 begun. -/
theorem part10 (v2 : BitVec 32) {Q : (Σ' (_ : FVec F S512x2048 .fp8e5m2), FVec F S512x2048 .f32) → sProp (MT nD τ sig Unit (Elt F) ℕ UU ℕ)} :
    ctx m ⊢ iprop(has c (acW 0) fullShare (acv m c 0 (by decide) 2 (by decide)) -∗ has c (acW 1) fullShare (acv m c 512 (by decide) 2 (by decide)) -∗ debt c 6 -∗ wCopy m c 0 2048 fullShare.left -∗ some' c (w8W 2048) -∗ has c x8M fullShare.left (X8 m c)
      -∗ (has c (acW 0) fullShare (acv m c 0 (by decide) 3 (by decide)) -∗ has c (acW 1) fullShare (acv m c 512 (by decide) 3 (by decide)) -∗ debt c 6 -∗ has c (w8W 2048) fullShare (wk m c 2048) -∗ wCopy m c 0 3072 fullShare.left -∗ has c x8M fullShare.left (X8 m c) -∗ Q ⟨(k0_pay25 (wq m c 2048)), (k0_pay27 (wq m c 2048) (xk m c 0 2048))⟩)
      -∗ run c (on (k0_part10 (F := F)) c v2 (k0_pay21 (wq m c 1536) (xk m c 512 1536)) (k0_pay22 (wq m c 1536) (xk m c 0 1536) (acv m c 0 (by decide) 2 (by decide)))) Q) := by
  unfold run on
  rw [k0_part10_eq_skeleton]; unfold k0_part10_skel
  simp only [Prog.lift, Prog.bind_op, Prog.bind_ret, Prog.pure_eq_ret, Prog.bind_assoc, wp_deviceId, semSignalWord, semWaitWord, smemLoad, smemLoadElt]
  iintro #Hctx HA0 HA1 HD HGw0 HT2048 HX8 Hk
  iapply look $$ HA0
  iintro HA0
  ihave HA0 := any $$ HA0
  iapply (put (acv m c 0 (by decide) 3 (by decide)) ?_) $$ HA0
  · exact acc_next m c 0 2 1536
  iintro HA0
  iapply look $$ HA1
  iintro HA1
  iapply look $$ HA1
  iintro HA1
  ihave HA1 := any $$ HA1
  iapply (put (acv m c 512 (by decide) 3 (by decide)) ?_) $$ HA1
  · exact acc_next m c 512 2 1536
  iintro HA1
  iapply (wait_w 0 2048 6 fullShare.left) $$ Hctx HGw0 HD
  iintro HSW0 HW0 HIst0 HD
  iapply look $$ HSW0
  iintro HSW0
  iapply look_any $$ HT2048
  iintro %_ HT2048
  iapply (put (wk m c 2048) ?_) $$ HT2048
  · exact tile_kept m c 2048
  iintro HT2048
  ihave HSW0 := any $$ HSW0
  iapply (fetch_w 0 3072 fullShare.left (k0_off7_eq c)) $$ HW0 HSW0 HIst0
  iintro HGw0
  iapply (look_x8 0 2048) $$ HX8
  iintro HX8
  iapply run_ret
  iapply Hk $$ HA0 HA1 HD HT2048 HGw0 HX8

end Cert.Ring

end
-- ==== Proof.P3.lean ====
/-
The parts of the program that accumulate the device's own rows, tiles 4 to 7.
-/
module

public import proofs.«01_k».proof.Proof.Access

@[expose] public section

noncomputable section

namespace Cert.Ring

open Cert.KernelIdeal Cert.KernelIdeal.Gen Cert.Step

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight Flight_mono)

variable {F : FTy → Type} [FloatOps F]

local notation "𝕄" => MT nD τ sig Unit (Elt F) ℕ UU ℕ

variable (m : (ℓ : Loc nD τ sig) → Buf (Elt F) ℓ) (c : Dev nD)

/-- Tile 4 finished. -/
theorem part11 (v2 : BitVec 32) {Q : (FVec F S512x2048 .fp8e5m2) → sProp (MT nD τ sig Unit (Elt F) ℕ UU ℕ)} :
    ctx m ⊢ iprop(has c x8M fullShare.left (X8 m c) -∗ has c (acW 0) fullShare (acv m c 0 (by decide) 3 (by decide)) -∗ has c (acW 1) fullShare (acv m c 512 (by decide) 3 (by decide)) -∗ debt c 6 -∗ wCopy m c 1 2560 fullShare.right -∗ some' c (w8W 2560)
      -∗ (has c x8M fullShare.left (X8 m c) -∗ has c (acW 0) fullShare (acv m c 0 (by decide) 4 (by decide)) -∗ has c (acW 1) fullShare (acv m c 512 (by decide) 4 (by decide)) -∗ has c wM fullShare.right (W m c) -∗ idle c (stS 1) -∗ debt c 6 -∗ has c (stW 1 0) fullShare (wq m c 2560) -∗ has c (w8W 2560) fullShare (wk m c 2560) -∗ Q (k0_pay30 (wq m c 2560)))
      -∗ run c (on (k0_part11 (F := F)) c v2 (k0_pay25 (wq m c 2048)) (k0_pay27 (wq m c 2048) (xk m c 0 2048))) Q) := by
  unfold run on
  rw [k0_part11_eq_skeleton]; unfold k0_part11_skel
  simp only [Prog.lift, Prog.bind_op, Prog.bind_ret, Prog.pure_eq_ret, Prog.bind_assoc, wp_deviceId, semSignalWord, semWaitWord, smemLoad, smemLoadElt]
  iintro #Hctx HX8 HA0 HA1 HD HGw1 HT2560 Hk
  iapply (look_x8 512 2048) $$ HX8
  iintro HX8
  iapply look $$ HA0
  iintro HA0
  iapply look $$ HA0
  iintro HA0
  ihave HA0 := any $$ HA0
  iapply (put (acv m c 0 (by decide) 4 (by decide)) ?_) $$ HA0
  · exact acc_next m c 0 3 2048
  iintro HA0
  iapply look $$ HA1
  iintro HA1
  iapply look $$ HA1
  iintro HA1
  ihave HA1 := any $$ HA1
  iapply (put (acv m c 512 (by decide) 4 (by decide)) ?_) $$ HA1
  · exact acc_next m c 512 3 2048
  iintro HA1
  iapply (wait_w 1 2560 6 fullShare.right) $$ Hctx HGw1 HD
  iintro HSW1 HW1 HIst1 HD
  iapply look $$ HSW1
  iintro HSW1
  iapply look_any $$ HT2560
  iintro %_ HT2560
  iapply (put (wk m c 2560) ?_) $$ HT2560
  · exact tile_kept m c 2560
  iintro HT2560
  iapply run_ret
  iapply Hk $$ HX8 HA0 HA1 HW1 HIst1 HD HSW1 HT2560

/-- Tile 5. -/
theorem part12 {Q : (FVec F S512x2048 .fp8e5m2) → sProp (MT nD τ sig Unit (Elt F) ℕ UU ℕ)} :
    ctx m ⊢ iprop(has c wM fullShare.right (W m c) -∗ has c (stW 1 0) fullShare (wq m c 2560) -∗ idle c (stS 1) -∗ has c x8M fullShare.left (X8 m c) -∗ has c (acW 0) fullShare (acv m c 0 (by decide) 4 (by decide)) -∗ has c (acW 1) fullShare (acv m c 512 (by decide) 4 (by decide)) -∗ debt c 6 -∗ wCopy m c 0 3072 fullShare.left
      -∗ (wCopy m c 1 3584 fullShare.right -∗ has c x8M fullShare.left (X8 m c) -∗ has c (acW 0) fullShare (acv m c 0 (by decide) 5 (by decide)) -∗ has c (acW 1) fullShare (acv m c 512 (by decide) 5 (by decide)) -∗ has c wM fullShare.left (W m c) -∗ idle c (stS 0) -∗ debt c 6 -∗ has c (stW 0 0) fullShare (wq m c 3072) -∗ Q (k0_pay34 (wq m c 3072)))
      -∗ run c (on (k0_part12 (F := F)) c (k0_pay30 (wq m c 2560))) Q) := by
  unfold run on
  rw [k0_part12_eq_skeleton]; unfold k0_part12_skel
  simp only [Prog.lift, Prog.bind_op, Prog.bind_ret, Prog.pure_eq_ret, Prog.bind_assoc, wp_deviceId, semSignalWord, semWaitWord, smemLoad, smemLoadElt]
  iintro #Hctx HW1 HSW1 HIst1 HX8 HA0 HA1 HD HGw0 Hk
  ihave HSW1 := any $$ HSW1
  iapply (fetch_w 1 3584 fullShare.right (k0_off8_eq c)) $$ HW1 HSW1 HIst1
  iintro HGw1
  iapply (look_x8 0 2560) $$ HX8
  iintro HX8
  iapply (look_x8 512 2560) $$ HX8
  iintro HX8
  iapply look $$ HA0
  iintro HA0
  iapply look $$ HA0
  iintro HA0
  ihave HA0 := any $$ HA0
  iapply (put (acv m c 0 (by decide) 5 (by decide)) ?_) $$ HA0
  · exact acc_next m c 0 4 2560
  iintro HA0
  iapply look $$ HA1
  iintro HA1
  iapply look $$ HA1
  iintro HA1
  ihave HA1 := any $$ HA1
  iapply (put (acv m c 512 (by decide) 5 (by decide)) ?_) $$ HA1
  · exact acc_next m c 512 4 2560
  iintro HA1
  iapply (wait_w 0 3072 6 fullShare.left) $$ Hctx HGw0 HD
  iintro HSW0 HW0 HIst0 HD
  iapply look $$ HSW0
  iintro HSW0
  iapply run_ret
  iapply Hk $$ HGw1 HX8 HA0 HA1 HW0 HIst0 HD HSW0

/-- Tile 6. -/
theorem part13 {Q : (FVec F S512x2048 .fp8e5m2) → sProp (MT nD τ sig Unit (Elt F) ℕ UU ℕ)} :
    ctx m ⊢ iprop(some' c (w8W 3072) -∗ has c x8M fullShare.left (X8 m c) -∗ has c (acW 0) fullShare (acv m c 0 (by decide) 5 (by decide)) -∗ has c (acW 1) fullShare (acv m c 512 (by decide) 5 (by decide)) -∗ debt c 6 -∗ wCopy m c 1 3584 fullShare.right
      -∗ (has c (w8W 3072) fullShare (wk m c 3072) -∗ has c x8M fullShare.left (X8 m c) -∗ has c (acW 0) fullShare (acv m c 0 (by decide) 6 (by decide)) -∗ has c (acW 1) fullShare (acv m c 512 (by decide) 6 (by decide)) -∗ has c wM fullShare.right (W m c) -∗ idle c (stS 1) -∗ debt c 6 -∗ has c (stW 1 0) fullShare (wq m c 3584) -∗ Q (k0_pay38 (wq m c 3584)))
      -∗ run c (on (k0_part13 (F := F)) c (k0_pay34 (wq m c 3072))) Q) := by
  unfold run on
  rw [k0_part13_eq_skeleton]; unfold k0_part13_skel
  simp only [Prog.lift, Prog.bind_op, Prog.bind_ret, Prog.pure_eq_ret, Prog.bind_assoc, wp_deviceId, semSignalWord, semWaitWord, smemLoad, smemLoadElt]
  iintro #Hctx HT3072 HX8 HA0 HA1 HD HGw1 Hk
  iapply look_any $$ HT3072
  iintro %_ HT3072
  iapply (put (wk m c 3072) ?_) $$ HT3072
  · exact tile_kept m c 3072
  iintro HT3072
  iapply (look_x8 0 3072) $$ HX8
  iintro HX8
  iapply (look_x8 512 3072) $$ HX8
  iintro HX8
  iapply look $$ HA0
  iintro HA0
  iapply look $$ HA0
  iintro HA0
  ihave HA0 := any $$ HA0
  iapply (put (acv m c 0 (by decide) 6 (by decide)) ?_) $$ HA0
  · exact acc_next m c 0 5 3072
  iintro HA0
  iapply look $$ HA1
  iintro HA1
  iapply look $$ HA1
  iintro HA1
  ihave HA1 := any $$ HA1
  iapply (put (acv m c 512 (by decide) 6 (by decide)) ?_) $$ HA1
  · exact acc_next m c 512 5 3072
  iintro HA1
  iapply (wait_w 1 3584 6 fullShare.right) $$ Hctx HGw1 HD
  iintro HSW1 HW1 HIst1 HD
  iapply look $$ HSW1
  iintro HSW1
  iapply run_ret
  iapply Hk $$ HT3072 HX8 HA0 HA1 HW1 HIst1 HD HSW1

/-- Tile 7; the first quarter has left. -/
theorem part14 (v7 : BitVec 32) {Q : (BitVec 32) → sProp (MT nD τ sig Unit (Elt F) ℕ UU ℕ)} :
    ctx m ⊢ iprop(some' c (w8W 3584) -∗ has c x8M fullShare.left (X8 m c) -∗ has c (acW 0) fullShare (acv m c 0 (by decide) 6 (by decide)) -∗ has c (acW 1) fullShare (acv m c 512 (by decide) 6 (by decide)) -∗ debt c 6 -∗ lent false 0 (by decide) c
      -∗ (∀ u, has c (w8W 3584) fullShare (wk m c 3584) -∗ has c x8M fullShare.left (X8 m c) -∗ has c (acW 0) fullShare (acv m c 0 (by decide) 7 (by decide)) -∗ has c (acW 1) fullShare (acv m c 512 (by decide) 7 (by decide)) -∗ has c (x8W 0 (by decide)) fullShare.right (X8rows m c 0 (by decide)) -∗ idle c (sndS false 0) -∗ debt c 6 -∗ Q u)
      -∗ run c (on (k0_part14 (F := F)) v7 (k0_pay38 (wq m c 3584))) Q) := by
  unfold run on
  rw [k0_part14_eq_skeleton]; unfold k0_part14_skel
  simp only [Prog.lift, Prog.bind_op, Prog.bind_ret, Prog.pure_eq_ret, Prog.bind_assoc, wp_deviceId, semSignalWord, semWaitWord, smemLoad, smemLoadElt]
  iintro #Hctx HT3584 HX8 HA0 HA1 HD HL0_0 Hk
  iapply look_any $$ HT3584
  iintro %_ HT3584
  iapply (put (wk m c 3584) ?_) $$ HT3584
  · exact tile_kept m c 3584
  iintro HT3584
  iapply (look_x8 0 3584) $$ HX8
  iintro HX8
  iapply (look_x8 512 3584) $$ HX8
  iintro HX8
  iapply look $$ HA0
  iintro HA0
  iapply look $$ HA0
  iintro HA0
  ihave HA0 := any $$ HA0
  iapply (put (acv m c 0 (by decide) 7 (by decide)) ?_) $$ HA0
  · exact acc_next m c 0 6 3584
  iintro HA0
  iapply look $$ HA1
  iintro HA1
  iapply look $$ HA1
  iintro HA1
  ihave HA1 := any $$ HA1
  iapply (put (acv m c 512 (by decide) 7 (by decide)) ?_) $$ HA1
  · exact acc_next m c 512 6 3584
  iintro HA1
  iapply (gone_own false 0 0 6) $$ Hctx HL0_0 HD
  iintro HF0 HIsnd0_0 HD
  iapply run_ret
  iapply Hk $$ HT3584 HX8 HA0 HA1 HF0 HIsnd0_0 HD

end Cert.Ring

end
-- ==== Proof.P4.lean ====
/-
The parts of the program that forward the first arrivals and multiply them.
-/
module

public import proofs.«01_k».proof.Proof.Access

@[expose] public section

noncomputable section

namespace Cert.Ring

open Cert.KernelIdeal Cert.KernelIdeal.Gen Cert.Step

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight Flight_mono)

variable {F : FTy → Type} [FloatOps F]

local notation "𝕄" => MT nD τ sig Unit (Elt F) ℕ UU ℕ

variable (m : (ℓ : Loc nD τ sig) → Buf (Elt F) ℓ) (c : Dev nD)

theorem part15 (v5 : BitVec 32) (v7 : BitVec 32) (w : BitVec 32) {Q : (PUnit) → sProp (MT nD τ sig Unit (Elt F) ℕ UU ℕ)} :
    ctx m ⊢ iprop(debt c 6 -∗ recvKit false 0 (by decide) c -∗ some' (nb false c) (slot false 2 (by decide)) -∗ sendKit false 2 (by decide) c -∗ lent true 0 (by decide) c
      -∗ (has c (rgW false 0 (by decide)) fullShare.left (rv m c false 0) -∗ idle c (rcvS false 0) -∗ lent false 2 (by decide) c -∗ has c (x8W 512 (by decide)) fullShare.right (X8rows m c 512 (by decide)) -∗ idle c (sndS true 0) -∗ debt c 7 -∗ Q ⟨⟩)
      -∗ run c (on (k0_part15 (F := F)) c v5 v7 w) Q) := by
  unfold run on
  rw [k0_part15_eq_skeleton]; unfold k0_part15_skel
  simp only [Prog.lift, Prog.bind_op, Prog.bind_ret, Prog.pure_eq_ret, Prog.bind_assoc, wp_deviceId, semSignalWord, semWaitWord, smemLoad, smemLoadElt]
  iintro #Hctx HD HR0_0 HY0_2 HK0_2 HL1_0 Hk
  iapply (here_fwd false 0 6) $$ Hctx HR0_0 HD
  iintro HP0_0 HH0_0 HIrcv0_0 HD
  iapply (ship_fwd false 0 6 (dev7_eq c)) $$ Hctx HH0_0 HY0_2 HK0_2 HD
  iintro HL0_2 HD
  iapply (gone_own true 0 512 7) $$ Hctx HL1_0 HD
  iintro HF512 HIsnd1_0 HD
  iapply run_ret
  iapply Hk $$ HP0_0 HIrcv0_0 HL0_2 HF512 HIsnd1_0 HD

theorem part16 (v : F .f32) (v2 : BitVec 32) (v5 : BitVec 32) {Q : (PUnit) → sProp (MT nD τ sig Unit (Elt F) ℕ UU ℕ)} :
    ctx m ⊢ iprop(debt c 7 -∗ recvKit true 0 (by decide) c -∗ some' (nb true c) (slot true 2 (by decide)) -∗ sendKit true 2 (by decide) c -∗ has c (acW 0) fullShare (acv m c 0 (by decide) 7 (by decide))
      -∗ (has c (rgW true 0 (by decide)) fullShare.left (rv m c true 0) -∗ idle c (rcvS true 0) -∗ lent true 2 (by decide) c -∗ debt c 8 -∗ has c (acW 0) fullShare (avO m c v 0 (by decide)) -∗ Q ⟨⟩)
      -∗ run c (on (k0_part16 (F := F)) c v2 v5 v) Q) := by
  unfold run on
  rw [k0_part16_eq_skeleton]; unfold k0_part16_skel
  simp only [Prog.lift, Prog.bind_op, Prog.bind_ret, Prog.pure_eq_ret, Prog.bind_assoc, wp_deviceId, semSignalWord, semWaitWord, smemLoad, smemLoadElt]
  iintro #Hctx HD HR1_0 HY1_2 HK1_2 HA0 Hk
  iapply (here_fwd true 0 7) $$ Hctx HR1_0 HD
  iintro HP1_0 HH1_0 HIrcv1_0 HD
  iapply (ship_fwd true 0 7 (dev8_eq c)) $$ Hctx HH1_0 HY1_2 HK1_2 HD
  iintro HL1_2 HD
  iapply look $$ HA0
  iintro HA0
  iapply look $$ HA0
  iintro HA0
  ihave HA0 := any $$ HA0
  iapply (put (avO m c v 0 (by decide)) ?_) $$ HA0
  · exact rfl
  iintro HA0
  iapply run_ret
  iapply Hk $$ HP1_0 HIrcv1_0 HL1_2 HD HA0

theorem part17 (v : F .f32) (v2 : BitVec 32) {Q : (BitVec 32) → sProp (MT nD τ sig Unit (Elt F) ℕ UU ℕ)} :
    ctx m ⊢ iprop(has c (acW 0) fullShare (avO m c v 0 (by decide)) -∗ some' c (oO c 0) -∗ idle c (ownS 0) -∗ has c (acW 1) fullShare (acv m c 512 (by decide) 7 (by decide)) -∗ some' c (oO c 1) -∗ idle c (ownS 1)
      -∗ (∀ u, aCopy m c v 0 0 0 -∗ aCopy m c v 1 1 512 -∗ Q u)
      -∗ run c (on (k0_part17 (F := F)) c v2 v) Q) := by
  unfold run on
  rw [k0_part17_eq_skeleton]; unfold k0_part17_skel
  simp only [Prog.lift, Prog.bind_op, Prog.bind_ret, Prog.pure_eq_ret, Prog.bind_assoc, wp_deviceId, semSignalWord, semWaitWord, smemLoad, smemLoadElt]
  iintro #Hctx HA0 HOO0 HIown0 HA1 HOO1 HIown1 Hk
  iapply (put_a v 0 0 0) $$ HA0 HOO0 HIown0
  iintro HGa0
  iapply look $$ HA1
  iintro HA1
  iapply look $$ HA1
  iintro HA1
  ihave HA1 := any $$ HA1
  iapply (put (avO m c v 512 (by decide)) ?_) $$ HA1
  · exact rfl
  iintro HA1
  iapply (put_a v 1 1 512) $$ HA1 HOO1 HIown1
  iintro HGa1
  iapply run_ret
  iapply Hk $$ HGa0 HGa1

theorem part18 (v : F .f32) (v2 : BitVec 32) (w : BitVec 32) {Q : (Σ' (v497 : BitVec 32) (v499 : FVec F S256x4096 .fp8e5m2) (v500 : Vec F S4096x2048 .fp8e5m2), FVec F S256x2048 .f32) → sProp (MT nD τ sig Unit (Elt F) ℕ UU ℕ)} :
    ctx m ⊢ iprop(has c (rgW false 0 (by decide)) fullShare.left (rv m c false 0) -∗ has c w8M fullShare (W8 m c) -∗ some' c (osW 0) -∗ some' c (oB c false 0 0) -∗ idle c (outS 0) -∗ has c (rgW true 0 (by decide)) fullShare.left (rv m c true 0)
      -∗ (∀ u, has c (rgW false 0 (by decide)) fullShare.left (rv m c false 0) -∗ oCopy m c v 0 (oB c false 0 0) false 0 -∗ has c (rgW true 0 (by decide)) fullShare.left (rv m c true 0) -∗ has c w8M fullShare (W8 m c) -∗ Q ⟨u, k0_pay45 (rv m c true 0), W8 m c, (constant S256x2048 .f32 0x00000000#32)⟩)
      -∗ run c (on (k0_part18 (F := F)) c v2 v w) Q) := by
  unfold run on
  rw [k0_part18_eq_skeleton]; unfold k0_part18_skel
  simp only [Prog.lift, Prog.bind_op, Prog.bind_ret, Prog.pure_eq_ret, Prog.bind_assoc, wp_deviceId, semSignalWord, semWaitWord, smemLoad, smemLoadElt]
  iintro #Hctx HP0_0 HW8 HO0 HOB0_0_0 HIout0 HP1_0 Hk
  iapply look $$ HP0_0
  iintro HP0_0
  iapply look_w8 $$ HW8
  iintro HW8
  iapply look_any $$ HO0
  iintro %_ HO0
  iapply (put (av m c v false 0) ?_) $$ HO0
  · exact rfl
  iintro HO0
  iapply (put_o v 0 false 0 0 0) $$ HO0 HOB0_0_0 HIout0
  iintro HGo0
  iapply look $$ HP1_0
  iintro HP1_0
  iapply look_w8 $$ HW8
  iintro HW8
  iapply run_ret
  iapply Hk $$ HP0_0 HGo0 HP1_0 HW8

theorem part19 (v : F .f32) (v7 : BitVec 32) (w : BitVec 32) {Q : (BitVec 32) → sProp (MT nD τ sig Unit (Elt F) ℕ UU ℕ)} :
    ctx m ⊢ iprop(some' c (osW 1) -∗ some' c (oB c true 0 0) -∗ idle c (outS 1) -∗ debt c 8 -∗ lent false 1 (by decide) c
      -∗ (∀ u, oCopy m c v 1 (oB c true 0 0) true 0 -∗ has c (x8W 256 (by decide)) fullShare.right (X8rows m c 256 (by decide)) -∗ idle c (sndS false 1) -∗ debt c 8 -∗ Q u)
      -∗ run c (on (k0_part19 (F := F)) c v7 v w (k0_pay45 (rv m c true 0)) (W8 m c) (constant S256x2048 .f32 0x00000000#32)) Q) := by
  unfold run on
  rw [k0_part19_eq_skeleton]; unfold k0_part19_skel
  simp only [Prog.lift, Prog.bind_op, Prog.bind_ret, Prog.pure_eq_ret, Prog.bind_assoc, wp_deviceId, semSignalWord, semWaitWord, smemLoad, smemLoadElt]
  iintro #Hctx HO1 HOB1_0_0 HIout1 HD HL0_1 Hk
  iapply look_any $$ HO1
  iintro %_ HO1
  iapply (put (av m c v true 0) ?_) $$ HO1
  · exact rfl
  iintro HO1
  iapply (put_o v 1 true 0 0 0) $$ HO1 HOB1_0_0 HIout1
  iintro HGo1
  iapply (gone_own false 1 256 8) $$ Hctx HL0_1 HD
  iintro HF256 HIsnd0_1 HD
  iapply run_ret
  iapply Hk $$ HGo1 HF256 HIsnd0_1 HD

theorem part20 (v5 : BitVec 32) (v7 : BitVec 32) (w : BitVec 32) {Q : (PUnit) → sProp (MT nD τ sig Unit (Elt F) ℕ UU ℕ)} :
    ctx m ⊢ iprop(debt c 8 -∗ recvKit false 1 (by decide) c -∗ some' (nb false c) (slot false 3 (by decide)) -∗ sendKit false 3 (by decide) c -∗ lent true 1 (by decide) c
      -∗ (has c (rgW false 1 (by decide)) fullShare.left (rv m c false 1) -∗ idle c (rcvS false 1) -∗ lent false 3 (by decide) c -∗ has c (x8W 768 (by decide)) fullShare.right (X8rows m c 768 (by decide)) -∗ idle c (sndS true 1) -∗ debt c 9 -∗ Q ⟨⟩)
      -∗ run c (on (k0_part20 (F := F)) c v5 v7 w) Q) := by
  unfold run on
  rw [k0_part20_eq_skeleton]; unfold k0_part20_skel
  simp only [Prog.lift, Prog.bind_op, Prog.bind_ret, Prog.pure_eq_ret, Prog.bind_assoc, wp_deviceId, semSignalWord, semWaitWord, smemLoad, smemLoadElt]
  iintro #Hctx HD HR0_1 HY0_3 HK0_3 HL1_1 Hk
  iapply (here_fwd false 1 8) $$ Hctx HR0_1 HD
  iintro HP0_1 HH0_1 HIrcv0_1 HD
  iapply (ship_fwd false 1 8 (dev9_eq c)) $$ Hctx HH0_1 HY0_3 HK0_3 HD
  iintro HL0_3 HD
  iapply (gone_own true 1 768 9) $$ Hctx HL1_1 HD
  iintro HF768 HIsnd1_1 HD
  iapply run_ret
  iapply Hk $$ HP0_1 HIrcv0_1 HL0_3 HF768 HIsnd1_1 HD

theorem part21 (v : F .f32) (v2 : BitVec 32) (v5 : BitVec 32) {Q : (Σ' (_ : BitVec 32), FVec F S256x2048 .f32) → sProp (MT nD τ sig Unit (Elt F) ℕ UU ℕ)} :
    ctx m ⊢ iprop(debt c 9 -∗ recvKit true 1 (by decide) c -∗ some' (nb true c) (slot true 3 (by decide)) -∗ sendKit true 3 (by decide) c -∗ has c (rgW false 1 (by decide)) fullShare.left (rv m c false 1) -∗ has c w8M fullShare (W8 m c)
      -∗ (∀ u, has c (rgW true 1 (by decide)) fullShare.left (rv m c true 1) -∗ idle c (rcvS true 1) -∗ lent true 3 (by decide) c -∗ debt c 10 -∗ has c (rgW false 1 (by decide)) fullShare.left (rv m c false 1) -∗ has c w8M fullShare (W8 m c) -∗ Q ⟨u, (k0_pay47 v (rv m c false 1) (W8 m c))⟩)
      -∗ run c (on (k0_part21 (F := F)) c v2 v5 v) Q) := by
  unfold run on
  rw [k0_part21_eq_skeleton]; unfold k0_part21_skel
  simp only [Prog.lift, Prog.bind_op, Prog.bind_ret, Prog.pure_eq_ret, Prog.bind_assoc, wp_deviceId, semSignalWord, semWaitWord, smemLoad, smemLoadElt]
  iintro #Hctx HD HR1_1 HY1_3 HK1_3 HP0_1 HW8 Hk
  iapply (here_fwd true 1 9) $$ Hctx HR1_1 HD
  iintro HP1_1 HH1_1 HIrcv1_1 HD
  iapply (ship_fwd true 1 9 (dev10_eq c)) $$ Hctx HH1_1 HY1_3 HK1_3 HD
  iintro HL1_3 HD
  iapply look $$ HP0_1
  iintro HP0_1
  iapply look_w8 $$ HW8
  iintro HW8
  iapply run_ret
  iapply Hk $$ HP1_1 HIrcv1_1 HL1_3 HD HP0_1 HW8

theorem part22 (v : F .f32) (v2 : BitVec 32) (w : BitVec 32) {Q : (Σ' (_ : BitVec 32), FVec F S256x2048 .f32) → sProp (MT nD τ sig Unit (Elt F) ℕ UU ℕ)} :
    ctx m ⊢ iprop(some' c (osW 2) -∗ some' c (oB c false 0 1) -∗ idle c (outS 2) -∗ has c (rgW true 1 (by decide)) fullShare.left (rv m c true 1) -∗ has c w8M fullShare (W8 m c)
      -∗ (∀ u, oCopy m c v 2 (oB c false 0 1) false 1 -∗ has c (rgW true 1 (by decide)) fullShare.left (rv m c true 1) -∗ has c w8M fullShare (W8 m c) -∗ Q ⟨u, (k0_pay49 v (rv m c true 1) (W8 m c))⟩)
      -∗ run c (on (k0_part22 (F := F)) c v2 v w (k0_pay47 v (rv m c false 1) (W8 m c))) Q) := by
  unfold run on
  rw [k0_part22_eq_skeleton]; unfold k0_part22_skel
  simp only [Prog.lift, Prog.bind_op, Prog.bind_ret, Prog.pure_eq_ret, Prog.bind_assoc, wp_deviceId, semSignalWord, semWaitWord, smemLoad, smemLoadElt]
  iintro #Hctx HO2 HOB0_0_1 HIout2 HP1_1 HW8 Hk
  iapply look_any $$ HO2
  iintro %_ HO2
  iapply (put (av m c v false 1) ?_) $$ HO2
  · exact rfl
  iintro HO2
  iapply (put_o v 2 false 0 1 1) $$ HO2 HOB0_0_1 HIout2
  iintro HGo2
  iapply look $$ HP1_1
  iintro HP1_1
  iapply look_w8 $$ HW8
  iintro HW8
  iapply run_ret
  iapply Hk $$ HGo2 HP1_1 HW8

theorem part23 (v : F .f32) (v7 : BitVec 32) (w : BitVec 32) {Q : (PUnit) → sProp (MT nD τ sig Unit (Elt F) ℕ UU ℕ)} :
    ctx m ⊢ iprop(debt c 10 -∗ oCopy m c v 0 (oB c false 0 0) false 0 -∗ some' c (oB c true 0 1) -∗ lent false 2 (by decide) c
      -∗ (has c (oB c false 0 0) fullShare (dnO (av m c v false 0)) -∗ oCopy m c v 0 (oB c true 0 1) true 1 -∗ has c (slot false 0 (by decide)) fullShare.right (sent m false c 2) -∗ idle c (sndS false 2) -∗ debt c 10 -∗ Q ⟨⟩)
      -∗ run c (on (k0_part23 (F := F)) c v7 w (k0_pay49 v (rv m c true 1) (W8 m c))) Q) := by
  unfold run on
  rw [k0_part23_eq_skeleton]; unfold k0_part23_skel
  simp only [Prog.lift, Prog.bind_op, Prog.bind_ret, Prog.pure_eq_ret, Prog.bind_assoc, wp_deviceId, semSignalWord, semWaitWord, smemLoad, smemLoadElt]
  iintro #Hctx HD HGo0 HOB1_0_1 HL0_2 Hk
  iapply (wait_o v 0 false 0 0 0 10) $$ Hctx HGo0 HD
  iintro HOB0_0_0 HO0 HIout0 HD
  iapply look $$ HO0
  iintro HO0
  ihave HO0 := any $$ HO0
  iapply (put (av m c v true 1) ?_) $$ HO0
  · exact rfl
  iintro HO0
  iapply (put_o v 0 true 0 1 1) $$ HO0 HOB1_0_1 HIout0
  iintro HGo0
  iapply (gone_fwd false 0 10) $$ Hctx HL0_2 HD
  iintro HH0_0 HIsnd0_2 HD
  iapply run_ret
  iapply Hk $$ HOB0_0_0 HGo0 HH0_0 HIsnd0_2 HD

end Cert.Ring

end
-- ==== Proof.P5.lean ====
/-
The parts of the program that forward the second arrivals and multiply them.
-/
module

public import proofs.«01_k».proof.Proof.Access

@[expose] public section

noncomputable section

namespace Cert.Ring

open Cert.KernelIdeal Cert.KernelIdeal.Gen Cert.Step

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight Flight_mono)

variable {F : FTy → Type} [FloatOps F]

local notation "𝕄" => MT nD τ sig Unit (Elt F) ℕ UU ℕ

variable (m : (ℓ : Loc nD τ sig) → Buf (Elt F) ℓ) (c : Dev nD)

theorem part24 (v5 : BitVec 32) (v7 : BitVec 32) {Q : (PUnit) → sProp (MT nD τ sig Unit (Elt F) ℕ UU ℕ)} :
    ctx m ⊢ iprop(debt c 10 -∗ recvKit false 2 (by decide) c -∗ some' (nb false c) (slot false 4 (by decide)) -∗ sendKit false 4 (by decide) c -∗ lent true 2 (by decide) c -∗ recvKit true 2 (by decide) c
      -∗ (has c (rgW false 2 (by decide)) fullShare.left (rv m c false 2) -∗ idle c (rcvS false 2) -∗ lent false 4 (by decide) c -∗ has c (slot true 0 (by decide)) fullShare.right (sent m true c 2) -∗ idle c (sndS true 2) -∗ has c (rgW true 2 (by decide)) fullShare.left (rv m c true 2) -∗ has c (slot true 2 (by decide)) fullShare.right (sent m true c 4) -∗ idle c (rcvS true 2) -∗ debt c 11 -∗ Q ⟨⟩)
      -∗ run c (on (k0_part24 (F := F)) c v5 v7) Q) := by
  unfold run on
  rw [k0_part24_eq_skeleton]; unfold k0_part24_skel
  simp only [Prog.lift, Prog.bind_op, Prog.bind_ret, Prog.pure_eq_ret, Prog.bind_assoc, wp_deviceId, semSignalWord, semWaitWord, smemLoad, smemLoadElt]
  iintro #Hctx HD HR0_2 HY0_4 HK0_4 HL1_2 HR1_2 Hk
  iapply (here_fwd false 2 10) $$ Hctx HR0_2 HD
  iintro HP0_2 HH0_2 HIrcv0_2 HD
  iapply (ship_fwd false 2 10 (dev11_eq c)) $$ Hctx HH0_2 HY0_4 HK0_4 HD
  iintro HL0_4 HD
  iapply (gone_fwd true 0 11) $$ Hctx HL1_2 HD
  iintro HH1_0 HIsnd1_2 HD
  iapply (here_fwd true 2 11) $$ Hctx HR1_2 HD
  iintro HP1_2 HH1_2 HIrcv1_2 HD
  iapply run_ret
  iapply Hk $$ HP0_2 HIrcv0_2 HL0_4 HH1_0 HIsnd1_2 HP1_2 HH1_2 HIrcv1_2 HD

theorem part25 (v : F .f32) (v2 : BitVec 32) (v5 : BitVec 32) {Q : (Σ' (_ : BitVec 32), FVec F S256x2048 .f32) → sProp (MT nD τ sig Unit (Elt F) ℕ UU ℕ)} :
    ctx m ⊢ iprop(debt c 11 -∗ has c (slot true 2 (by decide)) fullShare.right (sent m true c 4) -∗ some' (nb true c) (slot true 4 (by decide)) -∗ sendKit true 4 (by decide) c -∗ has c (rgW false 2 (by decide)) fullShare.left (rv m c false 2) -∗ has c w8M fullShare (W8 m c)
      -∗ (∀ u, lent true 4 (by decide) c -∗ debt c 12 -∗ has c (rgW false 2 (by decide)) fullShare.left (rv m c false 2) -∗ has c w8M fullShare (W8 m c) -∗ Q ⟨u, (k0_pay51 v (rv m c false 2) (W8 m c))⟩)
      -∗ run c (on (k0_part25 (F := F)) c v2 v5 v) Q) := by
  unfold run on
  rw [k0_part25_eq_skeleton]; unfold k0_part25_skel
  simp only [Prog.lift, Prog.bind_op, Prog.bind_ret, Prog.pure_eq_ret, Prog.bind_assoc, wp_deviceId, semSignalWord, semWaitWord, smemLoad, smemLoadElt]
  iintro #Hctx HD HH1_2 HY1_4 HK1_4 HP0_2 HW8 Hk
  iapply (ship_fwd true 2 11 (dev12_eq c)) $$ Hctx HH1_2 HY1_4 HK1_4 HD
  iintro HL1_4 HD
  iapply look $$ HP0_2
  iintro HP0_2
  iapply look_w8 $$ HW8
  iintro HW8
  iapply run_ret
  iapply Hk $$ HL1_4 HD HP0_2 HW8

theorem part26 (v : F .f32) (v2 : BitVec 32) (w : BitVec 32) {Q : (Σ' (_ : BitVec 32), FVec F S256x2048 .f32) → sProp (MT nD τ sig Unit (Elt F) ℕ UU ℕ)} :
    ctx m ⊢ iprop(debt c 12 -∗ oCopy m c v 1 (oB c true 0 0) true 0 -∗ some' c (oB c false 1 0) -∗ has c (rgW true 2 (by decide)) fullShare.left (rv m c true 2) -∗ has c w8M fullShare (W8 m c)
      -∗ (∀ u, has c (oB c true 0 0) fullShare (dnO (av m c v true 0)) -∗ debt c 12 -∗ oCopy m c v 1 (oB c false 1 0) false 2 -∗ has c (rgW true 2 (by decide)) fullShare.left (rv m c true 2) -∗ has c w8M fullShare (W8 m c) -∗ Q ⟨u, (k0_pay53 v (rv m c true 2) (W8 m c))⟩)
      -∗ run c (on (k0_part26 (F := F)) c v2 v w (k0_pay51 v (rv m c false 2) (W8 m c))) Q) := by
  unfold run on
  rw [k0_part26_eq_skeleton]; unfold k0_part26_skel
  simp only [Prog.lift, Prog.bind_op, Prog.bind_ret, Prog.pure_eq_ret, Prog.bind_assoc, wp_deviceId, semSignalWord, semWaitWord, smemLoad, smemLoadElt]
  iintro #Hctx HD HGo1 HOB0_1_0 HP1_2 HW8 Hk
  iapply (wait_o v 1 true 0 0 0 12) $$ Hctx HGo1 HD
  iintro HOB1_0_0 HO1 HIout1 HD
  iapply look $$ HO1
  iintro HO1
  ihave HO1 := any $$ HO1
  iapply (put (av m c v false 2) ?_) $$ HO1
  · exact rfl
  iintro HO1
  iapply (put_o v 1 false 1 0 2) $$ HO1 HOB0_1_0 HIout1
  iintro HGo1
  iapply look $$ HP1_2
  iintro HP1_2
  iapply look_w8 $$ HW8
  iintro HW8
  iapply run_ret
  iapply Hk $$ HOB1_0_0 HD HGo1 HP1_2 HW8

theorem part27 (v : F .f32) (v7 : BitVec 32) (w : BitVec 32) {Q : (PUnit) → sProp (MT nD τ sig Unit (Elt F) ℕ UU ℕ)} :
    ctx m ⊢ iprop(debt c 12 -∗ oCopy m c v 2 (oB c false 0 1) false 1 -∗ some' c (oB c true 1 0) -∗ lent false 3 (by decide) c
      -∗ (has c (oB c false 0 1) fullShare (dnO (av m c v false 1)) -∗ oCopy m c v 2 (oB c true 1 0) true 2 -∗ has c (slot false 1 (by decide)) fullShare.right (sent m false c 3) -∗ idle c (sndS false 3) -∗ debt c 12 -∗ Q ⟨⟩)
      -∗ run c (on (k0_part27 (F := F)) c v7 w (k0_pay53 v (rv m c true 2) (W8 m c))) Q) := by
  unfold run on
  rw [k0_part27_eq_skeleton]; unfold k0_part27_skel
  simp only [Prog.lift, Prog.bind_op, Prog.bind_ret, Prog.pure_eq_ret, Prog.bind_assoc, wp_deviceId, semSignalWord, semWaitWord, smemLoad, smemLoadElt]
  iintro #Hctx HD HGo2 HOB1_1_0 HL0_3 Hk
  iapply (wait_o v 2 false 0 1 1 12) $$ Hctx HGo2 HD
  iintro HOB0_0_1 HO2 HIout2 HD
  iapply look $$ HO2
  iintro HO2
  ihave HO2 := any $$ HO2
  iapply (put (av m c v true 2) ?_) $$ HO2
  · exact rfl
  iintro HO2
  iapply (put_o v 2 true 1 0 2) $$ HO2 HOB1_1_0 HIout2
  iintro HGo2
  iapply (gone_fwd false 1 12) $$ Hctx HL0_3 HD
  iintro HH0_1 HIsnd0_3 HD
  iapply run_ret
  iapply Hk $$ HOB0_0_1 HGo2 HH0_1 HIsnd0_3 HD

theorem part28 (v5 : BitVec 32) (v7 : BitVec 32) {Q : (PUnit) → sProp (MT nD τ sig Unit (Elt F) ℕ UU ℕ)} :
    ctx m ⊢ iprop(debt c 12 -∗ recvKit false 3 (by decide) c -∗ some' (nb false c) (slot false 5 (by decide)) -∗ sendKit false 5 (by decide) c -∗ lent true 3 (by decide) c
      -∗ (has c (rgW false 3 (by decide)) fullShare.left (rv m c false 3) -∗ idle c (rcvS false 3) -∗ lent false 5 (by decide) c -∗ has c (slot true 1 (by decide)) fullShare.right (sent m true c 3) -∗ idle c (sndS true 3) -∗ debt c 13 -∗ Q ⟨⟩)
      -∗ run c (on (k0_part28 (F := F)) c v5 v7) Q) := by
  unfold run on
  rw [k0_part28_eq_skeleton]; unfold k0_part28_skel
  simp only [Prog.lift, Prog.bind_op, Prog.bind_ret, Prog.pure_eq_ret, Prog.bind_assoc, wp_deviceId, semSignalWord, semWaitWord, smemLoad, smemLoadElt]
  iintro #Hctx HD HR0_3 HY0_5 HK0_5 HL1_3 Hk
  iapply (here_fwd false 3 12) $$ Hctx HR0_3 HD
  iintro HP0_3 HH0_3 HIrcv0_3 HD
  iapply (ship_fwd false 3 12 (dev13_eq c)) $$ Hctx HH0_3 HY0_5 HK0_5 HD
  iintro HL0_5 HD
  iapply (gone_fwd true 1 13) $$ Hctx HL1_3 HD
  iintro HH1_1 HIsnd1_3 HD
  iapply run_ret
  iapply Hk $$ HP0_3 HIrcv0_3 HL0_5 HH1_1 HIsnd1_3 HD

theorem part29 (v : F .f32) (v2 : BitVec 32) (v5 : BitVec 32) {Q : (Σ' (_ : BitVec 32), FVec F S256x2048 .f32) → sProp (MT nD τ sig Unit (Elt F) ℕ UU ℕ)} :
    ctx m ⊢ iprop(debt c 13 -∗ recvKit true 3 (by decide) c -∗ some' (nb true c) (slot true 5 (by decide)) -∗ sendKit true 5 (by decide) c -∗ has c (rgW false 3 (by decide)) fullShare.left (rv m c false 3) -∗ has c w8M fullShare (W8 m c)
      -∗ (∀ u, has c (rgW true 3 (by decide)) fullShare.left (rv m c true 3) -∗ idle c (rcvS true 3) -∗ lent true 5 (by decide) c -∗ debt c 14 -∗ has c (rgW false 3 (by decide)) fullShare.left (rv m c false 3) -∗ has c w8M fullShare (W8 m c) -∗ Q ⟨u, (k0_pay55 v (rv m c false 3) (W8 m c))⟩)
      -∗ run c (on (k0_part29 (F := F)) c v2 v5 v) Q) := by
  unfold run on
  rw [k0_part29_eq_skeleton]; unfold k0_part29_skel
  simp only [Prog.lift, Prog.bind_op, Prog.bind_ret, Prog.pure_eq_ret, Prog.bind_assoc, wp_deviceId, semSignalWord, semWaitWord, smemLoad, smemLoadElt]
  iintro #Hctx HD HR1_3 HY1_5 HK1_5 HP0_3 HW8 Hk
  iapply (here_fwd true 3 13) $$ Hctx HR1_3 HD
  iintro HP1_3 HH1_3 HIrcv1_3 HD
  iapply (ship_fwd true 3 13 (dev14_eq c)) $$ Hctx HH1_3 HY1_5 HK1_5 HD
  iintro HL1_5 HD
  iapply look $$ HP0_3
  iintro HP0_3
  iapply look_w8 $$ HW8
  iintro HW8
  iapply run_ret
  iapply Hk $$ HP1_3 HIrcv1_3 HL1_5 HD HP0_3 HW8

theorem part30 (v : F .f32) (v2 : BitVec 32) (w : BitVec 32) {Q : (Σ' (_ : BitVec 32), FVec F S256x2048 .f32) → sProp (MT nD τ sig Unit (Elt F) ℕ UU ℕ)} :
    ctx m ⊢ iprop(debt c 14 -∗ oCopy m c v 0 (oB c true 0 1) true 1 -∗ some' c (oB c false 1 1) -∗ has c (rgW true 3 (by decide)) fullShare.left (rv m c true 3) -∗ has c w8M fullShare (W8 m c)
      -∗ (∀ u, has c (oB c true 0 1) fullShare (dnO (av m c v true 1)) -∗ debt c 14 -∗ oCopy m c v 0 (oB c false 1 1) false 3 -∗ has c (rgW true 3 (by decide)) fullShare.left (rv m c true 3) -∗ has c w8M fullShare (W8 m c) -∗ Q ⟨u, (k0_pay57 v (rv m c true 3) (W8 m c))⟩)
      -∗ run c (on (k0_part30 (F := F)) c v2 v w (k0_pay55 v (rv m c false 3) (W8 m c))) Q) := by
  unfold run on
  rw [k0_part30_eq_skeleton]; unfold k0_part30_skel
  simp only [Prog.lift, Prog.bind_op, Prog.bind_ret, Prog.pure_eq_ret, Prog.bind_assoc, wp_deviceId, semSignalWord, semWaitWord, smemLoad, smemLoadElt]
  iintro #Hctx HD HGo0 HOB0_1_1 HP1_3 HW8 Hk
  iapply (wait_o v 0 true 0 1 1 14) $$ Hctx HGo0 HD
  iintro HOB1_0_1 HO0 HIout0 HD
  iapply look $$ HO0
  iintro HO0
  ihave HO0 := any $$ HO0
  iapply (put (av m c v false 3) ?_) $$ HO0
  · exact rfl
  iintro HO0
  iapply (put_o v 0 false 1 1 3) $$ HO0 HOB0_1_1 HIout0
  iintro HGo0
  iapply look $$ HP1_3
  iintro HP1_3
  iapply look_w8 $$ HW8
  iintro HW8
  iapply run_ret
  iapply Hk $$ HOB1_0_1 HD HGo0 HP1_3 HW8

theorem part31 (v : F .f32) (v7 : BitVec 32) (w : BitVec 32) {Q : (PUnit) → sProp (MT nD τ sig Unit (Elt F) ℕ UU ℕ)} :
    ctx m ⊢ iprop(debt c 14 -∗ oCopy m c v 1 (oB c false 1 0) false 2 -∗ some' c (oB c true 1 1) -∗ lent false 4 (by decide) c
      -∗ (has c (oB c false 1 0) fullShare (dnO (av m c v false 2)) -∗ oCopy m c v 1 (oB c true 1 1) true 3 -∗ has c (slot false 2 (by decide)) fullShare.right (sent m false c 4) -∗ idle c (sndS false 4) -∗ debt c 14 -∗ Q ⟨⟩)
      -∗ run c (on (k0_part31 (F := F)) c v7 w (k0_pay57 v (rv m c true 3) (W8 m c))) Q) := by
  unfold run on
  rw [k0_part31_eq_skeleton]; unfold k0_part31_skel
  simp only [Prog.lift, Prog.bind_op, Prog.bind_ret, Prog.pure_eq_ret, Prog.bind_assoc, wp_deviceId, semSignalWord, semWaitWord, smemLoad, smemLoadElt]
  iintro #Hctx HD HGo1 HOB1_1_1 HL0_4 Hk
  iapply (wait_o v 1 false 1 0 2 14) $$ Hctx HGo1 HD
  iintro HOB0_1_0 HO1 HIout1 HD
  iapply look $$ HO1
  iintro HO1
  ihave HO1 := any $$ HO1
  iapply (put (av m c v true 3) ?_) $$ HO1
  · exact rfl
  iintro HO1
  iapply (put_o v 1 true 1 1 3) $$ HO1 HOB1_1_1 HIout1
  iintro HGo1
  iapply (gone_fwd false 2 14) $$ Hctx HL0_4 HD
  iintro HH0_2 HIsnd0_4 HD
  iapply run_ret
  iapply Hk $$ HOB0_1_0 HGo1 HH0_2 HIsnd0_4 HD

end Cert.Ring

end
-- ==== Proof.P6.lean ====
/-
The parts of the program that multiply the last arrivals.
-/
module

public import proofs.«01_k».proof.Proof.Access

@[expose] public section

noncomputable section

namespace Cert.Ring

open Cert.KernelIdeal Cert.KernelIdeal.Gen Cert.Step

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight Flight_mono)

variable {F : FTy → Type} [FloatOps F]

local notation "𝕄" => MT nD τ sig Unit (Elt F) ℕ UU ℕ

variable (m : (ℓ : Loc nD τ sig) → Buf (Elt F) ℓ) (c : Dev nD)

theorem part32 (v2 : BitVec 32) (v5 : BitVec 32) {Q : (Σ' (_ : BitVec 32), FVec F S256x2048 .f32) → sProp (MT nD τ sig Unit (Elt F) ℕ UU ℕ)} :
    ctx m ⊢ iprop(debt c 14 -∗ recvKit false 4 (by decide) c -∗ lent true 4 (by decide) c -∗ recvKit true 4 (by decide) c -∗ has c w8M fullShare (W8 m c)
      -∗ (∀ u, idle c (rcvS false 4) -∗ has c (slot true 2 (by decide)) fullShare.right (sent m true c 4) -∗ idle c (sndS true 4) -∗ has c (rgW true 4 (by decide)) fullShare (rv m c true 4) -∗ idle c (rcvS true 4) -∗ debt c 14 -∗ has c (rgW false 4 (by decide)) fullShare (rv m c false 4) -∗ has c w8M fullShare (W8 m c) -∗ Q ⟨u, (k0_pay59 (rv m c false 4) (W8 m c))⟩)
      -∗ run c (on (k0_part32 (F := F)) v2 v5) Q) := by
  unfold run on
  rw [k0_part32_eq_skeleton]; unfold k0_part32_skel
  simp only [Prog.lift, Prog.bind_op, Prog.bind_ret, Prog.pure_eq_ret, Prog.bind_assoc, wp_deviceId, semSignalWord, semWaitWord, smemLoad, smemLoadElt]
  iintro #Hctx HD HR0_4 HL1_4 HR1_4 HW8 Hk
  iapply (here_last false 4 14) $$ Hctx HR0_4 HD
  iintro HP0_4 HIrcv0_4 HD
  iapply (gone_fwd true 2 14) $$ Hctx HL1_4 HD
  iintro HH1_2 HIsnd1_4 HD
  iapply (here_last true 4 14) $$ Hctx HR1_4 HD
  iintro HP1_4 HIrcv1_4 HD
  iapply look $$ HP0_4
  iintro HP0_4
  iapply look_w8 $$ HW8
  iintro HW8
  iapply run_ret
  iapply Hk $$ HIrcv0_4 HH1_2 HIsnd1_4 HP1_4 HIrcv1_4 HD HP0_4 HW8

theorem part33 (v : F .f32) (v2 : BitVec 32) (w : BitVec 32) {Q : (Σ' (_ : BitVec 32), FVec F S256x4096 .fp8e5m2) → sProp (MT nD τ sig Unit (Elt F) ℕ UU ℕ)} :
    ctx m ⊢ iprop(debt c 14 -∗ oCopy m c v 2 (oB c true 1 0) true 2 -∗ some' c (oB c false 2 0) -∗ has c (rgW true 4 (by decide)) fullShare (rv m c true 4)
      -∗ (∀ u, has c (oB c true 1 0) fullShare (dnO (av m c v true 2)) -∗ debt c 14 -∗ oCopy m c v 2 (oB c false 2 0) false 4 -∗ has c (rgW true 4 (by decide)) fullShare (rv m c true 4) -∗ Q ⟨u, (k0_pay61 (rv m c true 4))⟩)
      -∗ run c (on (k0_part33 (F := F)) c v2 v w (k0_pay59 (rv m c false 4) (W8 m c))) Q) := by
  unfold run on
  rw [k0_part33_eq_skeleton]; unfold k0_part33_skel
  simp only [Prog.lift, Prog.bind_op, Prog.bind_ret, Prog.pure_eq_ret, Prog.bind_assoc, wp_deviceId, semSignalWord, semWaitWord, smemLoad, smemLoadElt]
  iintro #Hctx HD HGo2 HOB0_2_0 HP1_4 Hk
  iapply (wait_o v 2 true 1 0 2 14) $$ Hctx HGo2 HD
  iintro HOB1_1_0 HO2 HIout2 HD
  iapply look $$ HO2
  iintro HO2
  ihave HO2 := any $$ HO2
  iapply (put (av m c v false 4) ?_) $$ HO2
  · exact rfl
  iintro HO2
  iapply (put_o v 2 false 2 0 4) $$ HO2 HOB0_2_0 HIout2
  iintro HGo2
  iapply look $$ HP1_4
  iintro HP1_4
  iapply run_ret
  iapply Hk $$ HOB1_1_0 HD HGo2 HP1_4

theorem part34 (v : F .f32) (w : BitVec 32) {Q : (PUnit) → sProp (MT nD τ sig Unit (Elt F) ℕ UU ℕ)} :
    ctx m ⊢ iprop(has c w8M fullShare (W8 m c) -∗ debt c 14 -∗ oCopy m c v 0 (oB c false 1 1) false 3 -∗ some' c (oB c true 2 0)
      -∗ (has c w8M fullShare (W8 m c) -∗ has c (oB c false 1 1) fullShare (dnO (av m c v false 3)) -∗ debt c 14 -∗ oCopy m c v 0 (oB c true 2 0) true 4 -∗ Q ⟨⟩)
      -∗ run c (on (k0_part34 (F := F)) c v w (k0_pay61 (rv m c true 4))) Q) := by
  unfold run on
  rw [k0_part34_eq_skeleton]; unfold k0_part34_skel
  simp only [Prog.lift, Prog.bind_op, Prog.bind_ret, Prog.pure_eq_ret, Prog.bind_assoc, wp_deviceId, semSignalWord, semWaitWord, smemLoad, smemLoadElt]
  iintro #Hctx HW8 HD HGo0 HOB1_2_0 Hk
  iapply look_w8 $$ HW8
  iintro HW8
  iapply (wait_o v 0 false 1 1 3 14) $$ Hctx HGo0 HD
  iintro HOB0_1_1 HO0 HIout0 HD
  iapply look $$ HO0
  iintro HO0
  ihave HO0 := any $$ HO0
  iapply (put (av m c v true 4) ?_) $$ HO0
  · exact rfl
  iintro HO0
  iapply (put_o v 0 true 2 0 4) $$ HO0 HOB1_2_0 HIout0
  iintro HGo0
  iapply run_ret
  iapply Hk $$ HW8 HOB0_1_1 HD HGo0

theorem part35 (v5 : BitVec 32) (v7 : BitVec 32) {Q : (PUnit) → sProp (MT nD τ sig Unit (Elt F) ℕ UU ℕ)} :
    ctx m ⊢ iprop(debt c 14 -∗ lent false 5 (by decide) c -∗ recvKit false 5 (by decide) c -∗ lent true 5 (by decide) c
      -∗ (has c (slot false 3 (by decide)) fullShare.right (sent m false c 5) -∗ idle c (sndS false 5) -∗ has c (rgW false 5 (by decide)) fullShare (rv m c false 5) -∗ idle c (rcvS false 5) -∗ has c (slot true 3 (by decide)) fullShare.right (sent m true c 5) -∗ idle c (sndS true 5) -∗ debt c 14 -∗ Q ⟨⟩)
      -∗ run c (on (k0_part35 (F := F)) v5 v7) Q) := by
  unfold run on
  rw [k0_part35_eq_skeleton]; unfold k0_part35_skel
  simp only [Prog.lift, Prog.bind_op, Prog.bind_ret, Prog.pure_eq_ret, Prog.bind_assoc, wp_deviceId, semSignalWord, semWaitWord, smemLoad, smemLoadElt]
  iintro #Hctx HD HL0_5 HR0_5 HL1_5 Hk
  iapply (gone_fwd false 3 14) $$ Hctx HL0_5 HD
  iintro HH0_3 HIsnd0_5 HD
  iapply (here_last false 5 14) $$ Hctx HR0_5 HD
  iintro HP0_5 HIrcv0_5 HD
  iapply (gone_fwd true 3 14) $$ Hctx HL1_5 HD
  iintro HH1_3 HIsnd1_5 HD
  iapply run_ret
  iapply Hk $$ HH0_3 HIsnd0_5 HP0_5 HIrcv0_5 HH1_3 HIsnd1_5 HD

theorem part36 (v : F .f32) (v2 : BitVec 32) {Q : (BitVec 32) → sProp (MT nD τ sig Unit (Elt F) ℕ UU ℕ)} :
    ctx m ⊢ iprop(debt c 14 -∗ recvKit true 5 (by decide) c -∗ has c (rgW false 5 (by decide)) fullShare (rv m c false 5) -∗ has c w8M fullShare (W8 m c) -∗ oCopy m c v 1 (oB c true 1 1) true 3
      -∗ (∀ u, has c (rgW true 5 (by decide)) fullShare (rv m c true 5) -∗ idle c (rcvS true 5) -∗ has c (rgW false 5 (by decide)) fullShare (rv m c false 5) -∗ has c w8M fullShare (W8 m c) -∗ has c (oB c true 1 1) fullShare (dnO (av m c v true 3)) -∗ idle c (outS 1) -∗ debt c 14 -∗ has c (osW 1) fullShare (av m c v false 5) -∗ Q u)
      -∗ run c (on (k0_part36 (F := F)) c v2 v) Q) := by
  unfold run on
  rw [k0_part36_eq_skeleton]; unfold k0_part36_skel
  simp only [Prog.lift, Prog.bind_op, Prog.bind_ret, Prog.pure_eq_ret, Prog.bind_assoc, wp_deviceId, semSignalWord, semWaitWord, smemLoad, smemLoadElt]
  iintro #Hctx HD HR1_5 HP0_5 HW8 HGo1 Hk
  iapply (here_last true 5 14) $$ Hctx HR1_5 HD
  iintro HP1_5 HIrcv1_5 HD
  iapply look $$ HP0_5
  iintro HP0_5
  iapply look_w8 $$ HW8
  iintro HW8
  iapply (wait_o v 1 true 1 1 3 14) $$ Hctx HGo1 HD
  iintro HOB1_1_1 HO1 HIout1 HD
  iapply look $$ HO1
  iintro HO1
  ihave HO1 := any $$ HO1
  iapply (put (av m c v false 5) ?_) $$ HO1
  · exact rfl
  iintro HO1
  iapply run_ret
  iapply Hk $$ HP1_5 HIrcv1_5 HP0_5 HW8 HOB1_1_1 HIout1 HD HO1

theorem part37 (v : F .f32) (v2 : BitVec 32) (w : BitVec 32) {Q : (Σ' (_ : BitVec 32), FVec F S1x256x2048 .f32) → sProp (MT nD τ sig Unit (Elt F) ℕ UU ℕ)} :
    ctx m ⊢ iprop(has c (osW 1) fullShare (av m c v false 5) -∗ some' c (oB c false 2 1) -∗ idle c (outS 1) -∗ has c (rgW true 5 (by decide)) fullShare (rv m c true 5) -∗ has c w8M fullShare (W8 m c) -∗ debt c 14 -∗ oCopy m c v 2 (oB c false 2 0) false 4
      -∗ (∀ u, oCopy m c v 1 (oB c false 2 1) false 5 -∗ has c (rgW true 5 (by decide)) fullShare (rv m c true 5) -∗ has c w8M fullShare (W8 m c) -∗ has c (oB c false 2 0) fullShare (dnO (av m c v false 4)) -∗ idle c (outS 2) -∗ debt c 14 -∗ has c (osW 2) fullShare (av m c v false 4) -∗ Q ⟨u, (k0_pay64 v (rv m c true 5) (W8 m c))⟩)
      -∗ run c (on (k0_part37 (F := F)) c v2 v w) Q) := by
  unfold run on
  rw [k0_part37_eq_skeleton]; unfold k0_part37_skel
  simp only [Prog.lift, Prog.bind_op, Prog.bind_ret, Prog.pure_eq_ret, Prog.bind_assoc, wp_deviceId, semSignalWord, semWaitWord, smemLoad, smemLoadElt]
  iintro #Hctx HO1 HOB0_2_1 HIout1 HP1_5 HW8 HD HGo2 Hk
  iapply (put_o v 1 false 2 1 5) $$ HO1 HOB0_2_1 HIout1
  iintro HGo1
  iapply look $$ HP1_5
  iintro HP1_5
  iapply look_w8 $$ HW8
  iintro HW8
  iapply (wait_o v 2 false 2 0 4 14) $$ Hctx HGo2 HD
  iintro HOB0_2_0 HO2 HIout2 HD
  iapply look $$ HO2
  iintro HO2
  iapply run_ret
  iapply Hk $$ HGo1 HP1_5 HW8 HOB0_2_0 HIout2 HD HO2

theorem part38 (v : F .f32) (w : BitVec 32) {Q : (PUnit) → sProp (MT nD τ sig Unit (Elt F) ℕ UU ℕ)} :
    ctx m ⊢ iprop(has c (osW 2) fullShare (av m c v false 4) -∗ some' c (oB c true 2 1) -∗ idle c (outS 2) -∗ debt c 14 -∗ aCopy m c v 0 0 0 -∗ aCopy m c v 1 1 512 -∗ oCopy m c v 0 (oB c true 2 0) true 4
      -∗ (oCopy m c v 2 (oB c true 2 1) true 5 -∗ has c (oO c 0) fullShare (dnA (avO m c v 0 (by decide))) -∗ has c (acW 0) fullShare (avO m c v 0 (by decide)) -∗ idle c (ownS 0) -∗ has c (oO c 1) fullShare (dnA (avO m c v 512 (by decide))) -∗ has c (acW 1) fullShare (avO m c v 512 (by decide)) -∗ idle c (ownS 1) -∗ has c (oB c true 2 0) fullShare (dnO (av m c v true 4)) -∗ has c (osW 0) fullShare (av m c v true 4) -∗ idle c (outS 0) -∗ debt c 14 -∗ Q ⟨⟩)
      -∗ run c (on (k0_part38 (F := F)) c w (k0_pay64 v (rv m c true 5) (W8 m c))) Q) := by
  unfold run on
  rw [k0_part38_eq_skeleton]; unfold k0_part38_skel
  simp only [Prog.lift, Prog.bind_op, Prog.bind_ret, Prog.pure_eq_ret, Prog.bind_assoc, wp_deviceId, semSignalWord, semWaitWord, smemLoad, smemLoadElt]
  iintro #Hctx HO2 HOB1_2_1 HIout2 HD HGa0 HGa1 HGo0 Hk
  ihave HO2 := any $$ HO2
  iapply (put (av m c v true 5) ?_) $$ HO2
  · exact rfl
  iintro HO2
  iapply (put_o v 2 true 2 1 5) $$ HO2 HOB1_2_1 HIout2
  iintro HGo2
  iapply (wait_a v 0 0 0 14) $$ Hctx HGa0 HD
  iintro HOO0 HA0 HIown0 HD
  iapply (wait_a v 1 1 512 14) $$ Hctx HGa1 HD
  iintro HOO1 HA1 HIown1 HD
  iapply (wait_o v 0 true 2 0 4 14) $$ Hctx HGo0 HD
  iintro HOB1_2_0 HO0 HIout0 HD
  iapply run_ret
  iapply Hk $$ HGo2 HOO0 HA0 HIown0 HOO1 HA1 HIown1 HOB1_2_0 HO0 HIout0 HD

end Cert.Ring

end
-- ==== Proof.Windows.lean ====
/-
Buffers dealt window by window and put together again.

A family of rectangles tiles a buffer when a function says, for every index, which rectangle it lies in.
-/
module

public import proofs.«01_k».proof.Proof.Access

@[expose] public section

noncomputable section

namespace Cert.Ring

open Cert.KernelIdeal Cert.KernelIdeal.Gen Cert.Step

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight Flight_mono)

variable {F : FTy → Type} [FloatOps F]

local notation "𝕄" => MT nD τ sig Unit (Elt F) ℕ UU ℕ

variable (m : (ℓ : Loc nD τ sig) → Buf (Elt F) ℓ) (c : Dev nD)

section Tiling

variable {sp : Space} {s : Shape} {e : EltTy} {T : Type} [Fintype T] [DecidableEq T]
variable {c : Dev nD} {w : Memref sig .tc sp s e} {q : PosShare TreeShare} {r : T → Rect s} {hr : ∀ t a, (r t).stride a = 1}

/-- `k` says which rectangle of the family each index lies in. -/
def Tiled (r : T → Rect s) (k : s.Idx → T) : Prop := ∀ t x, x ∈ (r t).set ↔ k x = t

theorem Tiled.disjoint {k : s.Idx → T} (h : Tiled r k) (t t' : T) (ht : t ≠ t') : Disjoint (r t).set (r t').set :=
  Finset.disjoint_left.mpr fun x hx hx' => ht (((h t x).mp hx).symm.trans ((h t' x).mp hx'))

theorem Tiled.cover {k : s.Idx → T} (h : Tiled r k) : (Finset.univ : Finset T).biUnion (fun t => (r t).set) = Finset.univ :=
  Finset.eq_univ_iff_forall.mpr fun x => Finset.mem_biUnion.mpr ⟨k x, Finset.mem_univ _, (h _ x).mpr rfl⟩

theorem Tiled.find {k : s.Idx → T} (h : Tiled r k) (x : s.Idx) : ∃ j, (r (k x)).emb j = x := by
  have hx := (h (k x) x).mpr rfl
  rw [← Rect.map_emb_univ, Finset.mem_map] at hx
  obtain ⟨j, -, hj⟩ := hx
  exact ⟨j, hj⟩

/-- Contents given rectangle by rectangle. -/
def glue {α : Type} {k : s.Idx → T} (h : Tiled r k) (V : ∀ t, (r t).shape.Idx → α) : s.Idx → α := fun x => V (k x) (h.find x).choose

theorem glue_at {α : Type} {k : s.Idx → T} (h : Tiled r k) (V : ∀ t, (r t).shape.Idx → α) (t : T) (j : (r t).shape.Idx) :
    glue h V ((r t).emb j) = V t j := by
  have hk : k ((r t).emb j) = t := (h t _).mp (by rw [← Rect.map_emb_univ]; exact Finset.mem_map_of_mem _ (Finset.mem_univ j))
  have hc := (h.find ((r t).emb j)).choose_spec
  unfold glue
  generalize (h.find ((r t).emb j)).choose = j' at hc ⊢
  revert j' hc
  generalize hy : (r t).emb j = y at hk ⊢
  subst hk
  intro j' hc
  rw [(r (k y)).emb.injective (hc.trans hy.symm)]

/-- A buffer dealt along the family, -/
theorem deal {k : s.Idx → T} (h : Tiled r k) (X : s.Idx → Elt F e) :
    (has c w q X : sProp 𝕄) ⊢ bigSep Finset.univ fun t => has c (w.slice (r t) (hr t)) q (fun j => X ((r t).emb j)) :=
  owns_rects (c : Thread nD τ) w q r hr h.disjoint h.cover X

/-- and put together. -/
theorem gather {k : s.Idx → T} (h : Tiled r k) (V : ∀ t, (r t).shape.Idx → Elt F e) :
    (bigSep Finset.univ fun t => has c (w.slice (r t) (hr t)) q (V t) : sProp 𝕄) ⊢ has c w q (glue h V) := by
  have hV : (fun t => has c (w.slice (r t) (hr t)) q (V t) : T → sProp 𝕄) = fun t => has c (w.slice (r t) (hr t)) q (fun j => glue h V ((r t).emb j)) :=
    funext fun t => by rw [show (fun j => glue h V ((r t).emb j)) = V t from funext fun j => glue_at h V t j]
  rw [hV]
  exact owns_of_rects (c : Thread nD τ) w q r hr h.disjoint h.cover _

theorem gather_at {k : s.Idx → T} (h : Tiled r k) (X : s.Idx → Elt F e) :
    (bigSep Finset.univ fun t => has c (w.slice (r t) (hr t)) q (fun j => X ((r t).emb j)) : sProp 𝕄) ⊢ has c w q X :=
  owns_of_rects (c : Thread nD τ) w q r hr h.disjoint h.cover X

/-- The same for contents that do not matter. -/
theorem deal_any {k : s.Idx → T} (h : Tiled r k) :
    (some' c w : sProp 𝕄) ⊢ bigSep Finset.univ fun t => some' c (w.slice (r t) (hr t)) := by
  iintro ⟨%X, H⟩
  ihave H' := (deal (hr := hr) h X) $$ H
  iapply (show (bigSep Finset.univ fun t => has c (w.slice (r t) (hr t)) fullShare (fun j => X ((r t).emb j)) : sProp 𝕄) ⊢ bigSep Finset.univ fun t => some' c (w.slice (r t) (hr t)) from
    bigSep_mono fun t _ => any)
  iexact H'

theorem gather_any {k : s.Idx → T} (h : Tiled r k) :
    (bigSep Finset.univ fun t => some' c (w.slice (r t) (hr t)) : sProp 𝕄) ⊢ some' c w := by
  iintro H
  ihave H' := (BI.bigSep_exists_pi Finset.univ (fun (t : T) (Y : (r t).shape.Idx → Elt F e) => (has c (w.slice (r t) (hr t)) fullShare Y : sProp 𝕄))) $$ H
  icases H' with ⟨%V, H'⟩
  iexists _
  iapply (gather (hr := hr) h V)
  iexact H'

end Tiling

/-- Two shares of a window come together. -/
theorem join_halves {sp : Space} {s : Shape} {e : EltTy} {c : Dev nD} {w : Memref sig .tc sp s e} (Y Z : s.Idx → Elt F e) :
    iprop(has c w fullShare.left Y ∗ has c w fullShare.right Z) ⊢ (some' c w : sProp 𝕄) := by
  iintro ⟨HY, HZ⟩
  iexists Y
  iapply (owns_rejoin (c : Thread nD τ) w fullShare Y (Φ := fun _ => True))
  isplitl [HY]; · iexact HY
  iapply (show (has c w fullShare.right Z : sProp 𝕄) ⊢ ownsSat (c : Thread nD τ) w fullShare.right (fun _ => True) from ?_)
  · unfold has owns ownsSat
    iintro ⟨%f, %hf, H⟩
    iexists f
    isplitr
    · ipureintro; trivial
    · iexact H
  · iexact HZ

/-! ## The families -/

theorem x8_tiled : Tiled (fun t : Fin 4 => x8R (256 * t.val) (by omega)) (fun x => ⟨(x 0).val / 256, by have : (x 0).val < 1024 := (x 0).isLt; omega⟩) := by
  intro t x
  have h0 : (x 0).val < 1024 := (x 0).isLt
  have h1 : (x 1).val < 4096 := (x 1).isLt
  refine Iff.trans ?_ Fin.ext_iff.symm
  rw [Rect.mem_set_unit, Fin.forall_fin_two]
  show ((256 * t.val ≤ (x 0).val ∧ (x 0).val < 256 * t.val + 256) ∧ (0 ≤ (x 1).val ∧ (x 1).val < 0 + 4096)) ↔ (x 0).val / 256 = t.val
  omega

theorem w8_tiled : Tiled (fun t : Fin 8 => w8R (512 * t.val) (by omega)) (fun x => ⟨(x 0).val / 512, by have : (x 0).val < 4096 := (x 0).isLt; omega⟩) := by
  intro t x
  have h0 : (x 0).val < 4096 := (x 0).isLt
  have h1 : (x 1).val < 2048 := (x 1).isLt
  refine Iff.trans ?_ Fin.ext_iff.symm
  rw [Rect.mem_set_unit, Fin.forall_fin_two]
  show ((512 * t.val ≤ (x 0).val ∧ (x 0).val < 512 * t.val + 512) ∧ (0 ≤ (x 1).val ∧ (x 1).val < 0 + 2048)) ↔ (x 0).val / 512 = t.val
  omega

theorem rg_tiled : Tiled (fun t : Fin 6 => rgR t.val t.isLt) (fun x => ⟨(x 0).val, (x 0).isLt⟩) := by
  intro t x
  have h0 : (x 0).val < 6 := (x 0).isLt
  have h1 : (x 1).val < 256 := (x 1).isLt
  have h2 : (x 2).val < 4096 := (x 2).isLt
  refine Iff.trans ?_ Fin.ext_iff.symm
  rw [Rect.mem_set_unit, Fin.forall_fin_succ, Fin.forall_fin_two]
  show ((t.val ≤ (x 0).val ∧ (x 0).val < t.val + 1) ∧ ((0 ≤ (x 1).val ∧ (x 1).val < 0 + 256) ∧ (0 ≤ (x 2).val ∧ (x 2).val < 0 + 4096))) ↔ (x 0).val = t.val
  omega

theorem ac_tiled : Tiled (fun t : Fin 2 => Rect.unit (s := S2x512x2048) ![t.val, 0, 0] S1x512x2048.size (ac_inb t.isLt)) (fun x => ⟨(x 0).val, (x 0).isLt⟩) := by
  intro t x
  have h0 : (x 0).val < 2 := (x 0).isLt
  have h1 : (x 1).val < 512 := (x 1).isLt
  have h2 : (x 2).val < 2048 := (x 2).isLt
  refine Iff.trans ?_ Fin.ext_iff.symm
  rw [Rect.mem_set_unit, Fin.forall_fin_succ, Fin.forall_fin_two]
  show ((t.val ≤ (x 0).val ∧ (x 0).val < t.val + 1) ∧ ((0 ≤ (x 1).val ∧ (x 1).val < 0 + 512) ∧ (0 ≤ (x 2).val ∧ (x 2).val < 0 + 2048))) ↔ (x 0).val = t.val
  omega

theorem os_tiled : Tiled (fun t : Fin 3 => Rect.unit (s := S3x256x2048) ![t.val, 0, 0] S1x256x2048.size (os_inb t.isLt)) (fun x => ⟨(x 0).val, (x 0).isLt⟩) := by
  intro t x
  have h0 : (x 0).val < 3 := (x 0).isLt
  have h1 : (x 1).val < 256 := (x 1).isLt
  have h2 : (x 2).val < 2048 := (x 2).isLt
  refine Iff.trans ?_ Fin.ext_iff.symm
  rw [Rect.mem_set_unit, Fin.forall_fin_succ, Fin.forall_fin_two]
  show ((t.val ≤ (x 0).val ∧ (x 0).val < t.val + 1) ∧ ((0 ≤ (x 1).val ∧ (x 1).val < 0 + 256) ∧ (0 ≤ (x 2).val ∧ (x 2).val < 0 + 2048))) ↔ (x 0).val = t.val
  omega

/-- The stage as four quarters of `x`: slot by slot, two halves of the rows. -/
theorem stX_tiled : Tiled (fun t : Fin 4 => Rect.unit (s := S2x512x4096) ![t.val / 2, 256 * (t.val % 2), 0] S1x256x4096.size (stX_inb (by omega) (by omega)))
    (fun x => ⟨2 * (x 0).val + (x 1).val / 256, by have : (x 0).val < 2 := (x 0).isLt; have : (x 1).val < 512 := (x 1).isLt; omega⟩) := by
  intro t x
  have h0 : (x 0).val < 2 := (x 0).isLt
  have h1 : (x 1).val < 512 := (x 1).isLt
  have h2 : (x 2).val < 4096 := (x 2).isLt
  have ht := t.isLt
  refine Iff.trans ?_ Fin.ext_iff.symm
  rw [Rect.mem_set_unit, Fin.forall_fin_succ, Fin.forall_fin_two]
  show ((t.val / 2 ≤ (x 0).val ∧ (x 0).val < t.val / 2 + 1) ∧ ((256 * (t.val % 2) ≤ (x 1).val ∧ (x 1).val < 256 * (t.val % 2) + 256) ∧ (0 ≤ (x 2).val ∧ (x 2).val < 0 + 4096)))
    ↔ 2 * (x 0).val + (x 1).val / 256 = t.val
  omega

/-- The stage as four tiles: slot by slot, two halves of the columns. -/
theorem stW_tiled : Tiled (fun t : Fin 4 => Rect.unit (s := S2x512x4096) ![t.val / 2, 0, 2048 * (t.val % 2)] S1x512x2048.size (stW_inb (by omega) (by omega)))
    (fun x => ⟨2 * (x 0).val + (x 2).val / 2048, by have : (x 0).val < 2 := (x 0).isLt; have : (x 2).val < 4096 := (x 2).isLt; omega⟩) := by
  intro t x
  have h0 : (x 0).val < 2 := (x 0).isLt
  have h1 : (x 1).val < 512 := (x 1).isLt
  have h2 : (x 2).val < 4096 := (x 2).isLt
  have ht := t.isLt
  refine Iff.trans ?_ Fin.ext_iff.symm
  rw [Rect.mem_set_unit, Fin.forall_fin_succ, Fin.forall_fin_two]
  show ((t.val / 2 ≤ (x 0).val ∧ (x 0).val < t.val / 2 + 1) ∧ ((0 ≤ (x 1).val ∧ (x 1).val < 0 + 512) ∧ (2048 * (t.val % 2) ≤ (x 2).val ∧ (x 2).val < 2048 * (t.val % 2) + 2048)))
    ↔ 2 * (x 0).val + (x 2).val / 2048 = t.val
  omega

/-- The result's fourteen windows: the two of the device's own rows, then six for each direction. -/
abbrev OT : Type := Fin 2 ⊕ (Bool × Fin 3 × Fin 2)

abbrev outR (c : Dev nD) : OT → Rect S4096x2048
  | .inl a => Rect.unit (s := S4096x2048) (k0_off9 c (BitVec.ofNat 32 (512 * a.val))) S512x2048.size (k0_off9_inb c a)
  | .inr (false, k, a) => Rect.unit (s := S4096x2048) (k0_off10 c (BitVec.ofNat 32 (1 + k.val)) (BitVec.ofNat 32 (256 * a.val))) S256x2048.size (k0_off10_inb c k a)
  | .inr (true, k, a) => Rect.unit (s := S4096x2048) (k0_off11 c (BitVec.ofNat 32 (1 + k.val)) (BitVec.ofNat 32 (256 * a.val))) S256x2048.size (k0_off11_inb c k a)

theorem outR_stride (c : Dev nD) : ∀ t a, (outR c t).stride a = 1
  | .inl _ => fun _ => rfl
  | .inr (false, _, _) => fun _ => rfl
  | .inr (true, _, _) => fun _ => rfl

/-- The window a row of the result lies in on device `c`: rows of `c` itself, or the quarter and its number of hops. -/
def outK (c : Dev nD) (n : ℕ) : OT :=
  if n / 1024 = c.val then .inl ⟨n / 512 % 2, Nat.mod_lt _ (by decide)⟩
  else if n / 512 % 2 = 0 then .inr (false, ⟨(c.val + 3 - n / 1024) % 4 % 3, Nat.mod_lt _ (by decide)⟩, ⟨n / 256 % 2, Nat.mod_lt _ (by decide)⟩)
  else .inr (true, ⟨(n / 1024 + 3 - c.val) % 4 % 3, Nat.mod_lt _ (by decide)⟩, ⟨n / 256 % 2, Nat.mod_lt _ (by decide)⟩)

theorem unit_rows {o n N : ℕ} (f : Fin 2 → ℕ) (hf : f = ![o, 0]) (hb : ∀ a, f a + ![n, N] a ≤ (Shape.size ⟨2, ![4096, N]⟩) a) (x : Shape.Idx ⟨2, ![4096, N]⟩) :
    x ∈ (Rect.unit (s := ⟨2, ![4096, N]⟩) f ![n, N] hb).set ↔ o ≤ (x 0).val ∧ (x 0).val < o + n := by
  subst hf
  have h1 : (x 1).val < N := (x 1).isLt
  rw [Rect.mem_set_unit, Fin.forall_fin_two]
  show ((o ≤ (x 0).val ∧ (x 0).val < o + n) ∧ (0 ≤ (x 1).val ∧ (x 1).val < 0 + N)) ↔ _
  omega

theorem rows_own (r a n : ℕ) (ha : a < 2) : (1024 * r + 512 * a ≤ n ∧ n < 1024 * r + 512 * a + 512) ↔ (n / 1024 = r ∧ n / 512 % 2 = a) := by omega
theorem rows_false (r a n : ℕ) (ha : a < 2) : (1024 * r + 256 * a ≤ n ∧ n < 1024 * r + 256 * a + 256) ↔ (n / 1024 = r ∧ n / 512 % 2 = 0 ∧ n / 256 % 2 = a) := by omega
theorem rows_true (r a n : ℕ) (ha : a < 2) : (1024 * r + 256 * a + 512 ≤ n ∧ n < 1024 * r + 256 * a + 512 + 256) ↔ (n / 1024 = r ∧ n / 512 % 2 = 1 ∧ n / 256 % 2 = a) := by omega
theorem hops_false : ∀ (c : Fin 4) (k : Fin 3) (p : Fin 4), p.val = (c.val + 3 - k.val) % 4 ↔ (p.val ≠ c.val ∧ (c.val + 3 - p.val) % 4 % 3 = k.val) := by decide
theorem hops_true : ∀ (c : Fin 4) (k : Fin 3) (p : Fin 4), p.val = (c.val + k.val + 1) % 4 ↔ (p.val ≠ c.val ∧ (p.val + 3 - c.val) % 4 % 3 = k.val) := by decide

theorem out_tiled (c : Dev nD) : Tiled (outR c) (fun x => outK c (x 0).val) := by
  intro t x
  have h0 : (x 0).val < 4096 := (x 0).isLt
  have hp : (x 0).val / 1024 < 4 := by omega
  beta_reduce
  unfold outK
  rcases t with a | ⟨b, k, a⟩
  · refine (unit_rows _ (k0_off9_eq c a) _ x).trans ((rows_own _ _ _ a.isLt).trans ?_)
    split
    · rw [Sum.inl.injEq, Fin.ext_iff]; exact and_iff_right (by assumption)
    · split <;> simp only [reduceCtorEq, iff_false, not_and] <;> exact fun h => absurd h (by assumption)
  cases b
  · refine (unit_rows _ (k0_off10_eq c k a) _ x).trans ((rows_false _ _ _ a.isLt).trans ?_)
    have hk := hops_false c k ⟨(x 0).val / 1024, hp⟩
    dsimp only at hk
    rw [hk]
    split
    · rename_i h; simp only [reduceCtorEq, iff_false]; exact fun h' => h'.1.1 h
    · rename_i h
      split
      · rename_i h'
        simp only [Sum.inr.injEq, Prod.mk.injEq, Fin.ext_iff]
        exact ⟨fun g => ⟨trivial, g.1.2, g.2.2⟩, fun g => ⟨⟨h, g.2.1⟩, h', g.2.2⟩⟩
      · rename_i h'
        exact ⟨fun g => absurd g.2.1 h', fun g => Bool.noConfusion (congrArg Prod.fst (Sum.inr.inj g))⟩
  · refine (unit_rows _ (k0_off11_eq c k a) _ x).trans ((rows_true _ _ _ a.isLt).trans ?_)
    have hk := hops_true c k ⟨(x 0).val / 1024, hp⟩
    dsimp only at hk
    rw [hk]
    split
    · rename_i h; simp only [reduceCtorEq, iff_false]; exact fun h' => h'.1.1 h
    · rename_i h
      split
      · rename_i h'
        exact ⟨fun g => absurd (g.2.1.symm.trans h') (by decide), fun g => Bool.noConfusion (congrArg Prod.fst (Sum.inr.inj g))⟩
      · rename_i h'
        simp only [Sum.inr.injEq, Prod.mk.injEq, Fin.ext_iff]
        exact ⟨fun g => ⟨trivial, g.1.2, g.2.2⟩, fun g => ⟨⟨h, g.2.1⟩, (Nat.mod_two_eq_zero_or_one _).resolve_left h', g.2.2⟩⟩

/-! ## The buffers -/

section Buffers

variable {m c}

theorem four {Φ : Fin 4 → sProp (MT nD τ sig Unit (Elt F) ℕ UU ℕ)} : bigSep Finset.univ Φ = iprop(Φ 0 ∗ Φ 1 ∗ Φ 2 ∗ Φ 3) :=
  bigSep_univ_eq_bigSepL [0, 1, 2, 3] (by decide) (by decide) Φ
theorem eight {Φ : Fin 8 → sProp (MT nD τ sig Unit (Elt F) ℕ UU ℕ)} : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ
theorem six {Φ : Fin 6 → sProp (MT nD τ sig Unit (Elt F) ℕ UU ℕ)} : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ
theorem three {Φ : Fin 3 → sProp (MT nD τ sig Unit (Elt F) ℕ UU ℕ)} : bigSep Finset.univ Φ = iprop(Φ 0 ∗ Φ 1 ∗ Φ 2) :=
  bigSep_univ_eq_bigSepL [0, 1, 2] (by decide) (by decide) Φ
theorem two {Φ : Fin 2 → sProp (MT nD τ sig Unit (Elt F) ℕ UU ℕ)} : bigSep Finset.univ Φ = iprop(Φ 0 ∗ Φ 1) :=
  bigSep_univ_eq_bigSepL [0, 1] (by decide) (by decide) Φ
theorem fourteen {Φ : OT → sProp (MT nD τ sig Unit (Elt F) ℕ UU ℕ)} : bigSep Finset.univ Φ
    = iprop(Φ (.inl 0) ∗ Φ (.inl 1) ∗ Φ (.inr (false, 0, 0)) ∗ Φ (.inr (false, 0, 1)) ∗ Φ (.inr (false, 1, 0)) ∗ Φ (.inr (false, 1, 1)) ∗ Φ (.inr (false, 2, 0)) ∗ Φ (.inr (false, 2, 1))
      ∗ Φ (.inr (true, 0, 0)) ∗ Φ (.inr (true, 0, 1)) ∗ Φ (.inr (true, 1, 0)) ∗ Φ (.inr (true, 1, 1)) ∗ Φ (.inr (true, 2, 0)) ∗ Φ (.inr (true, 2, 1))) :=
  bigSep_univ_eq_bigSepL ([.inl 0, .inl 1, .inr (false, 0, 0), .inr (false, 0, 1), .inr (false, 1, 0), .inr (false, 1, 1), .inr (false, 2, 0), .inr (false, 2, 1),
    .inr (true, 0, 0), .inr (true, 0, 1), .inr (true, 1, 0), .inr (true, 1, 1), .inr (true, 2, 0), .inr (true, 2, 1)] : List OT) (by decide) (by decide) Φ

theorem x_split : (has c xM fullShare (X m c) : sProp 𝕄) ⊢ iprop(has c (xW 0) fullShare (Xrows m c 0) ∗ has c (xW 256) fullShare (Xrows m c 256)
    ∗ has c (xW 512) fullShare (Xrows m c 512) ∗ has c (xW 768) fullShare (Xrows m c 768)) :=
  (deal (hr := fun _ _ => rfl) x8_tiled (X m c)).trans (Entails.of_eq four)
theorem x_join : iprop(has c (xW 0) fullShare (Xrows m c 0) ∗ has c (xW 256) fullShare (Xrows m c 256)
    ∗ has c (xW 512) fullShare (Xrows m c 512) ∗ has c (xW 768) fullShare (Xrows m c 768)) ⊢ (has c xM fullShare (X m c) : sProp 𝕄) :=
  (Entails.of_eq four.symm).trans (gather_at (hr := fun _ _ => rfl) x8_tiled (X m c))

theorem x8_split : (some' c x8M : sProp 𝕄) ⊢ iprop(some' c (x8W 0 (by decide)) ∗ some' c (x8W 256 (by decide)) ∗ some' c (x8W 512 (by decide)) ∗ some' c (x8W 768 (by decide))) :=
  (deal_any (hr := fun _ _ => rfl) x8_tiled).trans (Entails.of_eq four)
theorem x8_join (q : PosShare TreeShare) : iprop(has c (x8W 0 (by decide)) q (X8rows m c 0 (by decide)) ∗ has c (x8W 256 (by decide)) q (X8rows m c 256 (by decide))
    ∗ has c (x8W 512 (by decide)) q (X8rows m c 512 (by decide)) ∗ has c (x8W 768 (by decide)) q (X8rows m c 768 (by decide))) ⊢ (has c x8M q (X8 m c) : sProp 𝕄) :=
  (Entails.of_eq four.symm).trans (gather_at (hr := fun _ _ => rfl) x8_tiled (X8 m c))

theorem w8_split : (some' c w8M : sProp 𝕄) ⊢ iprop(some' c (w8W 0) ∗ some' c (w8W 512) ∗ some' c (w8W 1024) ∗ some' c (w8W 1536)
    ∗ some' c (w8W 2048) ∗ some' c (w8W 2560) ∗ some' c (w8W 3072) ∗ some' c (w8W 3584)) :=
  (deal_any (hr := fun _ _ => rfl) w8_tiled).trans (Entails.of_eq eight)
theorem w8_join : iprop(has c (w8W 0) fullShare (wk m c 0) ∗ has c (w8W 512) fullShare (wk m c 512) ∗ has c (w8W 1024) fullShare (wk m c 1024) ∗ has c (w8W 1536) fullShare (wk m c 1536)
    ∗ has c (w8W 2048) fullShare (wk m c 2048) ∗ has c (w8W 2560) fullShare (wk m c 2560) ∗ has c (w8W 3072) fullShare (wk m c 3072) ∗ has c (w8W 3584) fullShare (wk m c 3584))
    ⊢ (has c w8M fullShare (W8 m c) : sProp 𝕄) :=
  (Entails.of_eq eight.symm).trans (gather_at (hr := fun _ _ => rfl) w8_tiled (W8 m c))

theorem stage_split : (some' c stM : sProp 𝕄) ⊢ iprop(some' c (stX 0 0) ∗ some' c (stX 0 256) ∗ some' c (stX 1 0) ∗ some' c (stX 1 256)) :=
  (deal_any (hr := fun _ _ => rfl) stX_tiled).trans (Entails.of_eq four)
/-- The stage's windows on `x` become its windows on `w`. -/
theorem stage_turn : iprop(some' c (stX 0 0) ∗ some' c (stX 0 256) ∗ some' c (stX 1 0) ∗ some' c (stX 1 256))
    ⊢ (iprop(some' c (stW 0 0) ∗ some' c (stW 0 2048) ∗ some' c (stW 1 0) ∗ some' c (stW 1 2048)) : sProp 𝕄) :=
  (Entails.of_eq four.symm).trans ((gather_any (hr := fun _ _ => rfl) stX_tiled).trans ((deal_any (hr := fun _ _ => rfl) stW_tiled).trans (Entails.of_eq four)))
theorem stage_join : iprop(some' c (stW 0 0) ∗ some' c (stW 0 2048) ∗ some' c (stW 1 0) ∗ some' c (stW 1 2048)) ⊢ (some' c stM : sProp 𝕄) :=
  (Entails.of_eq four.symm).trans (gather_any (hr := fun _ _ => rfl) stW_tiled)

theorem ac_split : (some' c acM : sProp 𝕄) ⊢ iprop(some' c (acW 0) ∗ some' c (acW 1)) :=
  (deal_any (hr := fun _ _ => rfl) ac_tiled).trans (Entails.of_eq two)
theorem ac_join : iprop(some' c (acW 0) ∗ some' c (acW 1)) ⊢ (some' c acM : sProp 𝕄) :=
  (Entails.of_eq two.symm).trans (gather_any (hr := fun _ _ => rfl) ac_tiled)

theorem os_split : (some' c osM : sProp 𝕄) ⊢ iprop(some' c (osW 0) ∗ some' c (osW 1) ∗ some' c (osW 2)) :=
  (deal_any (hr := fun _ _ => rfl) os_tiled).trans (Entails.of_eq three)
theorem os_join : iprop(some' c (osW 0) ∗ some' c (osW 1) ∗ some' c (osW 2)) ⊢ (some' c osM : sProp 𝕄) :=
  (Entails.of_eq three.symm).trans (gather_any (hr := fun _ _ => rfl) os_tiled)

/-- Receive slots, named as transfers do. -/
theorem slot_of (b : Bool) (j : ℕ) (h : j < 6) : (some' c (rgW b j h) : sProp 𝕄) ⊢ some' c (slot b j h) := by
  iintro ⟨%Y, H⟩
  iexists _
  iapply (owns_squeeze (c := (c : Thread nD τ)) (rgW b j h) squeezes_S1x256x4096_S256x4096 fullShare Y)
  iexact H

theorem slots_split (b : Bool) : (some' c (rgM b) : sProp 𝕄) ⊢ slots b c := by
  cases b
  · exact (deal_any (hr := fun _ _ => rfl) rg_tiled).trans (bigSep_mono fun j _ => slot_of false j.val j.isLt)
  · exact (deal_any (hr := fun _ _ => rfl) rg_tiled).trans (bigSep_mono fun j _ => slot_of true j.val j.isLt)

theorem slots_open (b : Bool) (d : Dev nD) : (slots b d : sProp 𝕄) ⊢ iprop(some' d (slot b 0 (by decide)) ∗ some' d (slot b 1 (by decide)) ∗ some' d (slot b 2 (by decide))
    ∗ some' d (slot b 3 (by decide)) ∗ some' d (slot b 4 (by decide)) ∗ some' d (slot b 5 (by decide))) :=
  Entails.of_eq six

theorem slots_join (b : Bool) : iprop(some' c (rgW b 0 (by decide)) ∗ some' c (rgW b 1 (by decide)) ∗ some' c (rgW b 2 (by decide))
    ∗ some' c (rgW b 3 (by decide)) ∗ some' c (rgW b 4 (by decide)) ∗ some' c (rgW b 5 (by decide))) ⊢ (some' c (rgM b) : sProp 𝕄) := by
  cases b
  · exact (Entails.of_eq six.symm).trans (gather_any (hr := fun _ _ => rfl) rg_tiled)
  · exact (Entails.of_eq six.symm).trans (gather_any (hr := fun _ _ => rfl) rg_tiled)

theorem out_split : (some' c outM : sProp 𝕄) ⊢ iprop(some' c (oO c 0) ∗ some' c (oO c 1)
    ∗ some' c (oB c false 0 0) ∗ some' c (oB c false 0 1) ∗ some' c (oB c false 1 0) ∗ some' c (oB c false 1 1) ∗ some' c (oB c false 2 0) ∗ some' c (oB c false 2 1)
    ∗ some' c (oB c true 0 0) ∗ some' c (oB c true 0 1) ∗ some' c (oB c true 1 0) ∗ some' c (oB c true 1 1) ∗ some' c (oB c true 2 0) ∗ some' c (oB c true 2 1)) :=
  (deal_any (hr := outR_stride c) (out_tiled c)).trans (Entails.of_eq fourteen)

end Buffers

variable (v : F .f32)

/-- What the result's windows end up holding. -/
def outV : ∀ t, (outR c t).shape.Idx → Elt F .f32
  | .inl 0 => dnA (avO m c v 0)
  | .inl 1 => dnA (avO m c v 512)
  | .inr (false, k, a) => dnO (av m c v false (2 * k.val + a.val))
  | .inr (true, k, a) => dnO (av m c v true (2 * k.val + a.val))

/-- The result. -/
def outX : S4096x2048.Idx → Elt F .f32 := glue (out_tiled c) (outV m c v)

theorem out_join : iprop(has c (oO c 0) fullShare (dnA (avO m c v 0)) ∗ has c (oO c 1) fullShare (dnA (avO m c v 512))
    ∗ has c (oB c false 0 0) fullShare (dnO (av m c v false 0)) ∗ has c (oB c false 0 1) fullShare (dnO (av m c v false 1))
    ∗ has c (oB c false 1 0) fullShare (dnO (av m c v false 2)) ∗ has c (oB c false 1 1) fullShare (dnO (av m c v false 3))
    ∗ has c (oB c false 2 0) fullShare (dnO (av m c v false 4)) ∗ has c (oB c false 2 1) fullShare (dnO (av m c v false 5))
    ∗ has c (oB c true 0 0) fullShare (dnO (av m c v true 0)) ∗ has c (oB c true 0 1) fullShare (dnO (av m c v true 1))
    ∗ has c (oB c true 1 0) fullShare (dnO (av m c v true 2)) ∗ has c (oB c true 1 1) fullShare (dnO (av m c v true 3))
    ∗ has c (oB c true 2 0) fullShare (dnO (av m c v true 4)) ∗ has c (oB c true 2 1) fullShare (dnO (av m c v true 5)))
    ⊢ (has c outM fullShare (outX m c v) : sProp 𝕄) :=
  (Entails.of_eq fourteen.symm).trans (gather (hr := outR_stride c) (out_tiled c) (outV m c v))

end Cert.Ring

end
-- ==== Proof.Body.lean ====
/-
The whole program of one device, part after part.
-/
module

public import proofs.«01_k».proof.Proof.P1
public import proofs.«01_k».proof.Proof.P2
public import proofs.«01_k».proof.Proof.P3
public import proofs.«01_k».proof.Proof.P4
public import proofs.«01_k».proof.Proof.P5
public import proofs.«01_k».proof.Proof.P6
public import proofs.«01_k».proof.Proof.Windows

@[expose] public section

noncomputable section

namespace Cert.Ring

open Cert.KernelIdeal Cert.KernelIdeal.Gen Cert.Step

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight Flight_mono)

variable {F : FTy → Type} [FloatOps F]

local notation "𝕄" => MT nD τ sig Unit (Elt F) ℕ UU ℕ

variable (m : (ℓ : Loc nD τ sig) → Buf (Elt F) ℓ) (c : Dev nD)

/-- The semaphores of the copies inside the device, at zero. -/
def locals : sProp (MT nD τ sig Unit (Elt F) ℕ UU ℕ) :=
  iprop(idle c (stS 0) ∗ idle c (stS 1) ∗ idle c (stS 2) ∗ idle c (stS 3) ∗ idle c (ownS 0) ∗ idle c (ownS 1) ∗ idle c (outS 0) ∗ idle c (outS 1) ∗ idle c (outS 2))

/-- What the device holds for all its transfers. -/
def kits : sProp (MT nD τ sig Unit (Elt F) ℕ UU ℕ) :=
  iprop((bigSep Finset.univ fun b : Bool => bigSep Finset.univ fun j : Fin 6 => sendKit b j.val j.isLt c)
    ∗ (bigSep Finset.univ fun b : Bool => bigSep Finset.univ fun j : Fin 6 => recvKit b j.val j.isLt c))

theorem both {Φ : Bool → sProp (MT nD τ sig Unit (Elt F) ℕ UU ℕ)} : bigSep Finset.univ Φ = iprop(Φ false ∗ Φ true) :=
  bigSep_univ_eq_bigSepL [false, true] (by decide) (by decide) Φ

theorem kits_open : (kits c : sProp 𝕄) ⊢ iprop(((sendKit false 0 (by decide) c ∗ sendKit false 1 (by decide) c ∗ sendKit false 2 (by decide) c ∗ sendKit false 3 (by decide) c ∗ sendKit false 4 (by decide) c ∗ sendKit false 5 (by decide) c) ∗ (sendKit true 0 (by decide) c ∗ sendKit true 1 (by decide) c ∗ sendKit true 2 (by decide) c ∗ sendKit true 3 (by decide) c ∗ sendKit true 4 (by decide) c ∗ sendKit true 5 (by decide) c)) ∗ ((recvKit false 0 (by decide) c ∗ recvKit false 1 (by decide) c ∗ recvKit false 2 (by decide) c ∗ recvKit false 3 (by decide) c ∗ recvKit false 4 (by decide) c ∗ recvKit false 5 (by decide) c) ∗ (recvKit true 0 (by decide) c ∗ recvKit true 1 (by decide) c ∗ recvKit true 2 (by decide) c ∗ recvKit true 3 (by decide) c ∗ recvKit true 4 (by decide) c ∗ recvKit true 5 (by decide) c))) := by
  unfold kits
  rw [both, both, six, six, six, six]
  exact .rfl

/-- The kernel's own semaphores. -/
abbrev osem : Fin 33 → SemLoc sig := fun k => .dma ⟨k.val + 2, by have := k.isLt; show k.val + 2 < 35; omega⟩

theorem sems_join : iprop(idle c (stS 0) ∗ idle c (stS 1) ∗ idle c (stS 2) ∗ idle c (stS 3) ∗ idle c (ownS 0) ∗ idle c (ownS 1) ∗ idle c (outS 0) ∗ idle c (outS 1) ∗ idle c (outS 2) ∗ idle c (sndS false 0) ∗ idle c (sndS false 1) ∗ idle c (sndS false 2) ∗ idle c (sndS false 3) ∗ idle c (sndS false 4) ∗ idle c (sndS false 5) ∗ idle c (rcvS false 0) ∗ idle c (rcvS false 1) ∗ idle c (rcvS false 2) ∗ idle c (rcvS false 3) ∗ idle c (rcvS false 4) ∗ idle c (rcvS false 5) ∗ idle c (sndS true 0) ∗ idle c (sndS true 1) ∗ idle c (sndS true 2) ∗ idle c (sndS true 3) ∗ idle c (sndS true 4) ∗ idle c (sndS true 5) ∗ idle c (rcvS true 0) ∗ idle c (rcvS true 1) ∗ idle c (rcvS true 2) ∗ idle c (rcvS true 3) ∗ idle c (rcvS true 4) ∗ idle c (rcvS true 5))
    ⊢ (bigSep Finset.univ fun k : Fin 33 => semVal ((c : Thread nD τ), osem k) 0 : sProp 𝕄) := by
  rw [bigSep_univ_eq_bigSepL (List.finRange 33) (by decide) (by decide)]
  exact .rfl

theorem run_bind {α β : Type} {p : Prog (TpuEff nD τ sig (Elt F) Λ₀ .tc) α} {k : α → Prog (TpuEff nD τ sig (Elt F) Λ₀ .tc) β} {Q : β → sProp (MT nD τ sig Unit (Elt F) ℕ UU ℕ)} :
    (run c p (fun a => run c (k a) Q) : sProp 𝕄) ⊢ run c (p >>= k) Q :=
  Entails.of_eq (wp_bind _ _ _ _ _ _).symm

/-- The whole program of one device: from its buffers to its result. -/
theorem body_run (A B : S1.Idx → Elt F .f32) {Q : PUnit → sProp (MT nD τ sig Unit (Elt F) ℕ UU ℕ)} :
    ctx m ⊢ iprop(has c xM fullShare (X m c) -∗ has c wM fullShare (W m c) -∗ some' c outM -∗ some' c stM -∗ some' c x8M -∗ some' c w8M -∗ some' c acM -∗ some' c osM
      -∗ some' c (rgM false) -∗ some' c (rgM true) -∗ has c sxM fullShare A -∗ has c swM fullShare B -∗ locals c -∗ kits c
      -∗ dutyTok ER (barCell (nb (!false) c)) 0 false -∗ dutyTok ER (barCell (nb (!true) c)) 0 true -∗ cred (tallyAt (barCell c) () 2) -∗ atPos ER (barCell c) 0 ∅ 0 -∗ debt c 0
      -∗ (has c xM fullShare (X m c) -∗ has c wM fullShare (W m c) -∗ has c outM fullShare (outX m c (scale A B)) -∗ some' c stM -∗ some' c x8M -∗ some' c w8M -∗ some' c acM -∗ some' c osM
        -∗ some' c (rgM false) -∗ some' c (rgM true) -∗ has c sxM fullShare A -∗ has c swM fullShare B
        -∗ (bigSep Finset.univ fun k : Fin 33 => semVal ((c : Thread nD τ), osem k) 0) -∗ semVal (barCell c) 0 -∗ debt c 14 -∗ Q ⟨⟩)
      -∗ run c (on (cc0_body (F := F))) Q) := by
  unfold on
  rw [cc0_body_eq_skeleton]; unfold cc0_body_skel
  iintro #Hctx Hx Hw Ho Hst Hx8 Hw8 Hac Hos Hr0 Hr1 HM0 HM1 Hloc Hkit HB0 HB1 HC HCP HD Hk
  ihave H0 := (x_split (m := m) (c := c)) $$ Hx
  icases H0 with ⟨HX0, HX256, HX512, HX768⟩
  ihave H0 := ((owns_halves (c : Thread nD τ) wM fullShare (W m c)).1) $$ Hw
  icases H0 with ⟨HW0, HW1⟩
  ihave H0 := (out_split (F := F) (c := c)) $$ Ho
  icases H0 with ⟨HOO0, HOO1, HOB0_0_0, HOB0_0_1, HOB0_1_0, HOB0_1_1, HOB0_2_0, HOB0_2_1, HOB1_0_0, HOB1_0_1, HOB1_1_0, HOB1_1_1, HOB1_2_0, HOB1_2_1⟩
  ihave H0 := (stage_split (F := F) (c := c)) $$ Hst
  icases H0 with ⟨HSX0_0, HSX0_256, HSX1_0, HSX1_256⟩
  ihave H0 := (x8_split (F := F) (c := c)) $$ Hx8
  icases H0 with ⟨HE0, HE256, HE512, HE768⟩
  ihave H0 := (w8_split (F := F) (c := c)) $$ Hw8
  icases H0 with ⟨HT0, HT512, HT1024, HT1536, HT2048, HT2560, HT3072, HT3584⟩
  ihave H0 := (ac_split (F := F) (c := c)) $$ Hac
  icases H0 with ⟨HA0, HA1⟩
  ihave H0 := (os_split (F := F) (c := c)) $$ Hos
  icases H0 with ⟨HO0, HO1, HO2⟩
  ihave HV0 := (slots_split (F := F) (c := c) false) $$ Hr0
  ihave HV1 := (slots_split (F := F) (c := c) true) $$ Hr1
  unfold locals
  icases Hloc with ⟨HIst0, HIst1, HIst2, HIst3, HIown0, HIown1, HIout0, HIout1, HIout2⟩
  ihave H0 := (kits_open (F := F) c) $$ Hkit
  icases H0 with ⟨⟨⟨HK0_0, HK0_1, HK0_2, HK0_3, HK0_4, HK0_5⟩, ⟨HK1_0, HK1_1, HK1_2, HK1_3, HK1_4, HK1_5⟩⟩, ⟨⟨HR0_0, HR0_1, HR0_2, HR0_3, HR0_4, HR0_5⟩, ⟨HR1_0, HR1_1, HR1_2, HR1_3, HR1_4, HR1_5⟩⟩⟩
  iapply run_bind
  iapply (part1 m c ) $$ Hctx HX0 HSX0_0 HIst0 HX256 HSX0_256 HIst1 HX512 HSX1_0 HIst2
  iintro %v2 %v5 %v7 HGx0 HGx1 HGx2
  dsimp only
  iapply run_bind
  iapply (part2 m c A B _ _) $$ Hctx HX768 HSX1_256 HIst3 HV0 HB0 HD HV1 HB1 HC HCP HM0 HM1 HGx0 HE0
  iintro HGx3 HU0 HU1 HCZ HM0 HM1 HX0 HIst0 HD HSX0_0 HE0
  ihave HU := (slots_open (F := F) false (nb false c)) $$ HU0
  icases HU with ⟨HY0_0, HY0_1, HY0_2, HY0_3, HY0_4, HY0_5⟩
  ihave HU := (slots_open (F := F) true (nb true c)) $$ HU1
  icases HU with ⟨HY1_0, HY1_1, HY1_2, HY1_3, HY1_4, HY1_5⟩
  iapply run_bind
  iapply (part3 m c _) $$ Hctx HD HE0 HY0_0 HK0_0 HGx2 HE512 HY1_0 HK1_0
  iintro HE0 HL0_0 HX512 HIst2 HSX1_0 HE512 HL1_0 HD
  iapply run_bind
  iapply (part4 m c _) $$ Hctx HD HGx1 HE256 HY0_1 HK0_1 HGx3 HE768
  iintro HX256 HIst1 HSX0_256 HE256 HL0_1 HX768 HIst3 HD HSX1_256 HE768
  ihave HS := (stage_turn (F := F) (c := c)) $$ [HSX0_0 HSX0_256 HSX1_0 HSX1_256]
  · isplitl [HSX0_0]; · iapply any; iexact HSX0_0
    isplitl [HSX0_256]; · iapply any; iexact HSX0_256
    isplitl [HSX1_0]; · iapply any; iexact HSX1_0
    iapply any; iexact HSX1_256
  icases HS with ⟨HSW0, HSV0, HSW1, HSV1⟩
  iapply run_bind
  iapply (part5 m c _ _) $$ Hctx HD HE768 HY1_1 HK1_1 HW0 HSW0 HIst0 HW1 HSW1 HIst1
  iintro HE768 HL1_1 HGw1 HW0 HIst0 HD HSW0
  ihave HX8 := (x8_join (m := m) (c := c) fullShare.left) $$ [HE0 HE256 HE512 HE768]
  · isplitl [HE0]; · iexact HE0
    isplitl [HE256]; · iexact HE256
    isplitl [HE512]; · iexact HE512
    iexact HE768
  iapply run_bind
  iapply (part6 m c _) $$ Hctx HT0 HW0 HSW0 HIst0 HX8 HA0 HA1 HD HGw1
  iintro HT0 HGw0 HX8 HA0 HA1 HW1 HIst1 HD HSW1
  iapply run_bind
  iapply (part7 m c _) $$ Hctx HT512 HW1 HSW1 HIst1 HX8 HA0 HA1
  iintro HT512 HGw1 HX8 HA0 HA1
  iapply run_bind
  iapply (part8 m c _) $$ Hctx HD HGw0 HT1024 HX8 HA0 HA1
  iintro HD HT1024 HGw0 HX8 HA0 HA1
  iapply run_bind
  iapply (part9 m c _) $$ Hctx HA1 HD HGw1 HT1536 HX8 HA0
  iintro HA1 HD HT1536 HGw1 HX8 HA0
  dsimp only
  iapply run_bind
  iapply (part10 m c _) $$ Hctx HA0 HA1 HD HGw0 HT2048 HX8
  iintro HA0 HA1 HD HT2048 HGw0 HX8
  dsimp only
  iapply run_bind
  iapply (part11 m c _) $$ Hctx HX8 HA0 HA1 HD HGw1 HT2560
  iintro HX8 HA0 HA1 HW1 HIst1 HD HSW1 HT2560
  iapply run_bind
  iapply (part12 m c ) $$ Hctx HW1 HSW1 HIst1 HX8 HA0 HA1 HD HGw0
  iintro HGw1 HX8 HA0 HA1 HW0 HIst0 HD HSW0
  iapply run_bind
  iapply (part13 m c ) $$ Hctx HT3072 HX8 HA0 HA1 HD HGw1
  iintro HT3072 HX8 HA0 HA1 HW1 HIst1 HD HSW1
  iapply run_bind
  iapply (part14 m c _) $$ Hctx HT3584 HX8 HA0 HA1 HD HL0_0
  iintro %u HT3584 HX8 HA0 HA1 HF0 HIsnd0_0 HD
  ihave HW8 := (w8_join (m := m) (c := c)) $$ [HT0 HT512 HT1024 HT1536 HT2048 HT2560 HT3072 HT3584]
  · isplitl [HT0]; · iexact HT0
    isplitl [HT512]; · iexact HT512
    isplitl [HT1024]; · iexact HT1024
    isplitl [HT1536]; · iexact HT1536
    isplitl [HT2048]; · iexact HT2048
    isplitl [HT2560]; · iexact HT2560
    isplitl [HT3072]; · iexact HT3072
    iexact HT3584
  iapply run_bind
  iapply (part15 m c _ _ _) $$ Hctx HD HR0_0 HY0_2 HK0_2 HL1_0
  iintro HP0_0 HIrcv0_0 HL0_2 HF512 HIsnd1_0 HD
  iapply run_bind
  iapply (part16 m c (scale A B) _ _) $$ Hctx HD HR1_0 HY1_2 HK1_2 HA0
  iintro HP1_0 HIrcv1_0 HL1_2 HD HA0
  iapply run_bind
  iapply (part17 m c (scale A B) _) $$ Hctx HA0 HOO0 HIown0 HA1 HOO1 HIown1
  iintro %u HGa0 HGa1
  iapply run_bind
  iapply (part18 m c (scale A B) _ _) $$ Hctx HP0_0 HW8 HO0 HOB0_0_0 HIout0 HP1_0
  iintro %u HP0_0 HGo0 HP1_0 HW8
  dsimp only
  iapply run_bind
  iapply (part19 m c (scale A B) _ _) $$ Hctx HO1 HOB1_0_0 HIout1 HD HL0_1
  iintro %u HGo1 HF256 HIsnd0_1 HD
  iapply run_bind
  iapply (part20 m c _ _ _) $$ Hctx HD HR0_1 HY0_3 HK0_3 HL1_1
  iintro HP0_1 HIrcv0_1 HL0_3 HF768 HIsnd1_1 HD
  iapply run_bind
  iapply (part21 m c (scale A B) _ _) $$ Hctx HD HR1_1 HY1_3 HK1_3 HP0_1 HW8
  iintro %u HP1_1 HIrcv1_1 HL1_3 HD HP0_1 HW8
  dsimp only
  iapply run_bind
  iapply (part22 m c (scale A B) _ _) $$ Hctx HO2 HOB0_0_1 HIout2 HP1_1 HW8
  iintro %u HGo2 HP1_1 HW8
  dsimp only
  iapply run_bind
  iapply (part23 m c (scale A B) _ _) $$ Hctx HD HGo0 HOB1_0_1 HL0_2
  iintro HOB0_0_0 HGo0 HH0_0 HIsnd0_2 HD
  iapply run_bind
  iapply (part24 m c _ _) $$ Hctx HD HR0_2 HY0_4 HK0_4 HL1_2 HR1_2
  iintro HP0_2 HIrcv0_2 HL0_4 HH1_0 HIsnd1_2 HP1_2 HH1_2 HIrcv1_2 HD
  iapply run_bind
  iapply (part25 m c (scale A B) _ _) $$ Hctx HD HH1_2 HY1_4 HK1_4 HP0_2 HW8
  iintro %u HL1_4 HD HP0_2 HW8
  dsimp only
  iapply run_bind
  iapply (part26 m c (scale A B) _ _) $$ Hctx HD HGo1 HOB0_1_0 HP1_2 HW8
  iintro %u HOB1_0_0 HD HGo1 HP1_2 HW8
  dsimp only
  iapply run_bind
  iapply (part27 m c (scale A B) _ _) $$ Hctx HD HGo2 HOB1_1_0 HL0_3
  iintro HOB0_0_1 HGo2 HH0_1 HIsnd0_3 HD
  iapply run_bind
  iapply (part28 m c _ _) $$ Hctx HD HR0_3 HY0_5 HK0_5 HL1_3
  iintro HP0_3 HIrcv0_3 HL0_5 HH1_1 HIsnd1_3 HD
  iapply run_bind
  iapply (part29 m c (scale A B) _ _) $$ Hctx HD HR1_3 HY1_5 HK1_5 HP0_3 HW8
  iintro %u HP1_3 HIrcv1_3 HL1_5 HD HP0_3 HW8
  dsimp only
  iapply run_bind
  iapply (part30 m c (scale A B) _ _) $$ Hctx HD HGo0 HOB0_1_1 HP1_3 HW8
  iintro %u HOB1_0_1 HD HGo0 HP1_3 HW8
  dsimp only
  iapply run_bind
  iapply (part31 m c (scale A B) _ _) $$ Hctx HD HGo1 HOB1_1_1 HL0_4
  iintro HOB0_1_0 HGo1 HH0_2 HIsnd0_4 HD
  iapply run_bind
  iapply (part32 m c _ _) $$ Hctx HD HR0_4 HL1_4 HR1_4 HW8
  iintro %u HIrcv0_4 HH1_2 HIsnd1_4 HP1_4 HIrcv1_4 HD HP0_4 HW8
  dsimp only
  iapply run_bind
  iapply (part33 m c (scale A B) _ _) $$ Hctx HD HGo2 HOB0_2_0 HP1_4
  iintro %u HOB1_1_0 HD HGo2 HP1_4
  dsimp only
  iapply run_bind
  iapply (part34 m c (scale A B) _) $$ Hctx HW8 HD HGo0 HOB1_2_0
  iintro HW8 HOB0_1_1 HD HGo0
  iapply run_bind
  iapply (part35 m c _ _) $$ Hctx HD HL0_5 HR0_5 HL1_5
  iintro HH0_3 HIsnd0_5 HP0_5 HIrcv0_5 HH1_3 HIsnd1_5 HD
  iapply run_bind
  iapply (part36 m c (scale A B) _) $$ Hctx HD HR1_5 HP0_5 HW8 HGo1
  iintro %u HP1_5 HIrcv1_5 HP0_5 HW8 HOB1_1_1 HIout1 HD HO1
  iapply run_bind
  iapply (part37 m c (scale A B) _ _) $$ Hctx HO1 HOB0_2_1 HIout1 HP1_5 HW8 HD HGo2
  iintro %u HGo1 HP1_5 HW8 HOB0_2_0 HIout2 HD HO2
  dsimp only
  iapply run_bind
  iapply (part38 m c (scale A B) _) $$ Hctx HO2 HOB1_2_1 HIout2 HD HGa0 HGa1 HGo0
  iintro HGo2 HOO0 HA0 HIown0 HOO1 HA1 HIown1 HOB1_2_0 HO0 HIout0 HD
  simp only [Prog.lift, Prog.bind_op, Prog.bind_ret, Prog.pure_eq_ret]
  iapply (wait_o (scale A B) 1 false 2 1 5 14) $$ Hctx HGo1 HD
  iintro HOB0_2_1 HO1 HIout1 HD
  iapply (wait_o (scale A B) 2 true 2 1 5 14) $$ Hctx HGo2 HD
  iintro HOB1_2_1 HO2 HIout2 HD
  iapply run_ret
  ihave Hx := (x_join (m := m) (c := c)) $$ [HX0 HX256 HX512 HX768]
  · isplitl [HX0]; · iexact HX0
    isplitl [HX256]; · iexact HX256
    isplitl [HX512]; · iexact HX512
    iexact HX768
  ihave Hw := ((owns_halves (c : Thread nD τ) wM fullShare (W m c)).2) $$ [HW0 HW1]
  · isplitl [HW0]; · iexact HW0
    iexact HW1
  ihave Ho := (out_join m c (scale A B)) $$ [HOO0 HOO1 HOB0_0_0 HOB0_0_1 HOB0_1_0 HOB0_1_1 HOB0_2_0 HOB0_2_1 HOB1_0_0 HOB1_0_1 HOB1_1_0 HOB1_1_1 HOB1_2_0 HOB1_2_1]
  · isplitl [HOO0]; · iexact HOO0
    isplitl [HOO1]; · iexact HOO1
    isplitl [HOB0_0_0]; · iexact HOB0_0_0
    isplitl [HOB0_0_1]; · iexact HOB0_0_1
    isplitl [HOB0_1_0]; · iexact HOB0_1_0
    isplitl [HOB0_1_1]; · iexact HOB0_1_1
    isplitl [HOB0_2_0]; · iexact HOB0_2_0
    isplitl [HOB0_2_1]; · iexact HOB0_2_1
    isplitl [HOB1_0_0]; · iexact HOB1_0_0
    isplitl [HOB1_0_1]; · iexact HOB1_0_1
    isplitl [HOB1_1_0]; · iexact HOB1_1_0
    isplitl [HOB1_1_1]; · iexact HOB1_1_1
    isplitl [HOB1_2_0]; · iexact HOB1_2_0
    iexact HOB1_2_1
  ihave HSW0' := any $$ HSW0
  ihave HSW1' := any $$ HSW1
  ihave Hst := (stage_join (F := F) (c := c)) $$ [HSW0' HSV0 HSW1' HSV1]
  · isplitl [HSW0']; · iexact HSW0'
    isplitl [HSV0]; · iexact HSV0
    isplitl [HSW1']; · iexact HSW1'
    iexact HSV1
  ihave HX8b := (x8_join (m := m) (c := c) fullShare.right) $$ [HF0 HF256 HF512 HF768]
  · isplitl [HF0]; · iexact HF0
    isplitl [HF256]; · iexact HF256
    isplitl [HF512]; · iexact HF512
    iexact HF768
  ihave Hx8 := (join_halves (c := c) (w := x8M) (X8 m c) (X8 m c)) $$ [HX8 HX8b]
  · isplitl [HX8]; · iexact HX8
    iexact HX8b
  ihave Hw8 := any $$ HW8
  ihave Hac := (ac_join (F := F) (c := c)) $$ [HA0 HA1]
  · isplitl [HA0]; · (iapply any; iexact HA0)
    (iapply any; iexact HA1)
  ihave Hos := (os_join (F := F) (c := c)) $$ [HO0 HO1 HO2]
  · isplitl [HO0]; · (iapply any; iexact HO0)
    isplitl [HO1]; · (iapply any; iexact HO1)
    (iapply any; iexact HO2)
  ihave HZ0_0 := (slot_back false 0 (by decide) c) $$ [HP0_0 HH0_0]
  · isplitl [HP0_0]; · iexact HP0_0
    iexact HH0_0
  ihave HZ0_1 := (slot_back false 1 (by decide) c) $$ [HP0_1 HH0_1]
  · isplitl [HP0_1]; · iexact HP0_1
    iexact HH0_1
  ihave HZ0_2 := (slot_back false 2 (by decide) c) $$ [HP0_2 HH0_2]
  · isplitl [HP0_2]; · iexact HP0_2
    iexact HH0_2
  ihave HZ0_3 := (slot_back false 3 (by decide) c) $$ [HP0_3 HH0_3]
  · isplitl [HP0_3]; · iexact HP0_3
    iexact HH0_3
  ihave Hr0 := (slots_join (F := F) (c := c) false) $$ [HZ0_0 HZ0_1 HZ0_2 HZ0_3 HP0_4 HP0_5]
  · isplitl [HZ0_0]; · (iapply any; iexact HZ0_0)
    isplitl [HZ0_1]; · (iapply any; iexact HZ0_1)
    isplitl [HZ0_2]; · (iapply any; iexact HZ0_2)
    isplitl [HZ0_3]; · (iapply any; iexact HZ0_3)
    isplitl [HP0_4]; · (iapply any; iexact HP0_4)
    (iapply any; iexact HP0_5)
  ihave HZ1_0 := (slot_back true 0 (by decide) c) $$ [HP1_0 HH1_0]
  · isplitl [HP1_0]; · iexact HP1_0
    iexact HH1_0
  ihave HZ1_1 := (slot_back true 1 (by decide) c) $$ [HP1_1 HH1_1]
  · isplitl [HP1_1]; · iexact HP1_1
    iexact HH1_1
  ihave HZ1_2 := (slot_back true 2 (by decide) c) $$ [HP1_2 HH1_2]
  · isplitl [HP1_2]; · iexact HP1_2
    iexact HH1_2
  ihave HZ1_3 := (slot_back true 3 (by decide) c) $$ [HP1_3 HH1_3]
  · isplitl [HP1_3]; · iexact HP1_3
    iexact HH1_3
  ihave Hr1 := (slots_join (F := F) (c := c) true) $$ [HZ1_0 HZ1_1 HZ1_2 HZ1_3 HP1_4 HP1_5]
  · isplitl [HZ1_0]; · (iapply any; iexact HZ1_0)
    isplitl [HZ1_1]; · (iapply any; iexact HZ1_1)
    isplitl [HZ1_2]; · (iapply any; iexact HZ1_2)
    isplitl [HZ1_3]; · (iapply any; iexact HZ1_3)
    isplitl [HP1_4]; · (iapply any; iexact HP1_4)
    (iapply any; iexact HP1_5)
  ihave Hsem := (sems_join (F := F) c) $$ [HIst0 HIst1 HIst2 HIst3 HIown0 HIown1 HIout0 HIout1 HIout2 HIsnd0_0 HIsnd0_1 HIsnd0_2 HIsnd0_3 HIsnd0_4 HIsnd0_5 HIrcv0_0 HIrcv0_1 HIrcv0_2 HIrcv0_3 HIrcv0_4 HIrcv0_5 HIsnd1_0 HIsnd1_1 HIsnd1_2 HIsnd1_3 HIsnd1_4 HIsnd1_5 HIrcv1_0 HIrcv1_1 HIrcv1_2 HIrcv1_3 HIrcv1_4 HIrcv1_5]
  · isplitl [HIst0]; · iexact HIst0
    isplitl [HIst1]; · iexact HIst1
    isplitl [HIst2]; · iexact HIst2
    isplitl [HIst3]; · iexact HIst3
    isplitl [HIown0]; · iexact HIown0
    isplitl [HIown1]; · iexact HIown1
    isplitl [HIout0]; · iexact HIout0
    isplitl [HIout1]; · iexact HIout1
    isplitl [HIout2]; · iexact HIout2
    isplitl [HIsnd0_0]; · iexact HIsnd0_0
    isplitl [HIsnd0_1]; · iexact HIsnd0_1
    isplitl [HIsnd0_2]; · iexact HIsnd0_2
    isplitl [HIsnd0_3]; · iexact HIsnd0_3
    isplitl [HIsnd0_4]; · iexact HIsnd0_4
    isplitl [HIsnd0_5]; · iexact HIsnd0_5
    isplitl [HIrcv0_0]; · iexact HIrcv0_0
    isplitl [HIrcv0_1]; · iexact HIrcv0_1
    isplitl [HIrcv0_2]; · iexact HIrcv0_2
    isplitl [HIrcv0_3]; · iexact HIrcv0_3
    isplitl [HIrcv0_4]; · iexact HIrcv0_4
    isplitl [HIrcv0_5]; · iexact HIrcv0_5
    isplitl [HIsnd1_0]; · iexact HIsnd1_0
    isplitl [HIsnd1_1]; · iexact HIsnd1_1
    isplitl [HIsnd1_2]; · iexact HIsnd1_2
    isplitl [HIsnd1_3]; · iexact HIsnd1_3
    isplitl [HIsnd1_4]; · iexact HIsnd1_4
    isplitl [HIsnd1_5]; · iexact HIsnd1_5
    isplitl [HIrcv1_0]; · iexact HIrcv1_0
    isplitl [HIrcv1_1]; · iexact HIrcv1_1
    isplitl [HIrcv1_2]; · iexact HIrcv1_2
    isplitl [HIrcv1_3]; · iexact HIrcv1_3
    isplitl [HIrcv1_4]; · iexact HIrcv1_4
    iexact HIrcv1_5
  iapply Hk $$ Hx Hw Ho Hst Hx8 Hw8 Hac Hos Hr0 Hr1 HM0 HM1 Hsem HCZ HD

end Cert.Ring

end
-- ==== Proof.Deal.lean ====
/-
What the launch deals the four devices: the cells' invariants and positions, every duty's token to the device that
pays it, and the credit of what a device will be sent.
-/
module

public import proofs.«01_k».proof.Proof.Body

@[expose] public section

noncomputable section

namespace Cert.Ring

open Cert.KernelIdeal Cert.KernelIdeal.Gen Cert.Step

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight Flight_mono)

variable {F : FTy → Type} [FloatOps F]

local notation "𝕄" => MT nD τ sig Unit (Elt F) ℕ UU ℕ

variable (m : (ℓ : Loc nD τ sig) → Buf (Elt F) ℓ) (c : Dev nD)

/-! ## The cells -/

theorem cells_list (Φ : GSem nD τ sig → sProp (MT nD τ sig Unit (Elt F) ℕ UU ℕ)) :
    (bigSep Finset.univ fun k : Fin 25 => Φ (kcell (c, k))) ⊢ iprop(Φ (barCell c) ∗ Φ (sendCell false 0 (by decide) c) ∗ Φ (sendCell false 1 (by decide) c) ∗ Φ (sendCell false 2 (by decide) c) ∗ Φ (sendCell false 3 (by decide) c) ∗ Φ (sendCell false 4 (by decide) c) ∗ Φ (sendCell false 5 (by decide) c) ∗ Φ (recvCell false 0 (by decide) c) ∗ Φ (recvCell false 1 (by decide) c) ∗ Φ (recvCell false 2 (by decide) c) ∗ Φ (recvCell false 3 (by decide) c) ∗ Φ (recvCell false 4 (by decide) c) ∗ Φ (recvCell false 5 (by decide) c) ∗ Φ (sendCell true 0 (by decide) c) ∗ Φ (sendCell true 1 (by decide) c) ∗ Φ (sendCell true 2 (by decide) c) ∗ Φ (sendCell true 3 (by decide) c) ∗ Φ (sendCell true 4 (by decide) c) ∗ Φ (sendCell true 5 (by decide) c) ∗ Φ (recvCell true 0 (by decide) c) ∗ Φ (recvCell true 1 (by decide) c) ∗ Φ (recvCell true 2 (by decide) c) ∗ Φ (recvCell true 3 (by decide) c) ∗ Φ (recvCell true 4 (by decide) c) ∗ Φ (recvCell true 5 (by decide) c)) := by
  rw [bigSep_univ_eq_bigSepL (List.finRange 25) (by decide) (by decide)]
  exact .rfl

/-- The cells of one device: its barrier, the transfers' send cells, their receive cells. -/
theorem cells_open (Φ : GSem nD τ sig → sProp (MT nD τ sig Unit (Elt F) ℕ UU ℕ)) :
    (bigSep Finset.univ fun k : Fin 25 => Φ (kcell (c, k))) ⊢ iprop(Φ (barCell c)
      ∗ (bigSep Finset.univ fun b : Bool => bigSep Finset.univ fun j : Fin 6 => Φ (sendCell b j.val j.isLt c))
      ∗ (bigSep Finset.univ fun b : Bool => bigSep Finset.univ fun j : Fin 6 => Φ (recvCell b j.val j.isLt c))) := by
  rw [both, both, six, six, six, six]
  refine BIBase.Entails.trans (cells_list c Φ) ?_
  iintro ⟨Hbar, Hsndf0, Hsndf1, Hsndf2, Hsndf3, Hsndf4, Hsndf5, Hrcvf0, Hrcvf1, Hrcvf2, Hrcvf3, Hrcvf4, Hrcvf5, Hsndt0, Hsndt1, Hsndt2, Hsndt3, Hsndt4, Hsndt5, Hrcvt0, Hrcvt1, Hrcvt2, Hrcvt3, Hrcvt4, Hrcvt5⟩
  isplitl [Hbar]; · iexact Hbar
  isplitl [Hsndf0 Hsndf1 Hsndf2 Hsndf3 Hsndf4 Hsndf5 Hsndt0 Hsndt1 Hsndt2 Hsndt3 Hsndt4 Hsndt5]
  · isplitl [Hsndf0 Hsndf1 Hsndf2 Hsndf3 Hsndf4 Hsndf5]
    · isplitl [Hsndf0]; · iexact Hsndf0
      isplitl [Hsndf1]; · iexact Hsndf1
      isplitl [Hsndf2]; · iexact Hsndf2
      isplitl [Hsndf3]; · iexact Hsndf3
      isplitl [Hsndf4]; · iexact Hsndf4
      iexact Hsndf5
    · isplitl [Hsndt0]; · iexact Hsndt0
      isplitl [Hsndt1]; · iexact Hsndt1
      isplitl [Hsndt2]; · iexact Hsndt2
      isplitl [Hsndt3]; · iexact Hsndt3
      isplitl [Hsndt4]; · iexact Hsndt4
      iexact Hsndt5
  isplitl [Hrcvf0 Hrcvf1 Hrcvf2 Hrcvf3 Hrcvf4 Hrcvf5]
  · isplitl [Hrcvf0]; · iexact Hrcvf0
    isplitl [Hrcvf1]; · iexact Hrcvf1
    isplitl [Hrcvf2]; · iexact Hrcvf2
    isplitl [Hrcvf3]; · iexact Hrcvf3
    isplitl [Hrcvf4]; · iexact Hrcvf4
    iexact Hrcvf5
  · isplitl [Hrcvt0]; · iexact Hrcvt0
    isplitl [Hrcvt1]; · iexact Hrcvt1
    isplitl [Hrcvt2]; · iexact Hrcvt2
    isplitl [Hrcvt3]; · iexact Hrcvt3
    isplitl [Hrcvt4]; · iexact Hrcvt4
    iexact Hrcvt5

theorem cells_make (Φ : GSem nD τ sig → sProp (MT nD τ sig Unit (Elt F) ℕ UU ℕ)) :
    iprop(Φ (barCell c) ∗ Φ (sendCell false 0 (by decide) c) ∗ Φ (sendCell false 1 (by decide) c) ∗ Φ (sendCell false 2 (by decide) c) ∗ Φ (sendCell false 3 (by decide) c) ∗ Φ (sendCell false 4 (by decide) c) ∗ Φ (sendCell false 5 (by decide) c) ∗ Φ (recvCell false 0 (by decide) c) ∗ Φ (recvCell false 1 (by decide) c) ∗ Φ (recvCell false 2 (by decide) c) ∗ Φ (recvCell false 3 (by decide) c) ∗ Φ (recvCell false 4 (by decide) c) ∗ Φ (recvCell false 5 (by decide) c) ∗ Φ (sendCell true 0 (by decide) c) ∗ Φ (sendCell true 1 (by decide) c) ∗ Φ (sendCell true 2 (by decide) c) ∗ Φ (sendCell true 3 (by decide) c) ∗ Φ (sendCell true 4 (by decide) c) ∗ Φ (sendCell true 5 (by decide) c) ∗ Φ (recvCell true 0 (by decide) c) ∗ Φ (recvCell true 1 (by decide) c) ∗ Φ (recvCell true 2 (by decide) c) ∗ Φ (recvCell true 3 (by decide) c) ∗ Φ (recvCell true 4 (by decide) c) ∗ Φ (recvCell true 5 (by decide) c)) ⊢ bigSep Finset.univ fun k : Fin 25 => Φ (kcell (c, k)) := by
  rw [bigSep_univ_eq_bigSepL (List.finRange 25) (by decide) (by decide)]
  exact .rfl

theorem sems_list : (bigSep Finset.univ fun k : Fin 33 => semVal ((c : Thread nD τ), osem k) 0 : sProp 𝕄) ⊢ iprop(idle c (stS 0) ∗ idle c (stS 1) ∗ idle c (stS 2) ∗ idle c (stS 3) ∗ idle c (ownS 0) ∗ idle c (ownS 1) ∗ idle c (outS 0) ∗ idle c (outS 1) ∗ idle c (outS 2) ∗ idle c (sndS false 0) ∗ idle c (sndS false 1) ∗ idle c (sndS false 2) ∗ idle c (sndS false 3) ∗ idle c (sndS false 4) ∗ idle c (sndS false 5) ∗ idle c (rcvS false 0) ∗ idle c (rcvS false 1) ∗ idle c (rcvS false 2) ∗ idle c (rcvS false 3) ∗ idle c (rcvS false 4) ∗ idle c (rcvS false 5) ∗ idle c (sndS true 0) ∗ idle c (sndS true 1) ∗ idle c (sndS true 2) ∗ idle c (sndS true 3) ∗ idle c (sndS true 4) ∗ idle c (sndS true 5) ∗ idle c (rcvS true 0) ∗ idle c (rcvS true 1) ∗ idle c (rcvS true 2) ∗ idle c (rcvS true 3) ∗ idle c (rcvS true 4) ∗ idle c (rcvS true 5)) := by
  rw [bigSep_univ_eq_bigSepL (List.finRange 33) (by decide) (by decide)]
  exact .rfl

/-- A device's semaphores at launch: those of the copies inside the device, and its cells'. -/
theorem sems_open :
    iprop((bigSep Finset.univ fun k : Fin 33 => semVal ((c : Thread nD τ), osem k) 0) ∗ semVal (barCell c) 0)
      ⊢ (iprop(locals c ∗ bigSep Finset.univ fun k : Fin 25 => semVal (kcell (c, k)) 0) : sProp 𝕄) := by
  unfold locals
  iintro ⟨H, Hbar⟩
  ihave H := (sems_list (F := F) c) $$ H
  icases H with ⟨Hst0, Hst1, Hst2, Hst3, Hown0, Hown1, Hout0, Hout1, Hout2, Hsndf0, Hsndf1, Hsndf2, Hsndf3, Hsndf4, Hsndf5, Hrcvf0, Hrcvf1, Hrcvf2, Hrcvf3, Hrcvf4, Hrcvf5, Hsndt0, Hsndt1, Hsndt2, Hsndt3, Hsndt4, Hsndt5, Hrcvt0, Hrcvt1, Hrcvt2, Hrcvt3, Hrcvt4, Hrcvt5⟩
  isplitl [Hst0 Hst1 Hst2 Hst3 Hown0 Hown1 Hout0 Hout1 Hout2]
  · isplitl [Hst0]; · iexact Hst0
    isplitl [Hst1]; · iexact Hst1
    isplitl [Hst2]; · iexact Hst2
    isplitl [Hst3]; · iexact Hst3
    isplitl [Hown0]; · iexact Hown0
    isplitl [Hown1]; · iexact Hown1
    isplitl [Hout0]; · iexact Hout0
    isplitl [Hout1]; · iexact Hout1
    iexact Hout2
  iapply (cells_make (F := F) c fun g => semVal g 0)
  isplitl [Hbar]; · iexact Hbar
  isplitl [Hsndf0]; · iexact Hsndf0
  isplitl [Hsndf1]; · iexact Hsndf1
  isplitl [Hsndf2]; · iexact Hsndf2
  isplitl [Hsndf3]; · iexact Hsndf3
  isplitl [Hsndf4]; · iexact Hsndf4
  isplitl [Hsndf5]; · iexact Hsndf5
  isplitl [Hrcvf0]; · iexact Hrcvf0
  isplitl [Hrcvf1]; · iexact Hrcvf1
  isplitl [Hrcvf2]; · iexact Hrcvf2
  isplitl [Hrcvf3]; · iexact Hrcvf3
  isplitl [Hrcvf4]; · iexact Hrcvf4
  isplitl [Hrcvf5]; · iexact Hrcvf5
  isplitl [Hsndt0]; · iexact Hsndt0
  isplitl [Hsndt1]; · iexact Hsndt1
  isplitl [Hsndt2]; · iexact Hsndt2
  isplitl [Hsndt3]; · iexact Hsndt3
  isplitl [Hsndt4]; · iexact Hsndt4
  isplitl [Hsndt5]; · iexact Hsndt5
  isplitl [Hrcvt0]; · iexact Hrcvt0
  isplitl [Hrcvt1]; · iexact Hrcvt1
  isplitl [Hrcvt2]; · iexact Hrcvt2
  isplitl [Hrcvt3]; · iexact Hrcvt3
  isplitl [Hrcvt4]; · iexact Hrcvt4
  iexact Hrcvt5

theorem kcell_injective : Function.Injective (kcell : Dev nD × Fin 25 → GSem nD τ sig) := by
  rintro ⟨c, k⟩ ⟨c', k'⟩ h
  have h1 : c = c' := congrArg (fun g : GSem nD τ sig => g.1.1) h
  have h2 : csem k = csem k' := congrArg Prod.snd h
  have h3 : k = k' := (by decide +kernel : ∀ k k' : Fin 25, csem k = csem k' → k = k') k k' h2
  rw [h1, h3]
def ringCells : Finset (GSem nD τ sig) := Finset.univ.map ⟨kcell, kcell_injective⟩

/-- The duties of a device's own cells: one of every cell, a second one of the barrier. -/
abbrev tokOf (ck : Dev nD × (Fin 25 ⊕ Unit)) : GSem nD τ sig × ℕ × Bool := match ck.2 with
  | .inl k => (kcell (ck.1, k), 0, false)
  | .inr _ => (barCell ck.1, 0, true)
theorem tokOf_injective : Function.Injective tokOf := by
  rintro ⟨c, k | u⟩ ⟨c', k' | u'⟩ h
  · have h1 : kcell (c, k) = kcell (c', k') := congrArg Prod.fst h
    have h2 := kcell_injective h1
    cases h2; rfl
  · exact absurd (congrArg (fun x : GSem nD τ sig × ℕ × Bool => x.2.2) h) Bool.false_ne_true
  · exact absurd (congrArg (fun x : GSem nD τ sig × ℕ × Bool => x.2.2) h).symm Bool.false_ne_true
  · have h1 : c = c' := congrArg (fun x : GSem nD τ sig × ℕ × Bool => x.1.1.1) h
    rw [h1]
def ringToks : Finset (GSem nD τ sig × ℕ × Bool) := Finset.univ.map ⟨tokOf, tokOf_injective⟩

/-- The ghost state the launch mints. -/
def u₀ : UU :=
  (initOf (Pipeline.cells cfgs cellOf_inj) (Pipeline.launchToks cfgs cellOf_inj), (initOf ringCells ringToks, 1))

theorem ownU_split (a : UR sig nD τ) (b : UB) : (ownU ((a, (b, 1)) : UU) : sProp 𝕄) ⊢ iprop(BI.own (EP a) ∗ BI.own (ER b)) :=
  BI.own_op_elim ((uEmb (nD := nD) (sig := sig) (Ix := Unit) (Val := Elt F) (Name := ℕ) (U := UU) (Lvl := ℕ)).toEmb.op_of_mem
    (Prod.mk_mem_op (URA.mem_op_one a) (URA.mem_one_op (b, (1 : Counters)))))

/-! ## What one device is dealt, and what it makes of it -/

/-- The tokens of the duties of device `c`'s own cells, -/
def toks : sProp (MT nD τ sig Unit (Elt F) ℕ UU ℕ) :=
  iprop((bigSep Finset.univ fun k : Fin 25 => dutyTok ER (kcell (c, k)) 0 false) ∗ dutyTok ER (barCell c) 0 true)
/-- and of the duties it pays. -/
def payToks : sProp (MT nD τ sig Unit (Elt F) ℕ UU ℕ) :=
  iprop(dutyTok ER (barCell (nb (!false) c)) 0 false ∗ dutyTok ER (barCell (nb (!true) c)) 0 true
    ∗ (bigSep Finset.univ fun b : Bool => bigSep Finset.univ fun j : Fin 6 => dutyTok ER (sendCell b j.val j.isLt c) 0 false)
    ∗ (bigSep Finset.univ fun b : Bool => bigSep Finset.univ fun j : Fin 6 => dutyTok ER (recvCell b j.val j.isLt (nb b c)) 0 false))

/-- Every device's share of the launch element, -/
def G : sProp (MT nD τ sig Unit (Elt F) ℕ UU ℕ) :=
  iprop((bigSep Finset.univ fun k : Fin 25 => roundState ER (sched m) (kcell (c, k)) 0)
    ∗ (bigSep Finset.univ fun k : Fin 25 => atPos ER (kcell (c, k)) 0 ∅ 0)
    ∗ (bigSep Finset.univ fun k : Fin 25 => reached ER (kcell (c, k)) 0) ∗ toks c)

/-- every cell's record, -/
def records : sProp (MT nD τ sig Unit (Elt F) ℕ UU ℕ) := bigSep Finset.univ fun ck : Dev nD × Fin 25 => record m (kcell ck)
instance records_persistent : BI.Persistent (records m) := by unfold records; infer_instance

/-- and what a device starts from. -/
def G' : sProp (MT nD τ sig Unit (Elt F) ℕ UU ℕ) :=
  iprop(records m ∗ (bigSep Finset.univ fun k : Fin 25 => atPos ER (kcell (c, k)) 0 ∅ 0) ∗ payToks c ∗ locals c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Fin 25 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    refine bigSep_congr fun c _ => ?_
    rw [bigSep_univ_sum]
    unfold toks
    refine congrArg (fun P : sProp 𝕄 => iprop((bigSep Finset.univ fun k : Fin 25 => dutyTok ER (kcell (c, k)) 0 false) ∗ P)) ?_
    exact bigSep_univ_eq_bigSepL [()] (by decide) (by decide) _
  iintro HX
  imod (Rounds.fund ER (sched m) ringCells ringToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat']; · iexact Hat'
  isplitl [Hr']; · iexact Hr'
  iexact Htok'

theorem unscopedSems0_eq : (unscopedSems0 c : sProp 𝕄) = semVal (barCell c) 0 := by
  unfold unscopedSems0; rw [bigSep_eq_bigSepL_of_eq [SemLoc.reg barrier0] (by decide +kernel) (by decide)]; rfl

/-- One device's cells set up: their invariants over the semaphores and round states. -/
theorem core_alloc :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Fin 25 => record m (kcell (c, k)))
          ∗ (bigSep Finset.univ fun k : Fin 25 => atPos ER (kcell (c, k)) 0 ∅ 0) ∗ toks c ∗ locals c) := by
  unfold G
  rw [unscopedSems0_eq]
  unfold Pipeline.ownSems0
  iintro ⟨Hos, Hus, Hst, Hat, Hr, Htok⟩
  ihave Hv := (sems_open (F := F) c) $$ [Hos Hus]
  · isplitl [Hos] <;> iassumption
  icases Hv with ⟨Hl, Hv⟩
  imod (show iprop((bigSep Finset.univ fun k : Fin 25 => semVal (kcell (c, k)) 0) ∗ bigSep Finset.univ fun k : Fin 25 => roundState ER (sched m) (kcell (c, k)) 0)
      ⊢ (|={Set.univ}=> bigSep Finset.univ fun k => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  isplitl [Hinv Hr]
  · unfold record; rw [bigSep_sep']
    isplitl [Hinv] <;> iassumption
  isplitl [Hat]; · iexact Hat
  isplitl [Htok] <;> iassumption

/-! ## The tokens around the mesh -/

/-- A direction's neighbour, as a permutation of the devices. -/
def around (b : Bool) : Dev nD ≃ Dev nD where
  toFun := nb b
  invFun := nb (!b)
  left_inv c := by have h := nb_nb (!b) c; rwa [Bool.not_not] at h
  right_inv c := nb_nb b c

/-- Something of every device and direction is something of every device's neighbour in the direction. -/
theorem around_all (Φ : Bool → Dev nD → sProp (MT nD τ sig Unit (Elt F) ℕ UU ℕ)) :
    (bigSep Finset.univ fun c : Dev nD => bigSep Finset.univ fun b : Bool => Φ b c)
      = bigSep Finset.univ fun c : Dev nD => bigSep Finset.univ fun b : Bool => Φ b (nb b c) := by
  simp only [both]
  rw [bigSep_sep', bigSep_sep', bigSep_univ_equiv (around false) (Φ false), bigSep_univ_equiv (around true) (Φ true)]
  rfl

theorem toks_around : (bigSep Finset.univ fun c : Dev nD => (toks c : sProp 𝕄)) ⊢ bigSep Finset.univ fun c : Dev nD => payToks c := by
  refine BIBase.Entails.trans (bigSep_mono fun c _ => show (toks c : sProp 𝕄) ⊢ iprop(dutyTok ER (barCell c) 0 false ∗ dutyTok ER (barCell c) 0 true
      ∗ (bigSep Finset.univ fun b : Bool => bigSep Finset.univ fun j : Fin 6 => dutyTok ER (sendCell b j.val j.isLt c) 0 false)
      ∗ (bigSep Finset.univ fun b : Bool => bigSep Finset.univ fun j : Fin 6 => dutyTok ER (recvCell b j.val j.isLt c) 0 false)) from ?_) ?_
  · unfold toks
    iintro ⟨H, Ht⟩
    ihave H := (cells_open (F := F) c fun g => dutyTok ER g 0 false) $$ H
    icases H with ⟨H0, H1, H2⟩
    isplitl [H0]; · iexact H0
    isplitl [Ht]; · iexact Ht
    isplitl [H1] <;> iassumption
  · unfold payToks
    rw [bigSep_sep', bigSep_sep', bigSep_sep', bigSep_sep', bigSep_sep', bigSep_sep',
      around_all (F := F) fun b c => bigSep Finset.univ fun j : Fin 6 => dutyTok ER (recvCell b j.val j.isLt c) 0 false,
      bigSep_univ_equiv (around (!false)) (fun c : Dev nD => (dutyTok ER (barCell c) 0 false : sProp 𝕄)),
      bigSep_univ_equiv (around (!true)) (fun c : Dev nD => (dutyTok ER (barCell c) 0 true : sProp 𝕄))]
    exact .rfl

/-- Something shared by all, given to each. -/
theorem share_all {I : Type} [DecidableEq I] {S : Finset I} {R : sProp (MT nD τ sig Unit (Elt F) ℕ UU ℕ)} [BI.Persistent R] {Φ : I → sProp (MT nD τ sig Unit (Elt F) ℕ UU ℕ)} :
    iprop(R ∗ bigSep S Φ) ⊢ bigSep S fun i => iprop(R ∗ Φ i) := by
  rw [bigSep_sep']
  exact sep_mono_left (BI.bigSep_of_persistent S R)

theorem regroup :
    (bigSep Finset.univ fun c : Dev nD => iprop((bigSep Finset.univ fun k : Fin 25 => record m (kcell (c, k)))
          ∗ (bigSep Finset.univ fun k : Fin 25 => atPos ER (kcell (c, k)) 0 ∅ 0) ∗ toks c ∗ locals c) : sProp 𝕄)
      ⊢ bigSep Finset.univ (G' m) := by
  rw [bigSep_sep', bigSep_sep', bigSep_sep', ← bigSep_univ_prod (fun ck : Dev nD × Fin 25 => record m (kcell ck))]
  iintro ⟨#HR, Hat, Htok, Hl⟩
  ihave Htk := (toks_around (F := F)) $$ Htok
  unfold G'
  iapply (share_all (R := records m))
  isplitr
  · unfold records; iexact HR
  · rw [bigSep_sep', bigSep_sep']
    isplitl [Hat]; · iexact Hat
    isplitl [Htk] <;> iassumption

/-- The set-up of all the devices at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credit -/

/-- What all the devices together send device `c`. -/
def comes : CellTallies nD τ sig Unit :=
  (tallyAt (barCell c) () 1 + tallyAt (barCell c) () 1) + ∑ b : Bool, ∑ j : Fin 6, tallyAt (recvCell b j.val j.isLt c) () N

theorem sum_six {A : Type} [AddCommMonoid A] (f : Fin 6 → A) :
    ∑ j : Fin 6, f j = f ⟨0, by decide⟩ + f ⟨1, by decide⟩ + f ⟨2, by decide⟩ + f ⟨3, by decide⟩ + f ⟨4, by decide⟩ + f ⟨5, by decide⟩ := Fin.sum_univ_six f

theorem owed_all : owed c 0 = (tallyAt (barCell (nb true c)) () 1 + tallyAt (barCell (nb false c)) () 1)
    + ∑ b : Bool, ∑ j : Fin 6, tallyAt (recvCell b j.val j.isLt (nb b c)) () N := by
  unfold owed
  rw [show Finset.Ico 0 14 = Finset.range 14 from by rw [Finset.range_eq_Ico]]
  simp only [Finset.sum_range_succ, Finset.sum_range_zero, Fintype.sum_bool, sum_six]
  have e0 : due c 0 = tallyAt (barCell (nb true c)) () 1 := due_bar c true
  have e1 : due c 1 = tallyAt (barCell (nb false c)) () 1 := due_bar c false
  have ef (j : ℕ) (h : j < 6) := due_send c false j h
  have et (j : ℕ) (h : j < 6) := due_send c true j h
  simp only [Bool.false_eq_true, if_false, if_true, Nat.add_zero] at ef et
  have f0 := ef 0 (by decide); have f1 := ef 1 (by decide); have f2 := ef 2 (by decide); have f3 := ef 3 (by decide); have f4 := ef 4 (by decide); have f5 := ef 5 (by decide)
  have t0 := et 0 (by decide); have t1 := et 1 (by decide); have t2 := et 2 (by decide); have t3 := et 3 (by decide); have t4 := et 4 (by decide); have t5 := et 5 (by decide)
  rw [e0, e1, f0, f1, f2, f3, f4, f5, t0, t1, t2, t3, t4, t5]
  ac_rfl

theorem comes_all : (∑ d, owed d 0) = ∑ d, comes d := by
  simp only [owed_all, comes, Finset.sum_add_distrib, Fintype.sum_bool]
  have hs (b : Bool) (f : Dev nD → CellTallies nD τ sig Unit) : ∑ d, f (nb b d) = ∑ d, f d := (around b).sum_comp f
  rw [hs true fun d => tallyAt (barCell d) () 1, hs false fun d => tallyAt (barCell d) () 1,
    hs true fun d => ∑ j : Fin 6, tallyAt (recvCell true j.val j.isLt d) () N,
    hs false fun d => ∑ j : Fin 6, tallyAt (recvCell false j.val j.isLt d) () N]

theorem tally_at {g g' : GSem nD τ sig} {n : ℕ} (h : (tallyAt g () n : CellTallies nD τ sig Unit) g' ≠ 0) : g' = g := by
  by_contra hn
  exact h (Finsupp.ext fun u => by rw [tallyAt_apply, if_neg (fun h => hn h.1)]; rfl)

theorem comes_at (g : GSem nD τ sig) (h : comes c g ≠ 0) : g.1 = (c : Thread nD τ) := by
  by_contra hn
  apply h
  have hb (sm : SemLoc sig) (n : ℕ) : (tallyAt ((c : Thread nD τ), sm) () n : CellTallies nD τ sig Unit) g = 0 := by
    by_contra hz
    exact hn (congrArg Prod.fst (tally_at hz))
  unfold comes
  rw [Pi.add_apply, Pi.add_apply, hb, Finset.sum_apply, Finset.sum_eq_zero (fun b _ => by rw [Finset.sum_apply]; exact Finset.sum_eq_zero fun j _ => hb _ _), add_zero, add_zero]

/-- A device's credit at launch: two units of its barrier, and every arrival. -/
theorem creds : (Pipeline.launchCred (fun d => owed d 0) c : sProp 𝕄)
    ⊢ iprop(cred (tallyAt (barCell c) () 2) ∗ bigSep Finset.univ fun b : Bool => bigSep Finset.univ fun j : Fin 6 => cred (tallyAt (recvCell b j.val j.isLt c) () N)) := by
  rw [Pipeline.launchCred_of_sum _ comes comes_all comes_at c]
  unfold comes
  rw [show (tallyAt (barCell c) () 1 + tallyAt (barCell c) () 1 : CellTallies nD τ sig Unit) = tallyAt (barCell c) () 2 from tallyAt_add _ _ 1 1]
  refine (cred_add _ _).1.trans (sep_mono_right ?_)
  rw [Pipeline.cred_finsetSum]
  exact bigSep_mono fun b _ => Entails.of_eq (Pipeline.cred_finsetSum _ _)

/-- The kits of all the transfers. -/
theorem kits_intro : iprop((bigSep Finset.univ fun k : Fin 25 => atPos ER (kcell (c, k)) 0 ∅ 0)
      ∗ (bigSep Finset.univ fun b : Bool => bigSep Finset.univ fun j : Fin 6 => dutyTok ER (sendCell b j.val j.isLt c) 0 false)
      ∗ (bigSep Finset.univ fun b : Bool => bigSep Finset.univ fun j : Fin 6 => dutyTok ER (recvCell b j.val j.isLt (nb b c)) 0 false)
      ∗ (bigSep Finset.univ fun b : Bool => bigSep Finset.univ fun j : Fin 6 => cred (tallyAt (recvCell b j.val j.isLt c) () N)))
    ⊢ (iprop(atPos ER (barCell c) 0 ∅ 0 ∗ kits c) : sProp 𝕄) := by
  unfold kits sendKit recvKit
  simp only [bigSep_sep']
  iintro ⟨Hat, Hs, Hr, Hc⟩
  ihave Hat := (cells_open (F := F) c fun g => atPos ER g 0 ∅ 0) $$ Hat
  icases Hat with ⟨H0, H1, H2⟩
  isplitl [H0]; · iexact H0
  isplitl [Hs Hr H1]
  · isplitl [Hs]; · iexact Hs
    isplitl [Hr] <;> iassumption
  isplitl [Hc] <;> iassumption

end Cert.Ring

end
-- ==== Proof.Launch.lean ====
/-
The launch of the four devices: the one point of the staging pipeline around the program of `Body`, and the run of the
whole mesh, with what every device's memory holds at its end.
-/
module

public import proofs.«01_k».proof.Proof.Deal
public import Idealize.ShloMosaic.Lib.Pipeline.Launch
public import Idealize.ShloMosaic.Lib.Pipeline.Kit
public import Idealize.ShloMosaic.Lib.Pipeline.CollectiveSegs
public import Idealize.ShloMosaic.Lib.Quiescent
public import Idealize.ShloMosaic.Lib.Tactic

@[expose] public section

noncomputable section

namespace Cert.Ring

open Cert.KernelIdeal Cert.KernelIdeal.Gen Cert.Step

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight Flight_mono)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (c : Dev nD)

/-! ## The pipeline around the program -/

theorem cfg0_N : cfg0.N = 1 := N_0
def tz : Fin cfg0.N := ⟨0, by rw [cfg0_N]; decide⟩
theorem fin_N (t : Fin cfg0.N) : t = tz := by
  have h := cfg0_N
  exact Fin.ext (by have := t.isLt; show t.val = 0; omega)

/-- The two scales as staged, -/
def SX : S1.Idx → Elt F .f32 := (win0_0.blk (0 : Fin 1)).view.read (Elt F) (m ((c : Thread nD τ).loc main_arg2))
def SW : S1.Idx → Elt F .f32 := (win0_1.blk (0 : Fin 1)).view.read (Elt F) (m ((c : Thread nD τ).loc main_arg3))
/-- and their product as the program computes it. -/
def sc : F .f32 := scale (SX m c) (SW m c)

/-- The seven buffers of the program, whatever they hold. -/
def room : sProp (MT nD τ sig Unit (Elt F) ℕ UU ℕ) := iprop(some' c stM ∗ some' c x8M ∗ some' c w8M ∗ some' c acM ∗ some' c osM ∗ some' c (rgM false) ∗ some' c (rgM true))

/-- What the program starts from besides. -/
def start : sProp (MT nD τ sig Unit (Elt F) ℕ UU ℕ) :=
  iprop(ctx m ∗ kits c ∗ dutyTok ER (barCell (nb (!false) c)) 0 false ∗ dutyTok ER (barCell (nb (!true) c)) 0 true
    ∗ cred (tallyAt (barCell c) () 2) ∗ atPos ER (barCell c) 0 ∅ 0 ∗ locals c
    ∗ has c xM fullShare (X m c) ∗ has c wM fullShare (W m c) ∗ some' c outM)

/-- What it ends with: the result, its operands, every semaphore at zero. -/
def final : sProp (MT nD τ sig Unit (Elt F) ℕ UU ℕ) :=
  iprop((has c xM fullShare (X m c) ∗ has c wM fullShare (W m c) ∗ has c outM fullShare (outX m c (sc m c)))
    ∗ (bigSep Finset.univ fun k : Fin 33 => semVal ((c : Thread nD τ), osem k) 0) ∗ semVal (barCell c) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => SX m c
    | ⟨1, _⟩ => SW m c
  Φ t := match t with
    | ⟨0, _⟩ => iprop(start m c ∗ room c)
    | ⟨_ + 1, _⟩ => iprop(final m c ∗ room c)
  q _ := fullShare
  owed t := match t with
    | ⟨0, _⟩ => owed c 0
    | ⟨_ + 1, _⟩ => 0

theorem bigSep_W (Φ : Fin cfg0.W → sProp 𝕄) : bigSep Finset.univ Φ = iprop(Φ 0 ∗ Φ 1) := bigSep_W0 Φ

theorem fetch_0 (t : Fin cfg0.N) : (cfg0.win 0).fetch t = true := by rw [fin_N t]; rfl
theorem fetch_1 (t : Fin cfg0.N) : (cfg0.win 1).fetch t = true := by rw [fin_N t]; rfl

abbrev stg (b : Ref sig .tc) (Y : b.ty.Contents (Elt F)) : sProp (MT nD τ sig Unit (Elt F) ℕ UU ℕ) :=
  iprop(∃ f : Buf (Elt F) ((c : Thread nD τ).loc b), ⌜f = Y⌝ ∗ (((c : Thread nD τ).loc b) ↦{fullShare} f))

def bodyPre : sProp (MT nD τ sig Unit (Elt F) ℕ UU ℕ) :=
  iprop((start m c ∗ room c) ∗ (dats m ρ 0 c).owesAt () tz.castSucc
    ∗ (∃ d, stg c cc0_stg0_0 ((dats m ρ 0 c).before (0 : Fin 2) tz d))
    ∗ (∃ d, stg c cc0_stg1_0 ((dats m ρ 0 c).before (1 : Fin 2) tz d)))

def bodyPost : sProp (MT nD τ sig Unit (Elt F) ℕ UU ℕ) :=
  iprop((final m c ∗ room c) ∗ (dats m ρ 0 c).owesAt () tz.succ ∗ stg c cc0_stg0_0 (SX m c) ∗ stg c cc0_stg1_0 (SW m c))

/-- A whole buffer, held. -/
theorem has_whole {b : Ref sig .tc} {q : PosShare TreeShare} {f : Buf (Elt F) ((c : Thread nD τ).loc b)} :
    (has c (Memref.whole b) q f : sProp 𝕄) = ((((c : Thread nD τ).loc b) ↦{q} f) : sProp 𝕄) := owns_whole (c : Thread nD τ) b q f

set_option maxRecDepth 100000 in
theorem sound_body : bodyPre m ρ c ⊢ run c (on (cc0_body (F := F))) (fun _ => bodyPost m ρ c) := by
  unfold bodyPre start room
  iintro ⟨⟨⟨#Hctx, Hkit, HB0, HB1, HC, HCP, Hloc, Hx, Hw, Ho⟩, Hst, Hx8, Hw8, Hac, Hos, Hr0, Hr1⟩, HD, ⟨%d0, %g0, %hg0, H0⟩, ⟨%d1, %g1, %hg1, H1⟩⟩
  have h0 : g0 = SX m c := by rw [hg0]; unfold Dat.before; rw [if_pos (fetch_0 tz)]; rfl
  have h1 : g1 = SW m c := by rw [hg1]; unfold Dat.before; rw [if_pos (fetch_1 tz)]; rfl
  subst h0
  subst h1
  unfold Dat.owesAt Pipeline.owesWithin
  icases HD with ⟨%Wt, %hWt, HD⟩
  ihave HM0 := (Entails.of_eq (has_whole (F := F) c (b := cc0_stg0_0) (q := fullShare) (f := SX m c)).symm) $$ H0
  ihave HM1 := (Entails.of_eq (has_whole (F := F) c (b := cc0_stg1_0) (q := fullShare) (f := SW m c)).symm) $$ H1
  ihave HD : debt c 0 $$ [HD]
  · unfold debt; iexists Wt; iexact HD
  iapply (body_run m c (SX m c) (SW m c)) $$ Hctx Hx Hw Ho Hst Hx8 Hw8 Hac Hos Hr0 Hr1 HM0 HM1 Hloc Hkit HB0 HB1 HC HCP HD
  iintro Hx Hw Ho Hst Hx8 Hw8 Hac Hos Hr0 Hr1 HM0 HM1 Hsem HCZ HD
  unfold bodyPost final room debt
  icases HD with ⟨%Wt', HD⟩
  isplitl [Hx Hw Ho Hst Hx8 Hw8 Hac Hos Hr0 Hr1 Hsem HCZ]
  · isplitl [Hx Hw Ho Hsem HCZ]
    · isplitl [Hx Hw Ho]
      · isplitl [Hx]; · iexact Hx
        isplitl [Hw]; · iexact Hw
        unfold sc; iexact Ho
      isplitl [Hsem]; · iexact Hsem
      iexact HCZ
    isplitl [Hst]; · iexact Hst
    isplitl [Hx8]; · iexact Hx8
    isplitl [Hw8]; · iexact Hw8
    isplitl [Hac]; · iexact Hac
    isplitl [Hos]; · iexact Hos
    isplitl [Hr0]; · iexact Hr0
    iexact Hr1
  isplitl [HD]
  · unfold Dat.owesAt Pipeline.owesWithin
    iexists Wt'
    isplitr; · ipureintro; exact fun _ _ => Or.inl trivial
    rw [owed_end]
    iexact HD
  isplitl [HM0]
  · iexists _; isplitr; · (ipureintro; rfl)
    iapply (Entails.of_eq (has_whole (F := F) c (b := cc0_stg0_0) (q := fullShare) (f := SX m c))); iexact HM0
  · iexists _; isplitr; · (ipureintro; rfl)
    iapply (Entails.of_eq (has_whole (F := F) c (b := cc0_stg1_0) (q := fullShare) (f := SW m c))); iexact HM1

set_option maxRecDepth 100000 in
theorem body_obligation : BodyObligation (dats (F := F) m ρ 0 c) (defs₀ (F := F)) 𝒱₀ () Set.univ := fun t => by
  rw [fin_N t]
  rw [bigSep_W, bigSep_W]
  simp only [owns_whole_eq]
  exact sound_body m ρ c

/-! ## The launch -/

theorem ownSemFacts : Pipeline.OwnSemFacts cfg0.spec osem := by decide +kernel

theorem share_eq (w : Fin cfg0.W) : (dats m ρ 0 c).share w = fullShare := by unfold Dat.share; split <;> rfl

theorem start_intro :
    iprop(Pipeline.unscopedRestP Pipeline.Prefetch.none cfg0.spec c (fun b => m ((c : Thread nD τ).loc b)) ∗ levAts L lv
        ∗ Pipeline.launchCred (fun d => owed d 0) c ∗ prngReg c (ρ c) ∗ G' m c)
      ⊢ |={Set.univ}=> iprop(start m c ∗ emp) := by
  rw [Pipeline.unscopedRestP_none, unscopedRest0_eq]
  unfold G' payToks
  iintro ⟨⟨Hx, Hw, Ho⟩, #Hlev, Hcr, -, #Hrec, Hat, ⟨HB0, HB1, Hs, Hr⟩, Hl⟩
  ihave Hc := (creds (F := F) c) $$ Hcr
  icases Hc with ⟨HC, Hcs⟩
  ihave Hk := (kits_intro (F := F) c) $$ [Hat Hs Hr Hcs]
  · isplitl [Hat]; · iexact Hat
    isplitl [Hs]; · iexact Hs
    isplitl [Hr] <;> iassumption
  icases Hk with ⟨HCP, Hk⟩
  imodintro
  unfold start ctx
  isplitl
  · isplitr
    · isplitr; · iexact Hlev
      unfold records; iexact Hrec
    isplitl [Hk]; · iexact Hk
    isplitl [HB0]; · iexact HB0
    isplitl [HB1]; · iexact HB1
    isplitl [HC]; · iexact HC
    isplitl [HCP]; · iexact HCP
    isplitl [Hl]; · iexact Hl
    isplitl [Hx]
    · iapply (Entails.of_eq (has_whole (F := F) c (b := main_arg0) (q := fullShare) (f := m ((c : Thread nD τ).loc main_arg0))).symm); iexact Hx
    isplitl [Hw]
    · iapply (Entails.of_eq (has_whole (F := F) c (b := main_arg1) (q := fullShare) (f := m ((c : Thread nD τ).loc main_arg1))).symm); iexact Hw
    iexists _
    iapply (Entails.of_eq (has_whole (F := F) c (b := main_v1) (q := fullShare) (f := m ((c : Thread nD τ).loc main_v1))).symm); iexact Ho
  · iempintro

/-- A buffer whatever it holds, as a window. -/
theorem some_whole {b : Ref sig .tc} : (some' c (Memref.whole b) : sProp 𝕄) = iprop(∃ f : Buf (Elt F) ((c : Thread nD τ).loc b), ((c : Thread nD τ).loc b) ↦{fullShare} f) :=
  congrArg (fun Φ : Buf (Elt F) ((c : Thread nD τ).loc b) → sProp 𝕄 => iprop(∃ f, Φ f)) (funext fun f => owns_whole (c : Thread nD τ) b fullShare f)

theorem room_eq : (room c : sProp 𝕄) = Pipeline.scopedRest cfg0.spec c := by
  rw [scopedRest0_eq]
  unfold room
  have e0 := some_whole (F := F) c (b := cc0_scratch0); have e1 := some_whole (F := F) c (b := cc0_scratch1); have e2 := some_whole (F := F) c (b := cc0_scratch2)
  have e3 := some_whole (F := F) c (b := cc0_scratch3); have e4 := some_whole (F := F) c (b := cc0_scratch4)
  have e5 := some_whole (F := F) c (b := cc0_scratch12); have e6 := some_whole (F := F) c (b := cc0_scratch13)
  rw [← e0, ← e1, ← e2, ← e3, ← e4, ← e5, ← e6]
  rfl

theorem phi0_intro :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = iprop(start m c ∗ room c) from rfl, room_eq]
  iintro ⟨Hs, -, Hr⟩
  isplitl [Hs] <;> iassumption

/-- What the launch's end reads: the three arrays and the barrier. -/
def left : sProp (MT nD τ sig Unit (Elt F) ℕ UU ℕ) :=
  iprop(unscopedSems0 c ∗ (((c : Thread nD τ).loc main_arg0) ↦{fullShare} (m ((c : Thread nD τ).loc main_arg0)))
    ∗ (((c : Thread nD τ).loc main_arg1) ↦{fullShare} (m ((c : Thread nD τ).loc main_arg1)))
    ∗ (((c : Thread nD τ).loc main_v1) ↦{fullShare} (outX m c (sc m c) : Buf (Elt F) ((c : Thread nD τ).loc main_v1))))

theorem phi1_exit :
    (dats m ρ 0 c).Φ (Fin.last cfg0.N) ⊢ iprop(left m c ∗ Pipeline.ownSems0 osem c ∗ Pipeline.scopedRest cfg0.spec c) := by
  rw [show (dats m ρ 0 c).Φ (Fin.last cfg0.N) = iprop(final m c ∗ room c) from rfl, room_eq]
  unfold final left Pipeline.ownSems0
  rw [unscopedSems0_eq]
  iintro ⟨⟨⟨Hx, Hw, Ho⟩, Hsem, Hb⟩, Hr⟩
  isplitl [Hx Hw Ho Hb]
  · isplitl [Hb]; · iexact Hb
    isplitl [Hx]
    · iapply (Entails.of_eq (has_whole (F := F) c (b := main_arg0) (q := fullShare) (f := m ((c : Thread nD τ).loc main_arg0)))); iexact Hx
    isplitl [Hw]
    · iapply (Entails.of_eq (has_whole (F := F) c (b := main_arg1) (q := fullShare) (f := m ((c : Thread nD τ).loc main_arg1)))); iexact Hw
    iapply (Entails.of_eq (has_whole (F := F) c (b := main_v1) (q := fullShare) (f := outX m c (sc m c)))); iexact Ho
  isplitl [Hsem] <;> iassumption

theorem waits : (levAts L lv : sProp 𝕄) ⊢ Pipeline.cellsWaits cfgs (dats m ρ) () 0 c :=
  Pipeline.cellsWaits_intro cfgs (dats m ρ) () 0 c fun w s t => by
    have hlow : ∀ (w : Fin cfg0.W) (s : Fin (cfg0.win w).nbuf), lv ((c : Thread nD τ), .dma ((cfg0.win w).sem s)) () = 0 := by
      intro w s;
      have hn : ∀ (w : Fin cfg0.W) (s : Fin (cfg0.win w).nbuf), ((cfg0.win w).sem s).val < 2 := by decide +kernel
      have h := hn w s
      show (if 29 ≤ ((cfg0.win w).sem s).val then _ else _) = 0
      rw [if_neg (by omega), if_neg (by omega)]
    rcases t with ⟨_ | _, ht⟩
    · exact mayWait c _ 0 0 (le_of_eq (hlow w s)) ⟨fun _ => Nat.one_pos, fun i _ _ _ => by omega⟩
    · show _ ⊢ MayWait _ _ _ (0 : CellTallies nD τ sig Unit)
      rw [← owed_end c]
      exact mayWait c _ 14 0 (le_of_eq (hlow w s)) ⟨fun _ => Nat.one_pos, fun i _ _ _ => by omega⟩

/-- What device `c`'s memory holds at the end: its arguments unchanged, and its result. -/
def Ends (s : MemSt nD τ sig (Elt F)) : Prop :=
  s.mem ((c : Thread nD τ).loc main_arg0) = m ((c : Thread nD τ).loc main_arg0)
    ∧ s.mem ((c : Thread nD τ).loc main_arg1) = m ((c : Thread nD τ).loc main_arg1)
    ∧ s.mem ((c : Thread nD τ).loc main_arg2) = m ((c : Thread nD τ).loc main_arg2)
    ∧ s.mem ((c : Thread nD τ).loc main_arg3) = m ((c : Thread nD τ).loc main_arg3)
    ∧ s.mem ((c : Thread nD τ).loc main_v1) = (outX m c (sc m c) : Buf (Elt F) ((c : Thread nD τ).loc main_v1))

/-- A buffer held is what the memory holds. -/
theorem read_one {ℓ : Loc nD τ sig} {f : Buf (Elt F) ℓ} (s' : Phys nD τ sig (Elt F)) :
    iprop((ℓ ↦{fullShare} f : sProp 𝕄) ∗ SI s') ⊢ iprop(⌜s'.mem.mem ℓ = f⌝ ∗ SI s') := by
  iintro ⟨H, HSI⟩
  icombine HSI H gives %h
  isplitr; · ipureintro; exact Buf.eq_of_forall_mem_univ h
  iexact HSI

theorem read_left (s' : Phys nD τ sig (Elt F)) :
    iprop(left m c ∗ emp ∗ SI s') ⊢ |={Set.univ}=> iprop(⌜(s'.mem.mem ((c : Thread nD τ).loc main_arg0) = m ((c : Thread nD τ).loc main_arg0)
        ∧ s'.mem.mem ((c : Thread nD τ).loc main_arg1) = m ((c : Thread nD τ).loc main_arg1)
        ∧ s'.mem.mem ((c : Thread nD τ).loc main_v1) = (outX m c (sc m c) : Buf (Elt F) ((c : Thread nD τ).loc main_v1)))
      ∧ ∀ sm : SemLoc sig, sm.isScoped .tc = false → s'.mem.sem ((c.tc : Thread nD τ), sm) = 0⌝ ∗ SI s') := by
  unfold left
  iintro ⟨⟨Hu, Hx, Hw, Ho⟩, -, HSI⟩
  ihave H := (read_one (F := F) s') $$ [Hx HSI]
  · isplitl [Hx] <;> iassumption
  icases H with ⟨%hx, HSI⟩
  ihave H := (read_one (F := F) s') $$ [Hw HSI]
  · isplitl [Hw] <;> iassumption
  icases H with ⟨%hw, HSI⟩
  ihave H := (read_one (F := F) s') $$ [Ho HSI]
  · isplitl [Ho] <;> iassumption
  icases H with ⟨%ho, HSI⟩
  imod (Pipeline.unscopedSems0_read (X := unscopedSems0 c) (c := c) fupd_intro s') $$ [Hu HSI] with ⟨%hs, HSI⟩
  · isplitl [Hu] <;> iassumption
  imodintro
  isplitr; · ipureintro; exact ⟨⟨hx, hw, ho⟩, hs⟩
  iexact HSI

set_option maxRecDepth 100000 in
/-- On four devices, for any float values, from any memory with zero counters: every weakly fair execution of the
    program terminates, and at its end every device holds its result, its arguments unchanged, and no semaphore counts. -/
theorem run_main : θ_run defs (onTc (τ := τ) (main (F := F))) (s₀ m ρ) (fun r => (∀ c, Ends m c r.2) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => (body_obligation m ρ c)) (hne := fun w => by fin_cases w <;> exact Nat.succ_pos _) (harr := arr_whole0) (hstage := stage_whole0)
    (hshare := fun c w => share_eq m ρ c w)
    (hdistinct := winFacts0.arr_inj)
    (O₀ := fun d => owed d 0) (howed₀ := fun _ => rfl) (howedN := fun _ => rfl)
    (L := L) (lv := lv) (hL := L_of_ne) (hwaits := fun c => waits m ρ c)
    (G := G m) (G' := G' m) (u₀ := u₀)
    (hu₀ := by
      unfold u₀
      iintro Hu
      ihave H := (ownU_split (F := F) _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := left m) (Z := fun _ => iprop(emp))
    (hX := fun c => start_intro m ρ c) (hin := fun c => phi0_intro m ρ c) (hout := fun c => phi1_exit m ρ c)
    (QY := fun c s => (s.mem ((c : Thread nD τ).loc main_arg0) = m ((c : Thread nD τ).loc main_arg0)
        ∧ s.mem ((c : Thread nD τ).loc main_arg1) = m ((c : Thread nD τ).loc main_arg1)
        ∧ s.mem ((c : Thread nD τ).loc main_v1) = (outX m c (sc m c) : Buf (Elt F) ((c : Thread nD τ).loc main_v1)))
      ∧ ∀ sm : SemLoc sig, sm.isScoped .tc = false → s.sem ((c.tc : Thread nD τ), sm) = 0)
    (hY := fun c s' => read_left m c s')
    (hQ := fun _ h hs => ⟨fun c => ⟨(h c).2.2.1.1, (h c).2.2.1.2.1,
        ((h c).1 0).trans ((dats (F := F) m ρ 0 c).arrAt_in (0 : Fin 2) rfl _), ((h c).1 1).trans ((dats (F := F) m ρ 0 c).arrAt_in (1 : Fin 2) rfl _),
        (h c).2.2.1.2.2⟩, sem_eq_zero hs fun c => (h c).2.2.2⟩)

end Cert.Ring

end
-- ==== Proof.Same.lean ====
/-
The two printed programs, the one for the machine's floats and the one for the reals, are one program over any floats.
-/
module

public import proofs.«01_k».proof.Proof.Gen.Kernel
public import proofs.«01_k».proof.Proof.Gen.KernelIdeal

@[expose] public section

set_option maxRecDepth 100000

namespace Cert.Same

open Idealize.ShloMosaic Idealize.SL.Sem

instance : Cert.Kernel.Facts := Cert.Kernel.Gen.facts
instance : Cert.KernelIdeal.Facts := Cert.KernelIdeal.Gen.facts

variable {F : FTy → Type} [FloatOps F]

/-- One device's body. -/
theorem body : Cert.Kernel.cc0_body (F := F) = Cert.KernelIdeal.cc0_body (F := F) := rfl

/-- The table of bodies: its one label at a time. -/
theorem bodies : Cert.Kernel.defs₀ (F := F) = Cert.KernelIdeal.defs₀ (F := F) := by
  unfold Cert.Kernel.defs₀ Cert.KernelIdeal.defs₀
  congr
  funext l a
  match l, a with
  | ⟨0, _⟩, (t, s) => rfl
  | ⟨_ + 1, h⟩, _ => exact absurd h (by omega)

/-- The whole table, -/
theorem table : Cert.Kernel.defs (F := F) = Cert.KernelIdeal.defs (F := F) :=
  congrArg (Pipeline.defs (Cert.KernelIdeal.pcfgs (F := F))) bodies

/-- and what every device starts with. -/
theorem start : Cert.Kernel.main (F := F) = Cert.KernelIdeal.main (F := F) := rfl

end Cert.Same
-- ==== Proof.Block.lean ====
/-
What one block of the result is over the reals: the product of the block's rows of `x` with the device's columns of
`w`, scaled, through the activation. The device's own rows come as a sum over eight tiles, the others as one product.
-/
module

public import proofs.«01_k».proof.Proof.Windows
public import Idealize.ShloMosaic.Lib.MatmulPlain
public import Idealize.ShloMosaic.PureOps.Ideal.Laws

@[expose] public section

noncomputable section

namespace Cert.Value

open Cert Cert.KernelIdeal Cert.KernelIdeal.Gen Cert.Ring
open Idealize.ShloMosaic Idealize.ShloMosaic.TcCoe Idealize.ShloMosaic.ValueIdx

/-- The activation: `y / (1 + exp (-clip y))`, the clip at the two words the programs name. -/
def act (y : EReal) : EReal :=
  Ideal.div y (Ideal.ofBits .f32 0x3F800000#32
    + Ideal.exp (-(min (Ideal.ofBits .f32 0x42700000#32) (max (Ideal.ofBits .f32 0xC2700000#32) y))))

/-- As the kernel writes it, the exponent being a difference from zero. -/
theorem act_of_sub (y : EReal) : Ideal.div y (Ideal.ofBits .f32 0x3F800000#32
    + Ideal.exp (Ideal.ofBits .f32 0x00000000#32 - min (Ideal.ofBits .f32 0x42700000#32) (max (Ideal.ofBits .f32 0xC2700000#32) y))) = act y := by
  rw [Ideal.ofBits_zero_f32, zero_sub]; rfl

/-- The kernel's reshapes undo those of its steps: of a block of sums, -/
theorem cast_upW (Y : S512x2048.Idx → EReal) (h : S1x512x2048.ShapeCasts S512x2048) : (shapeCast S512x2048 (upW Y) h : S512x2048.Idx → EReal) = Y := by
  funext i; simp only [shapeCast, upW, Step.drop, Shape.reshapeEquiv_reshapeEquiv, Shape.reshapeEquiv_self]
/-- and of a slot of rows. -/
theorem cast_up3 (A : S256x4096.Idx → EReal) (h : S1x256x4096.ShapeCasts S256x4096) : (shapeCast S256x4096 (up3 A) h : S256x4096.Idx → EReal) = A := by
  funext i; simp only [shapeCast, up3, Step.drop, Shape.reshapeEquiv_reshapeEquiv, Shape.reshapeEquiv_self]

/-- A block of the device's own rows, from the finished sums `Y`. -/
theorem own_block (v : EReal) (Y : S512x2048.Idx → EReal) (i : S512x2048.Idx) :
    dnA (k0_pay42 (F := Ideal) v (upW Y)) i = act (Y i * v) := by
  unfold k0_pay42
  rw [cast_upW]
  simp only [shapeCast, dnA, Step.drop, Shape.reshapeEquiv_reshapeEquiv, Shape.reshapeEquiv_self]
  exact act_of_sub _

/-- The kernel's two products are plain ones. -/
theorem tile_dot : dot_S512x512_S512x2048_S512x2048_1_0_0_1_n_n = DotDims.plain 512 512 2048 := rfl
theorem whole_dot : dot_S256x4096_S4096x2048_S256x2048_1_0_0_1_n_n = DotDims.plain 256 4096 2048 := rfl

theorem zero_word {s : Shape} (i : s.Idx) : constant (F := Ideal) s .f32 0x00000000#32 i = 0 := Ideal.ofBits_zero_f32

/-- A block of another device's rows `A`, against all of the device's columns `B`. -/
theorem other_block (v : EReal) (A : S256x4096.Idx → EReal) (B : S4096x2048.Idx → EReal) (r : Fin 256) (l : Fin 2048) :
    dnO (k0_pay44 (F := Ideal) v (up3 A) B) (ix2 r l) = act ((∑ k : Fin 4096, A (ix2 r k) * B (ix2 k l)) * v) := by
  have e : (matmul (F := Ideal) dot_S256x4096_S4096x2048_S256x2048_1_0_0_1_n_n none (φ₁ := .fp8e5m2) (φ₂ := .fp8e5m2) A B (constant S256x2048 .f32 0x00000000#32)) (ix2 r l)
      = ∑ k : Fin 4096, A (ix2 r k) * B (ix2 k l) :=
    (Ideal.matmul_plain_apply (φ₁ := .fp8e5m2) (φ₂ := .fp8e5m2) none A B _ r l).trans (by rw [zero_word, zero_add])
  rw [← e]
  unfold k0_pay44
  rw [cast_up3]
  simp only [shapeCast, dnO, Step.drop, Shape.reshapeEquiv_reshapeEquiv, Shape.reshapeEquiv_self]
  exact act_of_sub _

/-! ## The sum over the tiles -/

variable (m : (ℓ : Loc nD τ sig) → Buf (Elt Ideal) ℓ) (c : Dev nD)

/-- Over the reals the casts to 8 bits change nothing: of `x`, -/
theorem X8_eq (i : S1024x4096.Idx) : X8 m c i = X m c i := rfl
/-- and of `w`'s columns. -/
theorem W8_eq (k : Fin 4096) (l : Fin 2048) (l' : Fin 8192) (hl : l'.val = 2048 * c.val + l.val) : W8 m c (ix2 k l) = W m c (ix2 k l') := by
  show W m c _ = _
  refine congrArg (W m c) (funext fun a => Fin.ext ?_)
  match a with
  | ⟨0, _⟩ => show 0 + 1 * k.val = k.val; omega
  | ⟨1, _⟩ => show 2048 * c.val + 1 * l.val = l'.val; omega

/-- One term of the product of row `r` with column `l`, zero beyond the arrays. -/
def term (r k : ℕ) (l : Fin 2048) : EReal :=
  if h : r < 1024 ∧ k < 4096 then X m c (ix2 ⟨r, h.1⟩ ⟨k, h.2⟩) * W8 m c (ix2 ⟨k, h.2⟩ l) else 0

theorem term_eq (r : Fin 1024) (k : Fin 4096) (l : Fin 2048) : term m c r.val k.val l = X m c (ix2 r k) * W8 m c (ix2 k l) := dif_pos ⟨r.isLt, k.isLt⟩

/-- One tile's product. -/
theorem tile (h t : ℕ) (hh : h ≤ 512) (ht : 512 * t ≤ 3584) (r : Fin 512) (l : Fin 2048) :
    (matmul (F := Ideal) (φ₁ := .fp8e5m2) (φ₂ := .fp8e5m2) dot_S512x512_S512x2048_S512x2048_1_0_0_1_n_n none (xk m c h (512 * t) hh ht) (wk m c (512 * t) ht) (constant S512x2048 .f32 0x00000000#32)) (ix2 r l)
      = ∑ k ∈ Finset.range 512, term m c (h + r.val) (512 * t + k) l := by
  refine (Ideal.matmul_plain_apply (φ₁ := .fp8e5m2) (φ₂ := .fp8e5m2) none _ _ _ r l).trans ?_
  rw [zero_word, zero_add, Finset.sum_range]
  refine Finset.sum_congr rfl fun k _ => ?_
  have hr := r.isLt
  have hk := k.isLt
  refine Eq.trans ?_ (term_eq m c ⟨h + r.val, by omega⟩ ⟨512 * t + k.val, by omega⟩ l).symm
  refine congrArg₂ (· * ·) (congrArg (X m c) (funext fun a => Fin.ext ?_)) (congrArg (W8 m c) (funext fun a => Fin.ext ?_))
  · match a with
    | ⟨0, _⟩ => show h + 1 * r.val = h + r.val; omega
    | ⟨1, _⟩ => show 512 * t + 1 * k.val = 512 * t + k.val; omega
  · match a with
    | ⟨0, _⟩ => show 512 * t + 1 * k.val = 512 * t + k.val; omega
    | ⟨1, _⟩ => show 0 + 1 * l.val = l.val; omega

/-- The accumulator after tile `t`: the sum over the first `512 (t + 1)` terms. -/
theorem sums (h : ℕ) (hh : h ≤ 512) : ∀ (t : ℕ) (ht : t < 8),
    acv m c h hh t ht = upW fun i => ∑ k ∈ Finset.range (512 * (t + 1)), term m c (h + (i 0).val) k (i 1)
  | 0, _ => by
    unfold acv k0_pay8
    refine congrArg (fun Y : S512x2048.Idx → EReal => upW Y) (funext fun i => ?_)
    rw [eq_ix2 i]
    refine (tile m c h 0 hh (by omega) (i 0) (i 1)).trans ?_
    exact Finset.sum_congr rfl fun k _ => by rw [Nat.mul_zero, Nat.zero_add]
  | t + 1, ht => by
    unfold acv k0_pay12
    rw [sums h hh t (by omega), cast_upW]
    refine congrArg (fun Y : S512x2048.Idx → EReal => upW Y) (funext fun i => ?_)
    rw [eq_ix2 i]
    rw [show 512 * (t + 1 + 1) = 512 * (t + 1) + 512 from rfl, Finset.sum_range_add]
    exact congrArg₂ (· + ·) rfl (tile m c h (t + 1) hh (by omega) (i 0) (i 1))

/-- So the device's own rows end as whole products. -/
theorem own_value (v : EReal) (h : ℕ) (hh : h ≤ 512) (r : Fin 512) (l : Fin 2048) :
    dnA (avO m c v h hh) (ix2 r l) = act ((∑ k : Fin 4096, X m c (ix2 ⟨h + r.val, by omega⟩ k) * W8 m c (ix2 k l)) * v) := by
  unfold avO
  rw [sums, own_block, Finset.sum_range]
  refine congrArg (fun s => act (s * v)) (Finset.sum_congr rfl fun k _ => ?_)
  exact term_eq m c ⟨h + r.val, by omega⟩ k l

/-- And those of slot `j` of direction `b` are the rows of the device they come from. -/
theorem other_value (v : EReal) (b : Bool) (j : ℕ) (r : Fin 256) (l : Fin 2048) :
    dnO (av m c v b j) (ix2 r l)
      = act ((∑ k : Fin 4096, X m (orig b c (j / 2 + 1)) (ix2 ⟨row0 b j + r.val, by have := row0_le b j; omega⟩ k) * W8 m c (ix2 k l)) * v) := by
  refine (other_block v (got m b c j) (W8 m c) r l).trans ?_
  refine congrArg (fun s => act (s * v)) (Finset.sum_congr rfl fun k _ => congrArg (· * _) ?_)
  refine congrArg (X m (orig b c (j / 2 + 1))) (funext fun a => Fin.ext ?_)
  match a with
  | ⟨0, _⟩ => show row0 b j + 1 * r.val = row0 b j + r.val; omega
  | ⟨1, _⟩ => show 0 + 1 * k.val = k.val; omega

end Cert.Value

end
-- ==== Proof.Result.lean ====
/-
What a device's share of the result is over the reals, every entry: the blocks it is written in all hold the same
function of the whole arrays, row by row, whichever device a block's rows come from.
-/
module

public import proofs.«01_k».proof.Proof.Block

@[expose] public section

noncomputable section

namespace Cert.Value

open Cert Cert.KernelIdeal Cert.KernelIdeal.Gen Cert.Ring
open Idealize.ShloMosaic Idealize.ShloMosaic.TcCoe Idealize.ShloMosaic.ValueIdx

/-- The row that the slots of the first direction carry is the row of the whole that their block is stored at: -/
theorem row_right (c : Dev nD) (k : Fin 3) (a : Fin 2) :
    1024 * (((c.val + 3) - k.val) % 4) + 256 * a.val
      = 1024 * (orig false c ((2 * k.val + a.val) / 2 + 1)).val + row0 false (2 * k.val + a.val) := by
  revert c k a; decide
/-- and likewise of the second. -/
theorem row_left (c : Dev nD) (k : Fin 3) (a : Fin 2) :
    1024 * ((c.val + k.val + 1) % 4) + 256 * a.val + 512
      = 1024 * (orig true c ((2 * k.val + a.val) / 2 + 1)).val + row0 true (2 * k.val + a.val) := by
  revert c k a; decide

variable (m : (ℓ : Loc nD τ sig) → Buf (Elt Ideal) ℓ) (c : Dev nD) (v : EReal)
variable {A : Fin 4096 → Fin 4096 → EReal} {B : Fin 4096 → Fin 8192 → EReal}
variable (hA : ∀ (p : Dev nD) (r : Fin 1024) (k n : Fin 4096), n.val = 1024 * p.val + r.val → X m p (ix2 r k) = A n k)
variable (hB : ∀ (k : Fin 4096) (l : Fin 8192), W m c (ix2 k l) = B k l)

include hA hB

/-- Row `r` of device `p` against a column of this device is row `n` of the whole against a column of the whole. -/
theorem product_eq (p : Dev nD) (r : Fin 1024) (l : Fin 2048) (n : Fin 4096) (l' : Fin 8192) (hn : n.val = 1024 * p.val + r.val) (hl : l'.val = 2048 * c.val + l.val) :
    (∑ k : Fin 4096, X m p (ix2 r k) * W8 m c (ix2 k l)) = ∑ k : Fin 4096, A n k * B k l' :=
  Finset.sum_congr rfl fun k _ => by rw [hA p r k n hn, W8_eq m c k l l' hl, hB]

/-- Every entry of every block. -/
theorem piece_value (l' : Fin 8192) : ∀ (t : OT) (j : (outR c t).shape.Idx) (n : Fin 4096) (l : Fin 2048),
    n.val = (outR c t).off 0 + (j 0).val → l.val = (outR c t).off 1 + (j 1).val → l'.val = 2048 * c.val + l.val →
    outV m c v t j = act ((∑ k : Fin 4096, A n k * B k l') * v)
  | .inl 0, j, n, l, hn, hl, hl' => by
    have e := k0_off9_eq c 0
    replace hn : n.val = k0_off9 c (BitVec.ofNat 32 (512 * (0 : Fin 2).val)) 0 + (j 0).val := hn
    replace hl : l.val = k0_off9 c (BitVec.ofNat 32 (512 * (0 : Fin 2).val)) 1 + (j 1).val := hl
    rw [e] at hn hl
    replace hn : n.val = 1024 * c.val + 512 * 0 + (j 0).val := hn
    replace hl : l.val = 0 + (j 1).val := hl
    rw [show j = ix2 (j 0 : Fin 512) (j 1 : Fin 2048) from eq_ix2 j]
    refine (own_value m c v 0 _ (j 0) (j 1)).trans (congrArg (fun s => act (s * v)) (product_eq m c hA hB c _ _ n l' ?_ ?_))
    · show n.val = 1024 * c.val + (0 + (j 0).val); omega
    · omega
  | .inl 1, j, n, l, hn, hl, hl' => by
    have e := k0_off9_eq c 1
    replace hn : n.val = k0_off9 c (BitVec.ofNat 32 (512 * (1 : Fin 2).val)) 0 + (j 0).val := hn
    replace hl : l.val = k0_off9 c (BitVec.ofNat 32 (512 * (1 : Fin 2).val)) 1 + (j 1).val := hl
    rw [e] at hn hl
    replace hn : n.val = 1024 * c.val + 512 * 1 + (j 0).val := hn
    replace hl : l.val = 0 + (j 1).val := hl
    rw [show j = ix2 (j 0 : Fin 512) (j 1 : Fin 2048) from eq_ix2 j]
    refine (own_value m c v 512 _ (j 0) (j 1)).trans (congrArg (fun s => act (s * v)) (product_eq m c hA hB c _ _ n l' ?_ ?_))
    · show n.val = 1024 * c.val + (512 + (j 0).val); omega
    · omega
  | .inr (false, k, a), j, n, l, hn, hl, hl' => by
    have e := k0_off10_eq c k a
    replace hn : n.val = k0_off10 c (BitVec.ofNat 32 (1 + k.val)) (BitVec.ofNat 32 (256 * a.val)) 0 + (j 0).val := hn
    replace hl : l.val = k0_off10 c (BitVec.ofNat 32 (1 + k.val)) (BitVec.ofNat 32 (256 * a.val)) 1 + (j 1).val := hl
    rw [e] at hn hl
    replace hn : n.val = 1024 * (((c.val + 3) - k.val) % 4) + 256 * a.val + (j 0).val := hn
    replace hl : l.val = 0 + (j 1).val := hl
    rw [row_right] at hn
    rw [show j = ix2 (j 0 : Fin 256) (j 1 : Fin 2048) from eq_ix2 j]
    refine (other_value m c v false (2 * k.val + a.val) (j 0) (j 1)).trans (congrArg (fun s => act (s * v)) (product_eq m c hA hB _ _ _ n l' ?_ ?_))
    · exact hn.trans (Nat.add_assoc _ _ _)
    · omega
  | .inr (true, k, a), j, n, l, hn, hl, hl' => by
    have e := k0_off11_eq c k a
    replace hn : n.val = k0_off11 c (BitVec.ofNat 32 (1 + k.val)) (BitVec.ofNat 32 (256 * a.val)) 0 + (j 0).val := hn
    replace hl : l.val = k0_off11 c (BitVec.ofNat 32 (1 + k.val)) (BitVec.ofNat 32 (256 * a.val)) 1 + (j 1).val := hl
    rw [e] at hn hl
    replace hn : n.val = 1024 * ((c.val + k.val + 1) % 4) + 256 * a.val + 512 + (j 0).val := hn
    replace hl : l.val = 0 + (j 1).val := hl
    rw [row_left] at hn
    rw [show j = ix2 (j 0 : Fin 256) (j 1 : Fin 2048) from eq_ix2 j]
    refine (other_value m c v true (2 * k.val + a.val) (j 0) (j 1)).trans (congrArg (fun s => act (s * v)) (product_eq m c hA hB _ _ _ n l' ?_ ?_))
    · exact hn.trans (Nat.add_assoc _ _ _)
    · omega

/-- So every entry of the device's share. -/
theorem share_value (i : S4096x2048.Idx) (l' : Fin 8192) (hl' : l'.val = 2048 * c.val + (i 1).val) :
    outX m c v i = act ((∑ k : Fin 4096, A (i 0) k * B k l') * v) := by
  obtain ⟨j, hj⟩ := (out_tiled c).find i
  generalize outK c (i 0).val = t at j hj
  have hv : outX m c v i = outV m c v t j := by rw [← hj]; exact glue_at (out_tiled c) (outV m c v) t j
  rw [hv]
  refine piece_value m c v hA hB l' t j (i 0) (i 1) ?_ ?_ hl'
  · rw [← hj, Rect.emb_apply, outR_stride, Nat.one_mul]
  · rw [← hj, Rect.emb_apply, outR_stride, Nat.one_mul]

end Cert.Value

end
-- ==== Proof.Algebraic.lean ====
/-
The kernel and the reference compute one function over the reals: the reference's term at an entry, and the kernel's
share of it.
-/
module

public import proofs.«01_k».proof.Defs
public import proofs.«01_k».proof.Proof.Gen.KernelIdeal
public import proofs.«01_k».proof.Proof.Gen.ReferenceIdeal
public import proofs.«01_k».proof.Proof.Gen.ReferenceIdeal.Run
public import proofs.«01_k».proof.Proof.Launch
public import proofs.«01_k».proof.Proof.Result
public import Idealize.ShloMosaic.Lib.Layout
public import Idealize.ShloMosaic.Lib.StackMember

@[expose] public section

noncomputable section

namespace Cert.Value

open Idealize.ShloMosaic Idealize.ShloMosaic.TcCoe Idealize.ShloMosaic.ValueIdx Idealize.SL.Sem

/-- There is one index of a single number. -/
theorem one_idx (i j : KernelIdeal.S1.Idx) : i = j := funext fun a => Fin.ext (by
  have hi : (i a).val < 1 := (i a).isLt.trans_le (by match a with | ⟨0, _⟩ => exact le_refl 1)
  have hj : (j a).val < 1 := (j a).isLt.trans_le (by match a with | ⟨0, _⟩ => exact le_refl 1)
  omega)

section Reference

open Cert.ReferenceIdeal Cert.ReferenceIdeal.Gen

variable (x : S4096x4096.Idx → EReal) (w : S4096x8192.Idx → EReal) (sx sw : S1.Idx → EReal)

/-- The reference's scaled product, -/
def scaled : FVec Ideal S4096x8192 .f32 :=
  mulf (Host.dotGeneral (φ₁ := .f32) (φ₂ := .f32) dot_S4096x4096_S4096x8192_S4096x8192_1_0_0_1_n_n none (x : FVec Ideal S4096x4096 .f32) (w : FVec Ideal S4096x8192 .f32))
    (broadcastInDim S4096x8192 ![0, 1] bcast_S1x1_S4096x8192_0_1 (broadcastInDim S1x1 ![1] bcast_S1_S1x1_1 (mulf (sx : FVec Ideal S1 .f32) sw)))

/-- and its result, as it writes them. -/
def refTerm : FVec Ideal S4096x8192 .f32 :=
  Host.divf (scaled x w sx sw) (addf (broadcastInDim S4096x8192 ![] bcast_S_S4096x8192 (constant S_ .f32 0x3F800000#32)) (Host.exp (Host.negf
    (minimumf (broadcastInDim S4096x8192 ![] bcast_S_S4096x8192 (id (constant S_ .f32 0x42700000#32)))
      (maximumf (broadcastInDim S4096x8192 ![] bcast_S_S4096x8192 (id (constant S_ .f32 0xC2700000#32))) (scaled x w sx sw))))))

theorem ref_dot : dot_S4096x4096_S4096x8192_S4096x8192_1_0_0_1_n_n = DotDims.plain 4096 4096 8192 := rfl

/-- The result at an entry: the activation of the scaled product there. -/
theorem refTerm_apply (n : Fin 4096) (l : Fin 8192) (u : S1.Idx) :
    refTerm x w sx sw (ix2 n l) = act ((∑ k : Fin 4096, x (ix2 n k) * w (ix2 k l)) * (sx u * sw u)) := by
  have hy : scaled x w sx sw (ix2 n l) = (∑ k : Fin 4096, x (ix2 n k) * w (ix2 k l)) * (sx u * sw u) := by
    refine congrArg₂ (· * ·) (StackMember.dotGeneral_plain_apply (φ₁ := .f32) (φ₂ := .f32) none x w n l) ?_
    exact congrArg (fun i => sx i * sw i) (one_idx _ u)
  rw [← hy]
  rfl

end Reference

open Cert.KernelIdeal Cert.KernelIdeal.Gen Cert.Ring

variable (m : (ℓ : Loc nD τ sig) → Buf (Elt Ideal) ℓ) (c : Dev nD)

/-- The kernel's scale is the product of the two numbers. -/
theorem scale_value (u : S1.Idx) : sc m c = (fun a b : EReal => a * b) (m ((c : Thread nD τ).loc main_arg2) u) (m ((c : Thread nD τ).loc main_arg3) u) := by
  refine congrArg₂ (fun a b : EReal => a * b) ?_ ?_
  · exact congrArg (m ((c : Thread nD τ).loc main_arg2)) (one_idx _ u)
  · exact congrArg (m ((c : Thread nD τ).loc main_arg3)) (one_idx _ u)

/-- From the arrays' shares, every entry of the device's result is the reference's entry. -/
theorem kernel_value (x : ReferenceIdeal.S4096x4096.Idx → EReal) (w : S4096x8192.Idx → EReal) (sx sw : S1.Idx → EReal) (u : S1.Idx)
    (hx : ∀ (p : Dev nD) (r : Fin 1024) (k n : Fin 4096), n.val = 1024 * p.val + r.val → X m p (ix2 r k) = x (ix2 n k))
    (hw : ∀ (k : Fin 4096) (l : Fin 8192), W m c (ix2 k l) = w (ix2 k l))
    (h2 : m ((c : Thread nD τ).loc main_arg2) u = sx u) (h3 : m ((c : Thread nD τ).loc main_arg3) u = sw u)
    (i : S4096x2048.Idx) (l : Fin 8192) (hl : l.val = 2048 * c.val + (i 1).val) :
    outX m c (sc m c) i = refTerm x w sx sw (ix2 (i 0) l) := by
  have hs : sc m c = sx u * sw u := (scale_value m c u).trans (congrArg₂ (fun a b : EReal => a * b) h2 h3)
  rw [refTerm_apply x w sx sw (i 0) l u, ← hs]
  exact share_value m c (sc m c) (A := fun n k => x (ix2 n k)) (B := fun k l => w (ix2 k l)) hx hw i l hl

end Cert.Value

namespace Cert.Proof

open Idealize.ShloMosaic Idealize.ShloMosaic.TcCoe Idealize.ShloMosaic.ValueIdx Idealize.SL.Sem Cert.Value Cert.Ring

/-- Every device's share of the reference's result is what the kernel leaves there. -/
theorem algebraic : Cert.algebraic_KernelIdeal_ReferenceIdeal (hKernelIdeal := Cert.KernelIdeal.Gen.facts) (hReferenceIdeal := Cert.ReferenceIdeal.Gen.facts) := by
  intro m g m' g' _ hm
  obtain ⟨u⟩ : Nonempty KernelIdeal.S1.Idx := ⟨Shape.Idx.first (by decide)⟩
  refine ⟨refTerm (m' ((0 : Dev Cert.ReferenceIdeal.nD).tc.loc Cert.ReferenceIdeal.main_arg0)) (m' ((0 : Dev Cert.ReferenceIdeal.nD).tc.loc Cert.ReferenceIdeal.main_arg1))
      (m' ((0 : Dev Cert.ReferenceIdeal.nD).tc.loc Cert.ReferenceIdeal.main_arg2)) (m' ((0 : Dev Cert.ReferenceIdeal.nD).tc.loc Cert.ReferenceIdeal.main_arg3)), ?_, ?_⟩
  · refine (θ_run Cert.KernelIdeal.defs _ _).mono (fun r h c => ?_) (run_main (F := Ideal) m g)
    obtain ⟨h0, h1, h2, h3, h4⟩ := h.1 c
    refine ⟨h4.trans (funext fun i => ?_), h0, h1, h2, h3⟩
    have hi := (i 1).isLt
    have hc := c.isLt
    replace hi : (i 1).val < 2048 := hi
    replace hc : c.val < 4 := hc
    have hl : 2048 * c.val + (i 1).val < 8192 := by omega
    rw [Layout.block_apply]
    have e : Layout.Tiles.idx (S := ⟨2, ![4096, 2048]⟩) (T := ⟨2, ![4096, 8192]⟩) (a := 1) (k := 4) (by decide) c i = ix2 (i 0 : Fin 4096) (⟨2048 * c.val + (i 1).val, hl⟩ : Fin 8192) := by
      funext a
      match a with
      | ⟨0, _⟩ => rfl
      | ⟨1, _⟩ => exact Fin.ext (congrArg (· + (i 1).val) (Nat.mul_comm c.val 2048))
    rw [e]
    refine kernel_value m c _ _ _ _ u ?_ ?_ (congrFun (hm c).2.2.1 u) (congrFun (hm c).2.2.2 u) i ⟨2048 * c.val + (i 1).val, hl⟩ rfl
    · intro p r k n hn
      refine (congrFun (hm p).1 (ix2 r k)).trans ?_
      refine congrArg (m' ((0 : Dev Cert.ReferenceIdeal.nD).tc.loc Cert.ReferenceIdeal.main_arg0)) (funext fun a => ?_)
      match a with
      | ⟨0, _⟩ => exact Fin.ext (by show p.val * 1024 + r.val = n.val; omega)
      | ⟨1, _⟩ => rfl
    · exact fun k l => congrFun (hm c).2.1 (ix2 k l)
  · exact (θ_run Cert.ReferenceIdeal.defs _ _).mono (fun r h => ⟨(h 0).1.trans (by unfold refTerm scaled; rfl), (h 0).2⟩) (Cert.ReferenceIdeal.Value.run (F := Ideal) m' g')

end Cert.Proof

end
-- ==== Proof.lean ====
/-
The certificate's claims about the matrix product spread over four devices: the frames of the kernel at both
instances and of the reference, and that the kernel computes the reference's function over the reals.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Launch
public import proofs.«01_k».proof.Proof.Same
public import proofs.«01_k».proof.Proof.Algebraic

@[expose] public section

noncomputable section

namespace Cert.Proof

open Idealize.ShloMosaic Idealize.SL.Sem

instance : Cert.Kernel.Facts := Cert.Kernel.Gen.facts
instance : Cert.KernelIdeal.Facts := Cert.KernelIdeal.Gen.facts
instance : Cert.ReferenceIdeal.Facts := Cert.ReferenceIdeal.Gen.facts

/-- The frame of the program, whatever its floats are. -/
theorem frame_any {F : FTy → Type} [FloatOps F] (m : (ℓ : Loc Cert.KernelIdeal.nD Cert.KernelIdeal.τ Cert.KernelIdeal.sig) → Buf (Elt F) ℓ) (g : Dev Cert.KernelIdeal.nD → PrngReg) :
    θ_run (Cert.KernelIdeal.defs (F := F)) (onTc (τ := Cert.KernelIdeal.τ) (Cert.KernelIdeal.main (F := F))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0) :=
  (θ_run Cert.KernelIdeal.defs _ _).mono (fun _ h => ⟨fun c => ⟨(h.1 c).1, (h.1 c).2.1, (h.1 c).2.2.1, (h.1 c).2.2.2.1⟩, h.2⟩) (Cert.Ring.run_main (F := F) m g)

/-- The frame of the kernel over the reals. -/
theorem frame_ideal : Cert.quiescent_KernelIdeal := fun m g _ => frame_any (F := Ideal) m g

set_option maxRecDepth 100000 in
/-- The frame of the kernel over the machine's floats: the same program, run at them. -/
theorem frame_kernel : Cert.quiescent_Kernel := fun m g _ => by
  rw [show Cert.Kernel.defs (F := Bits) = Cert.KernelIdeal.defs from Cert.Same.table]
  exact frame_any (F := Bits) m g

/-- The frame of the reference: it declares no semaphore. -/
theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

theorem claim : Cert.Claim := ⟨Cert.Kernel.Gen.facts, Cert.KernelIdeal.Gen.facts, Cert.ReferenceIdeal.Gen.facts,
  frame_kernel, frame_ideal, frame_reference, trivial, algebraic⟩

end Cert.Proof

end
